-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rows_counted [hPre_rows_counted : Cert.Pre_rows_counted.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_counted.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_counted [hPre_rows_counted : Cert.Pre_rows_counted.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_counted.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_rows_counted [hKernel2Ideal : Cert.Kernel2Ideal.Facts] [hPre_rows_counted : Cert.Pre_rows_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows_counted m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_rows_counted [hReference2Ideal : Cert.Reference2Ideal.Facts] [hPre_rows_counted : Cert.Pre_rows_counted.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_counted m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_rows_counted [hKernel2Ideal : Cert.Kernel2Ideal.Facts] [hReference2Ideal : Cert.Reference2Ideal.Facts] [hPre_rows_counted : Cert.Pre_rows_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows_counted m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v257) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_rows_counted : Cert.Pre_rows_counted.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_rows_counted (hKernel2Ideal := hKernel2Ideal) (hPre_rows_counted := hPre_rows_counted)
    ∧ quiescent_Reference2Ideal (hReference2Ideal := hReference2Ideal)
    ∧ quiescent_Reference2Ideal_pre_rows_counted (hReference2Ideal := hReference2Ideal) (hPre_rows_counted := hPre_rows_counted)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_rows_counted (hKernel2Ideal := hKernel2Ideal) (hReference2Ideal := hReference2Ideal) (hPre_rows_counted := hPre_rows_counted)
-- ==== Pre_rows_counted.lean ====
abbrev S557056x128 : Shape := ⟨2, ![557056, 128]⟩
abbrev S1x128 : Shape := ⟨2, ![1, 128]⟩
abbrev S8x1024x3584 : Shape := ⟨3, ![8, 1024, 3584]⟩
abbrev S8x3584x1024 : Shape := ⟨3, ![8, 3584, 1024]⟩
abbrev S1x8 : Shape := ⟨2, ![1, 8]⟩
abbrev S8 : Shape := ⟨1, ![8]⟩
abbrev S_ : Shape := ⟨0, ![]⟩

class Facts : Prop where
  slices_S1x128_S1x8_0_0 : S1x128.Slices ![0, 0] S1x8
  shapeCasts_S1x8_S8 : S1x8.ShapeCasts S8
  bcast_S_S8 : S_.BroadcastsInDim S8 (![] : Fin 0 → Fin S8.rank)

variable [Facts]

def fn {F : FTy → Type} [FloatOps F] (main_arg0 : FVec F S557056x128 .f32) (main_arg1 : FVec F S1x128 .f32) (main_arg2 : FVec F S8x1024x3584 .f32) (main_arg3 : FVec F S8x1024x3584 .f32) (main_arg4 : FVec F S8x3584x1024 .f32) : IVec S8 1 :=
  let main_v0 : FVec F S1x8 .f32 := (extractStridedSlice S1x8 ![0, 0] · slices_S1x128_S1x8_0_0) main_arg1
  let main_v1 : FVec F S8 .f32 := shapeCast S8 main_v0 shapeCasts_S1x8_S8
  let main_cst : FVec F S_ .f32 := constant S_ .f32 0x00000000#32
  let main_v2 : FVec F S8 .f32 := broadcastInDim S8 ![] bcast_S_S8 main_cst
  let main_v3 : IVec S8 1 := cmpf .oge main_v1 main_v2
  let main_cst_0 : FVec F S_ .f32 := constant S_ .f32 0x47800000#32
  let main_v4 : FVec F S8 .f32 := broadcastInDim S8 ![] bcast_S_S8 main_cst_0
  let main_v5 : IVec S8 1 := cmpf .ole main_v1 main_v4
  let main_v6 : IVec S8 1 := andi main_v3 main_v5
  main_v6
-- ==== Kernel.lean ====
abbrev S8x4096x1024 : Shape := ⟨3, ![8, 4096, 1024]⟩
abbrev S1024x2560 : Shape := ⟨2, ![1024, 2560]⟩
abbrev S4x1x512 : Shape := ⟨3, ![4, 1, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S4x512 : Shape := ⟨2, ![4, 512]⟩
abbrev S1x512 : Shape := ⟨2, ![1, 512]⟩
abbrev S8x4096x1536 : Shape := ⟨3, ![8, 4096, 1536]⟩
abbrev S8x4096x512 : Shape := ⟨3, ![8, 4096, 512]⟩
abbrev S1x1024x1024 : Shape := ⟨3, ![1, 1024, 1024]⟩
abbrev S1x1024x1536 : Shape := ⟨3, ![1, 1024, 1536]⟩
abbrev S1x1024x512 : Shape := ⟨3, ![1, 1024, 512]⟩
abbrev S1040x512 : Shape := ⟨2, ![1040, 512]⟩
abbrev S1024x1024 : Shape := ⟨2, ![1024, 1024]⟩
abbrev S8x512 : Shape := ⟨2, ![8, 512]⟩
abbrev S1024x512 : Shape := ⟨2, ![1024, 512]⟩
abbrev S128x8x512 : Shape := ⟨3, ![128, 8, 512]⟩
abbrev S1x8x512 : Shape := ⟨3, ![1, 8, 512]⟩
abbrev S1x8x1 : Shape := ⟨3, ![1, 8, 1]⟩
abbrev S1024 : Shape := ⟨1, ![1024]⟩
abbrev S1024x1 : Shape := ⟨2, ![1024, 1]⟩

abbrev nBuf : Space → Nat
  | .hbm => 47
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024x2560, .f32⟩
  | .hbm, ⟨2, _⟩ => ⟨S4x1x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x64x1x64, .f32⟩
  | .hbm, ⟨18, _⟩ => ⟨S8x1x8x1, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S8x64x1x64, .f32⟩
  | .hbm, ⟨31, _⟩ => ⟨S8x1x8x1, .f32⟩
  | .hbm, ⟨32, _⟩ => ⟨S8x64x8x64, .f32⟩
  | .hbm, ⟨33, _⟩ => ⟨S8x64x8x64, .f32⟩
  | .hbm, ⟨34, _⟩ => ⟨S8x64x8x64, .f32⟩
  | .hbm, ⟨35, _⟩ => ⟨S512x512, .f32⟩
  | .hbm, ⟨36, _⟩ => ⟨S512x1024, .f32⟩
  | .hbm, ⟨37, _⟩ => ⟨S512x1024, .bf16⟩
  | .hbm, ⟨38, _⟩ => ⟨S1024x2560, .bf16⟩
  | .hbm, ⟨39, _⟩ => ⟨S4x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S8x4096x1536, .f32⟩
  | .hbm, ⟨46, _⟩ => ⟨S8x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x2560, .bf16⟩
  | .local _ .vmem, ⟨3, _⟩ => ⟨S4x512, .f32⟩
  | .local _ .vmem, ⟨4, _⟩ => ⟨S1x512, .f32⟩
  | .local _ .vmem, ⟨5, _⟩ => ⟨S512x1024, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x1024x1536, .f32⟩
  | .local _ .vmem, ⟨11, _⟩ => ⟨S1x1024x1536, .f32⟩
  | .local _ .vmem, ⟨12, _⟩ => ⟨S1x1024x512, .bf16⟩
  | .local _ .vmem, ⟨13, _⟩ => ⟨S1x1024x512, .bf16⟩
  | .local _ .vmem, ⟨14, _⟩ => ⟨S1040x512, .f32⟩
  | .local _ .vmem, ⟨15, _⟩ => ⟨S1x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x4096x1024 : Shape := ⟨3, ![8, 4096, 1024]⟩
abbrev S1024x2560 : Shape := ⟨2, ![1024, 2560]⟩
abbrev S4x1x512 : Shape := ⟨3, ![4, 1, 512]⟩
abbrev S512 : Shape := ⟨1, ![512]⟩
abbrev S8x64x64 : Shape := ⟨3, ![8, 64, 64]⟩
abbrev S1024x512 : Shape := ⟨2, ![1024, 512]⟩
abbrev S8x4096x512 : Shape := ⟨3, ![8, 4096, 512]⟩
abbrev S_ : Shape := ⟨0, ![]⟩
abbrev S8x4099x512 : Shape := ⟨3, ![8, 4099, 512]⟩
abbrev S1x1x512 : Shape := ⟨3, ![1, 1, 512]⟩
abbrev S1x512 : Shape := ⟨2, ![1, 512]⟩
abbrev S8x4096x8x64 : Shape := ⟨4, ![8, 4096, 8, 64]⟩
abbrev S8x64x8x4096 : Shape := ⟨4, ![8, 64, 8, 4096]⟩
abbrev S8x512 : Shape := ⟨2, ![8, 512]⟩
abbrev S4096x8x512 : Shape := ⟨3, ![4096, 8, 512]⟩
abbrev S1x8x512 : Shape := ⟨3, ![1, 8, 512]⟩
abbrev S1024x1536 : Shape := ⟨2, ![1024, 1536]⟩
abbrev S8x4096x1536 : Shape := ⟨3, ![8, 4096, 1536]⟩
abbrev S8x4096 : Shape := ⟨2, ![8, 4096]⟩
abbrev S8x4096x1 : Shape := ⟨3, ![8, 4096, 1]⟩

abbrev nBuf : Space → Nat
  | .hbm => 177
  | .vmem => 0
  | .smem => 0
  | _ => 0

abbrev hbmTy0_0 (i : Nat) : BufTy := match i % 128 with
  | 0 => ⟨S8x4096x1024, .f32⟩
  | 1 => ⟨S1024x2560, .f32⟩
  | 2 => ⟨S4x1x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S512, .f32⟩
  | 10 => ⟨S1024x512, .f32⟩
  | 11 => ⟨S8x4096x512, .f32⟩
  | 12 => ⟨S_, .i32⟩
  | 13 => ⟨S_, .f32⟩
  | 14 => ⟨S8x4099x512, .f32⟩
  | 15 => ⟨S1x1x512, .f32⟩
  | 16 => ⟨S1x512, .f32⟩
  | 17 => ⟨S8x4096x512, .f32⟩
  | 18 => ⟨S1x1x512, .f32⟩
  | 19 => ⟨S8x4096x512, .f32⟩
  | 20 => ⟨S8x4096x512, .f32⟩
  | 21 => ⟨S_, .f32⟩
  | 22 => ⟨S8x4096x512, .f32⟩
  | 23 => ⟨S8x4096x512, .f32⟩
  | 24 => ⟨S1x1x512, .f32⟩
  | 25 => ⟨S1x512, .f32⟩
  | 26 => ⟨S8x4096x512, .f32⟩
  | 27 => ⟨S1x1x512, .f32⟩
  | 28 => ⟨S8x4096x512, .f32⟩
  | 29 => ⟨S8x4096x512, .f32⟩
  | 30 => ⟨S8x4096x512, .f32⟩
  | 31 => ⟨S1x1x512, .f32⟩
  | 32 => ⟨S1x512, .f32⟩
  | 33 => ⟨S8x4096x512, .f32⟩
  | 34 => ⟨S1x1x512, .f32⟩
  | 35 => ⟨S8x4096x512, .f32⟩
  | 36 => ⟨S8x4096x512, .f32⟩
  | 37 => ⟨S8x4096x512, .f32⟩
  | 38 => ⟨S1x1x512, .f32⟩
  | 39 => ⟨S1x512, .f32⟩
  | 40 => ⟨S8x4096x512, .f32⟩
  | 41 => ⟨S1x1x512, .f32⟩
  | 42 => ⟨S8x4096x512, .f32⟩
  | 43 => ⟨S8x4096x512, .f32⟩
  | 44 => ⟨S8x4096x512, .f32⟩
  | 45 => ⟨S1x1x512, .f32⟩
  | 46 => ⟨S8x4096x512, .f32⟩
  | 47 => ⟨S8x4096x512, .f32⟩
  | 48 => ⟨S8x4096x8x64, .f32⟩
  | 49 => ⟨S8x64x8x4096, .f32⟩
  | 50 => ⟨S8x4096x8x64, .f32⟩
  | 51 => ⟨S8x4096x512, .f32⟩
  | 52 => ⟨S1x1x512, .f32⟩
  | 53 => ⟨S8x4096x512, .f32⟩
  | 54 => ⟨S8x4096x512, .f32⟩
  | 55 => ⟨S8x4096x512, .f32⟩
  | 56 => ⟨S8x4096x512, .f32⟩
  | 57 => ⟨S_, .f32⟩
  | 58 => ⟨S8x4096x512, .f32⟩
  | 59 => ⟨S8x4096x512, .f32⟩
  | 60 => ⟨S_, .f32⟩
  | 61 => ⟨S8x4096x512, .f32⟩
  | 62 => ⟨S8x4096x512, .f32⟩
  | 63 => ⟨S8x64x8x4096, .f32⟩
  | 64 => ⟨S8x4096x8x64, .f32⟩
  | 65 => ⟨S8x4096x512, .f32⟩
  | 66 => ⟨S1x1x512, .f32⟩
  | 67 => ⟨S8x4096x512, .f32⟩
  | 68 => ⟨S8x4096x512, .f32⟩
  | 69 => ⟨S8x4096x512, .f32⟩
  | 70 => ⟨S8x4096x512, .f32⟩
  | 71 => ⟨S_, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S_, .f32⟩
  | 78 => ⟨S8x4096x512, .f32⟩
  | 79 => ⟨S8x4096x512, .f32⟩
  | 80 => ⟨S512, .f32⟩
  | 81 => ⟨S_, .f32⟩
  | 82 => ⟨S512, .f32⟩
  | 83 => ⟨S512, .f32⟩
  | 84 => ⟨S512, .f32⟩
  | 85 => ⟨S512, .f32⟩
  | 86 => ⟨S512, .i1⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S1x1x512, .f32⟩
  | 96 => ⟨S8x4096x512, .f32⟩
  | 97 => ⟨S8x4096x512, .f32⟩
  | 98 => ⟨S8x4096x512, .f32⟩
  | 99 => ⟨S_, .f32⟩
  | 100 => ⟨S8x4096x512, .f32⟩
  | 101 => ⟨S8x4096x512, .f32⟩
  | 102 => ⟨S8x4096x512, .f32⟩
  | 103 => ⟨S8x4096x512, .f32⟩
  | 104 => ⟨S8x4096x512, .f32⟩
  | 105 => ⟨S8x4096x512, .f32⟩
  | 106 => ⟨S8x4096x512, .f32⟩
  | 107 => ⟨S_, .f32⟩
  | 108 => ⟨S8x512, .f32⟩
  | 109 => ⟨S4096x8x512, .f32⟩
  | 110 => ⟨S4096x8x512, .f32⟩
  | 111 => ⟨S_, .f32⟩
  | 112 => ⟨S4096x8x512, .f32⟩
  | 113 => ⟨S_, .i32⟩
  | 114 => ⟨S4096x8x512, .f32⟩
  | 115 => ⟨S4096x8x512, .f32⟩
  | 116 => ⟨S_, .i32⟩
  | 117 => ⟨S8x512, .f32⟩
  | 118 => ⟨S4096x8x512, .f32⟩
  | 119 => ⟨S_, .i32⟩
  | 120 => ⟨S_, .i1⟩
  | 121 => ⟨S_, .i32⟩
  | 122 => ⟨S_, .i32⟩
  | 123 => ⟨S1x8x512, .f32⟩
  | 124 => ⟨S8x512, .f32⟩
  | 125 => ⟨S_, .i32⟩
  | 126 => ⟨S_, .i32⟩
  | 127 => ⟨S1x8x512, .f32⟩
  | _ => ⟨S8x4096x1024, .f32⟩

abbrev hbmTy0_1 (i : Nat) : BufTy := match i % 128 with
  | 0 => ⟨S8x512, .f32⟩
  | 1 => ⟨S8x512, .f32⟩
  | 2 => ⟨S8x512, .f32⟩
  | 3 => ⟨S1x8x512, .f32⟩
  | 4 => ⟨S_, .i32⟩
  | 5 => ⟨S_, .i32⟩
  | 6 => ⟨S4096x8x512, .f32⟩
  | 7 => ⟨S_, .i32⟩
  | 8 => ⟨S_, .i32⟩
  | 9 => ⟨S1024x1536, .f32⟩
  | 10 => ⟨S8x4096x1536, .f32⟩
  | 11 => ⟨S1024x512, .f32⟩
  | 12 => ⟨S8x4096x512, .f32⟩
  | 13 => ⟨S8x4096x512, .f32⟩
  | 14 => ⟨S8x4096x512, .f32⟩
  | 15 => ⟨S_, .f32⟩
  | 16 => ⟨S8x4096x512, .f32⟩
  | 17 => ⟨S8x4096x512, .f32⟩
  | 18 => ⟨S8x4096x512, .f32⟩
  | 19 => ⟨S_, .f32⟩
  | 20 => ⟨S8x4096x512, .f32⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S_, .f32⟩
  | 27 => ⟨S8x4096x512, .f32⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x512, .f32⟩
  | 44 => ⟨S8x4096x512, .f32⟩
  | 45 => ⟨S1x1x512, .f32⟩
  | 46 => ⟨S8x4096x512, .f32⟩
  | 47 => ⟨S8x4096x512, .f32⟩
  | 48 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_0 : Ref sig .tc := ⟨.hbm, 57, rfl⟩
abbrev main_v44 : Ref sig .tc := ⟨.hbm, 58, rfl⟩
abbrev main_v45 : Ref sig .tc := ⟨.hbm, 59, rfl⟩
abbrev main_cst_1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_2 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_7 : Ref sig .tc := ⟨.hbm, 111, rfl⟩
abbrev main_v78 : Ref sig .tc := ⟨.hbm, 112, rfl⟩
abbrev main_c_8 : Ref sig .tc := ⟨.hbm, 113, rfl⟩
abbrev main_v79_0 : Ref sig .tc := ⟨.hbm, 114, rfl⟩
abbrev main_v79_1 : Ref sig .tc := ⟨.hbm, 115, rfl⟩
abbrev main_v79_2 : Ref sig .tc := ⟨.hbm, 116, rfl⟩
abbrev main_v79_3 : Ref sig .tc := ⟨.hbm, 117, rfl⟩
abbrev main_v79_4 : Ref sig .tc := ⟨.hbm, 118, rfl⟩
abbrev main_while0c_c_20 : Ref sig .tc := ⟨.hbm, 119, rfl⟩
abbrev main_while0c_v113 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_v0 : Ref sig .tc := ⟨.hbm, 123, rfl⟩
abbrev main_while0b_v113 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_v0 : Ref sig .tc := ⟨.hbm, 127, rfl⟩
abbrev main_while0b_v114 : Ref sig .tc := ⟨.hbm, 128, rfl⟩
abbrev main_while0b_v115 : Ref sig .tc := ⟨.hbm, 129, rfl⟩
abbrev main_while0b_v116 : Ref sig .tc := ⟨.hbm, 130, rfl⟩
abbrev main_while0b_call4_v0 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_v117 : Ref sig .tc := ⟨.hbm, 134, rfl⟩
abbrev main_while0b_c_20 : Ref sig .tc := ⟨.hbm, 135, rfl⟩
abbrev main_while0b_v118 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_9 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_10 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_11 : Ref sig .tc := ⟨.hbm, 151, rfl⟩
abbrev main_v92 : Ref sig .tc := ⟨.hbm, 152, rfl⟩
abbrev main_v93 : Ref sig .tc := ⟨.hbm, 153, rfl⟩
abbrev main_cst_12 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_13 : Ref sig .tc := ⟨.hbm, 161, rfl⟩
abbrev main_v100 : Ref sig .tc := ⟨.hbm, 162, rfl⟩
abbrev main_v101 : Ref sig .tc := ⟨.hbm, 163, rfl⟩
abbrev main_cst_14 : Ref sig .tc := ⟨.hbm, 164, rfl⟩
abbrev main_v102 : Ref sig .tc := ⟨.hbm, 165, rfl⟩
abbrev main_v103 : Ref sig .tc := ⟨.hbm, 166, rfl⟩
abbrev main_cst_15 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S557056x128 : Shape := ⟨2, ![557056, 128]⟩
abbrev S1x128 : Shape := ⟨2, ![1, 128]⟩
abbrev S8x1024x3584 : Shape := ⟨3, ![8, 1024, 3584]⟩
abbrev S8x3584x1024 : Shape := ⟨3, ![8, 3584, 1024]⟩
abbrev S1x8 : Shape := ⟨2, ![1, 8]⟩
abbrev S8 : Shape := ⟨1, ![8]⟩
abbrev S_ : Shape := ⟨0, ![]⟩
abbrev S1 : Shape := ⟨1, ![1]⟩
abbrev S136 : Shape := ⟨1, ![136]⟩
abbrev S136x1 : Shape := ⟨2, ![136, 1]⟩
abbrev S136x8 : Shape := ⟨2, ![136, 8]⟩
abbrev S4096x128 : Shape := ⟨2, ![4096, 128]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 95
  | .vmem => 12
  | .smem => 2
  | _ => 0

abbrev bufTy : (tb : Table) → Fin (tcTables nBuf tb) → BufTy
  | .hbm, ⟨0, _⟩ => ⟨S557056x128, .f32⟩
  | .hbm, ⟨1, _⟩ => ⟨S1x128, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S1x8, .f32⟩
  | .hbm, ⟨6, _⟩ => ⟨S8, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S_, .i32⟩
  | .hbm, ⟨37, _⟩ => ⟨S8, .i32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S136, .i32⟩
  | .hbm, ⟨54, _⟩ => ⟨S136x1, .i32⟩
  | .hbm, ⟨55, _⟩ => ⟨S_, .i32⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S8, .i32⟩
  | .hbm, ⟨60, _⟩ => ⟨S_, .i32⟩
  | .hbm, ⟨61, _⟩ => ⟨S8, .i32⟩
  | .hbm, ⟨62, _⟩ => ⟨S8, .i1⟩
  | .hbm, ⟨63, _⟩ => ⟨S8, .i32⟩
  | .hbm, ⟨64, _⟩ => ⟨S8, .i32⟩
  | .hbm, ⟨65, _⟩ => ⟨S_, .i32⟩
  | .hbm, ⟨66, _⟩ => ⟨S8, .i32⟩
  | .hbm, ⟨67, _⟩ => ⟨S8, .i1⟩
  | .hbm, ⟨68, _⟩ => ⟨S8, .i1⟩
  | .hbm, ⟨69, _⟩ => ⟨S_, .i32⟩
  | .hbm, ⟨70, _⟩ => ⟨S8, .i32⟩
  | .hbm, ⟨71, _⟩ => ⟨S8, .i32⟩
  | .hbm, ⟨72, _⟩ => ⟨S8, .i32⟩
  | .hbm, ⟨73, _⟩ => ⟨S1x8, .i32⟩
  | .hbm, ⟨74, _⟩ => ⟨S136x8, .i32⟩
  | .hbm, ⟨75, _⟩ => ⟨S136x8, .i32⟩
  | .hbm, ⟨76, _⟩ => ⟨S136x8, .i1⟩
  | .hbm, ⟨77, _⟩ => ⟨S136x8, .i32⟩
  | .hbm, ⟨78, _⟩ => ⟨S_, .i32⟩
  | .hbm, ⟨79, _⟩ => ⟨S136, .i32⟩
  | .hbm, ⟨80, _⟩ => ⟨S_, .i32⟩
  | .hbm, ⟨81, _⟩ => ⟨S8, .i32⟩
  | .hbm, ⟨82, _⟩ => ⟨S8, .i1⟩
  | .hbm, ⟨83, _⟩ => ⟨S8, .i32⟩
  | .hbm, ⟨84, _⟩ => ⟨S_, .i32⟩
  | .hbm, ⟨85, _⟩ => ⟨S_, .i32⟩
  | .hbm, ⟨86, _⟩ => ⟨S8, .i32⟩
  | .hbm, ⟨87, _⟩ => ⟨S8, .i32⟩
  | .hbm, ⟨88, _⟩ => ⟨S_, .i32⟩
  | .hbm, ⟨89, _⟩ => ⟨S_, .i32⟩
  | .hbm, ⟨90, _⟩ => ⟨S136, .i32⟩
  | .hbm, ⟨91, _⟩ => ⟨S8x1024x3584, .bf16⟩
  | .hbm, ⟨92, _⟩ => ⟨S8x1024x3584, .bf16⟩
  | .hbm, ⟨93, _⟩ => ⟨S8x3584x1024, .bf16⟩
  | .hbm, ⟨94, _⟩ => ⟨S557056x128, .f32⟩
  | .local _ .vmem, ⟨0, _⟩ => ⟨S4096x128, .f32⟩
  | .local _ .vmem, ⟨1, _⟩ => ⟨S4096x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .f32⟩
  | .local _ .vmem, ⟨11, _⟩ => ⟨S512x1024, .bf16⟩
  | .local _ .smem, ⟨0, _⟩ => ⟨S136, .i32⟩
  | .local _ .smem, ⟨1, _⟩ => ⟨S1, .i32⟩
  | _, _ => ⟨S557056x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c : Ref sig .tc := ⟨.hbm, 47, rfl⟩
abbrev main_call2_v6 : Ref sig .tc := ⟨.hbm, 48, rfl⟩
abbrev main_call2_v7 : Ref sig .tc := ⟨.hbm, 49, rfl⟩
abbrev main_call2_c_0 : Ref sig .tc := ⟨.hbm, 50, rfl⟩
abbrev main_call2_v8 : Ref sig .tc := ⟨.hbm, 51, rfl⟩
abbrev main_v13 : Ref sig .tc := ⟨.hbm, 52, rfl⟩
abbrev main_v15 : Ref sig .tc := ⟨.hbm, 53, rfl⟩
abbrev main_v16 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_c : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_0 : Ref sig .tc := ⟨.hbm, 69, rfl⟩
abbrev main_call3_v12 : Ref sig .tc := ⟨.hbm, 70, rfl⟩
abbrev main_call3_v13 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_c_5 : Ref sig .tc := ⟨.hbm, 78, rfl⟩
abbrev main_v23 : Ref sig .tc := ⟨.hbm, 79, rfl⟩
abbrev main_c_6 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_7 : Ref sig .tc := ⟨.hbm, 84, rfl⟩
abbrev main_call4_v0 : Ref sig .tc := ⟨.hbm, 85, rfl⟩
abbrev main_call4_v1 : Ref sig .tc := ⟨.hbm, 86, rfl⟩
abbrev main_v27 : Ref sig .tc := ⟨.hbm, 87, rfl⟩
abbrev main_c_8 : Ref sig .tc := ⟨.hbm, 88, rfl⟩
abbrev main_v28 : Ref sig .tc := ⟨.hbm, 89, rfl⟩
abbrev main_v29 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v30 : Ref sig .tc := ⟨.smem, 0, rfl⟩
abbrev main_v14 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v30.idx, main_v14.idx], fun | 0 => main_v30.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v6 : BitVec 1 := Scalar.cmpi .eq arg1 c1_i32
  let v7 : BitVec 1 := Scalar.andi v1 v6
  let v8 : BitVec 32 := Scalar.extui v7
  let c0_i32_1 : BitVec 32 := 0#32
  let v9 : BitVec 1 := Scalar.cmpi .ne v8 c0_i32_1
  v9

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v10 : BitVec 1 := Scalar.xori v1 v_true
  let arg1 : BitVec 32 := BitVec.ofNat 32 (i 1).val
  let c1_i32_2 : BitVec 32 := 1#32
  let v11 : BitVec 1 := Scalar.cmpi .eq arg1 c1_i32_2
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S557056x128 : Shape := ⟨2, ![557056, 128]⟩
abbrev S1x128 : Shape := ⟨2, ![1, 128]⟩
abbrev S8x1024x3584 : Shape := ⟨3, ![8, 1024, 3584]⟩
abbrev S8x3584x1024 : Shape := ⟨3, ![8, 3584, 1024]⟩
abbrev S136x512x1024 : Shape := ⟨3, ![136, 512, 1024]⟩
abbrev S1x8 : Shape := ⟨2, ![1, 8]⟩
abbrev S8 : Shape := ⟨1, ![8]⟩
abbrev S_ : Shape := ⟨0, ![]⟩
abbrev S136 : Shape := ⟨1, ![136]⟩
abbrev S1x1024x3584 : Shape := ⟨3, ![1, 1024, 3584]⟩
abbrev S1024x3584 : Shape := ⟨2, ![1024, 3584]⟩
abbrev S136x512x3584 : Shape := ⟨3, ![136, 512, 3584]⟩
abbrev S1 : Shape := ⟨1, ![1]⟩
abbrev S136x1x1 : Shape := ⟨3, ![136, 1, 1]⟩
abbrev S1x3584x1024 : Shape := ⟨3, ![1, 3584, 1024]⟩
abbrev S3584x1024 : Shape := ⟨2, ![3584, 1024]⟩

abbrev nBuf : Space → Nat
  | .hbm => 333
  | .vmem => 0
  | .smem => 0
  | _ => 0

abbrev hbmTy0_0 (i : Nat) : BufTy := match i % 128 with
  | 0 => ⟨S557056x128, .f32⟩
  | 1 => ⟨S1x128, .f32⟩
  | 2 => ⟨S8x1024x3584, .f32⟩
  | 3 => ⟨S8x1024x3584, .f32⟩
  | 4 => ⟨S8x3584x1024, .f32⟩
  | 5 => ⟨S136x512x1024, .f32⟩
  | 6 => ⟨S1x8, .f32⟩
  | 7 => ⟨S8, .f32⟩
  | 8 => ⟨S8, .i32⟩
  | 9 => ⟨S_, .i32⟩
  | 10 => ⟨S8, .i32⟩
  | 11 => ⟨S8, .i32⟩
  | 12 => ⟨S_, .i32⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i1⟩
  | 20 => ⟨S8, .i32⟩
  | 21 => ⟨S8, .i32⟩
  | 22 => ⟨S_, .i32⟩
  | 23 => ⟨S8, .i32⟩
  | 24 => ⟨S8, .i1⟩
  | 25 => ⟨S8, .i1⟩
  | 26 => ⟨S_, .i32⟩
  | 27 => ⟨S8, .i32⟩
  | 28 => ⟨S8, .i32⟩
  | 29 => ⟨S8, .i32⟩
  | 30 => ⟨S136, .i32⟩
  | 31 => ⟨S_, .f32⟩
  | 32 => ⟨S136x512x1024, .f32⟩
  | 33 => ⟨S1x1024x3584, .f32⟩
  | 34 => ⟨S1024x3584, .f32⟩
  | 35 => ⟨S136x512x3584, .f32⟩
  | 36 => ⟨S136x512x3584, .f32⟩
  | 37 => ⟨S136x512x3584, .f32⟩
  | 38 => ⟨S_, .f32⟩
  | 39 => ⟨S136x512x3584, .f32⟩
  | 40 => ⟨S136x512x3584, .f32⟩
  | 41 => ⟨S_, .f32⟩
  | 42 => ⟨S136x512x3584, .f32⟩
  | 43 => ⟨S136x512x3584, .f32⟩
  | 44 => ⟨S136x512x3584, .f32⟩
  | 45 => ⟨S1x1024x3584, .f32⟩
  | 46 => ⟨S1024x3584, .f32⟩
  | 47 => ⟨S136x512x3584, .f32⟩
  | 48 => ⟨S136x512x3584, .f32⟩
  | 49 => ⟨S_, .i32⟩
  | 50 => ⟨S136, .i32⟩
  | 51 => ⟨S136, .i1⟩
  | 52 => ⟨S1, .i32⟩
  | 53 => ⟨S_, .i32⟩
  | 54 => ⟨S_, .i32⟩
  | 55 => ⟨S_, .i32⟩
  | 56 => ⟨S136, .i32⟩
  | 57 => ⟨S136, .i1⟩
  | 58 => ⟨S136, .i1⟩
  | 59 => ⟨S1, .i32⟩
  | 60 => ⟨S_, .i32⟩
  | 61 => ⟨S_, .i32⟩
  | 62 => ⟨S_, .i32⟩
  | 63 => ⟨S136x1x1, .i1⟩
  | 64 => ⟨S1x3584x1024, .f32⟩
  | 65 => ⟨S3584x1024, .f32⟩
  | 66 => ⟨S136x512x1024, .f32⟩
  | 67 => ⟨S_, .f32⟩
  | 68 => ⟨S_, .f32⟩
  | 69 => ⟨S136x512x1024, .i1⟩
  | 70 => ⟨S136x512x1024, .f32⟩
  | 71 => ⟨S136x512x1024, .f32⟩
  | 72 => ⟨S136x512x1024, .f32⟩
  | 73 => ⟨S1x1024x3584, .f32⟩
  | 74 => ⟨S1024x3584, .f32⟩
  | 75 => ⟨S136x512x3584, .f32⟩
  | 76 => ⟨S136x512x3584, .f32⟩
  | 77 => ⟨S136x512x3584, .f32⟩
  | 78 => ⟨S_, .f32⟩
  | 79 => ⟨S136x512x3584, .f32⟩
  | 80 => ⟨S136x512x3584, .f32⟩
  | 81 => ⟨S_, .f32⟩
  | 82 => ⟨S136x512x3584, .f32⟩
  | 83 => ⟨S136x512x3584, .f32⟩
  | 84 => ⟨S136x512x3584, .f32⟩
  | 85 => ⟨S1x1024x3584, .f32⟩
  | 86 => ⟨S1024x3584, .f32⟩
  | 87 => ⟨S136x512x3584, .f32⟩
  | 88 => ⟨S136x512x3584, .f32⟩
  | 89 => ⟨S136, .i32⟩
  | 90 => ⟨S136, .i1⟩
  | 91 => ⟨S1, .i32⟩
  | 92 => ⟨S_, .i32⟩
  | 93 => ⟨S_, .i32⟩
  | 94 => ⟨S136, .i32⟩
  | 95 => ⟨S136, .i1⟩
  | 96 => ⟨S136, .i1⟩
  | 97 => ⟨S1, .i32⟩
  | 98 => ⟨S_, .i32⟩
  | 99 => ⟨S_, .i32⟩
  | 100 => ⟨S136x1x1, .i1⟩
  | 101 => ⟨S1x3584x1024, .f32⟩
  | 102 => ⟨S3584x1024, .f32⟩
  | 103 => ⟨S136x512x1024, .f32⟩
  | 104 => ⟨S_, .f32⟩
  | 105 => ⟨S_, .f32⟩
  | 106 => ⟨S136x512x1024, .i1⟩
  | 107 => ⟨S136x512x1024, .f32⟩
  | 108 => ⟨S136x512x1024, .f32⟩
  | 109 => ⟨S136x512x1024, .f32⟩
  | 110 => ⟨S1x1024x3584, .f32⟩
  | 111 => ⟨S1024x3584, .f32⟩
  | 112 => ⟨S136x512x3584, .f32⟩
  | 113 => ⟨S136x512x3584, .f32⟩
  | 114 => ⟨S136x512x3584, .f32⟩
  | 115 => ⟨S_, .f32⟩
  | 116 => ⟨S136x512x3584, .f32⟩
  | 117 => ⟨S136x512x3584, .f32⟩
  | 118 => ⟨S_, .f32⟩
  | 119 => ⟨S136x512x3584, .f32⟩
  | 120 => ⟨S136x512x3584, .f32⟩
  | 121 => ⟨S136x512x3584, .f32⟩
  | 122 => ⟨S1x1024x3584, .f32⟩
  | 123 => ⟨S1024x3584, .f32⟩
  | 124 => ⟨S136x512x3584, .f32⟩
  | 125 => ⟨S136x512x3584, .f32⟩
  | 126 => ⟨S136, .i32⟩
  | 127 => ⟨S136, .i1⟩
  | _ => ⟨S557056x128, .f32⟩

abbrev hbmTy0_1 (i : Nat) : BufTy := match i % 128 with
  | 0 => ⟨S1, .i32⟩
  | 1 => ⟨S_, .i32⟩
  | 2 => ⟨S_, .i32⟩
  | 3 => ⟨S136, .i32⟩
  | 4 => ⟨S136, .i1⟩
  | 5 => ⟨S136, .i1⟩
  | 6 => ⟨S1, .i32⟩
  | 7 => ⟨S_, .i32⟩
  | 8 => ⟨S_, .i32⟩
  | 9 => ⟨S136x1x1, .i1⟩
  | 10 => ⟨S1x3584x1024, .f32⟩
  | 11 => ⟨S3584x1024, .f32⟩
  | 12 => ⟨S136x512x1024, .f32⟩
  | 13 => ⟨S_, .f32⟩
  | 14 => ⟨S_, .f32⟩
  | 15 => ⟨S136x512x1024, .i1⟩
  | 16 => ⟨S136x512x1024, .f32⟩
  | 17 => ⟨S136x512x1024, .f32⟩
  | 18 => ⟨S136x512x1024, .f32⟩
  | 19 => ⟨S1x1024x3584, .f32⟩
  | 20 => ⟨S1024x3584, .f32⟩
  | 21 => ⟨S136x512x3584, .f32⟩
  | 22 => ⟨S136x512x3584, .f32⟩
  | 23 => ⟨S136x512x3584, .f32⟩
  | 24 => ⟨S_, .f32⟩
  | 25 => ⟨S136x512x3584, .f32⟩
  | 26 => ⟨S136x512x3584, .f32⟩
  | 27 => ⟨S_, .f32⟩
  | 28 => ⟨S136x512x3584, .f32⟩
  | 29 => ⟨S136x512x3584, .f32⟩
  | 30 => ⟨S136x512x3584, .f32⟩
  | 31 => ⟨S1x1024x3584, .f32⟩
  | 32 => ⟨S1024x3584, .f32⟩
  | 33 => ⟨S136x512x3584, .f32⟩
  | 34 => ⟨S136x512x3584, .f32⟩
  | 35 => ⟨S136, .i32⟩
  | 36 => ⟨S136, .i1⟩
  | 37 => ⟨S1, .i32⟩
  | 38 => ⟨S_, .i32⟩
  | 39 => ⟨S_, .i32⟩
  | 40 => ⟨S136, .i32⟩
  | 41 => ⟨S136, .i1⟩
  | 42 => ⟨S136, .i1⟩
  | 43 => ⟨S1, .i32⟩
  | 44 => ⟨S_, .i32⟩
  | 45 => ⟨S_, .i32⟩
  | 46 => ⟨S136x1x1, .i1⟩
  | 47 => ⟨S1x3584x1024, .f32⟩
  | 48 => ⟨S3584x1024, .f32⟩
  | 49 => ⟨S136x512x1024, .f32⟩
  | 50 => ⟨S_, .f32⟩
  | 51 => ⟨S_, .f32⟩
  | 52 => ⟨S136x512x1024, .i1⟩
  | 53 => ⟨S136x512x1024, .f32⟩
  | 54 => ⟨S136x512x1024, .f32⟩
  | 55 => ⟨S136x512x1024, .f32⟩
  | 56 => ⟨S1x1024x3584, .f32⟩
  | 57 => ⟨S1024x3584, .f32⟩
  | 58 => ⟨S136x512x3584, .f32⟩
  | 59 => ⟨S136x512x3584, .f32⟩
  | 60 => ⟨S136x512x3584, .f32⟩
  | 61 => ⟨S_, .f32⟩
  | 62 => ⟨S136x512x3584, .f32⟩
  | 63 => ⟨S136x512x3584, .f32⟩
  | 64 => ⟨S_, .f32⟩
  | 65 => ⟨S136x512x3584, .f32⟩
  | 66 => ⟨S136x512x3584, .f32⟩
  | 67 => ⟨S136x512x3584, .f32⟩
  | 68 => ⟨S1x1024x3584, .f32⟩
  | 69 => ⟨S1024x3584, .f32⟩
  | 70 => ⟨S136x512x3584, .f32⟩
  | 71 => ⟨S136x512x3584, .f32⟩
  | 72 => ⟨S136, .i32⟩
  | 73 => ⟨S136, .i1⟩
  | 74 => ⟨S1, .i32⟩
  | 75 => ⟨S_, .i32⟩
  | 76 => ⟨S_, .i32⟩
  | 77 => ⟨S136, .i32⟩
  | 78 => ⟨S136, .i1⟩
  | 79 => ⟨S136, .i1⟩
  | 80 => ⟨S1, .i32⟩
  | 81 => ⟨S_, .i32⟩
  | 82 => ⟨S_, .i32⟩
  | 83 => ⟨S136x1x1, .i1⟩
  | 84 => ⟨S1x3584x1024, .f32⟩
  | 85 => ⟨S3584x1024, .f32⟩
  | 86 => ⟨S136x512x1024, .f32⟩
  | 87 => ⟨S_, .f32⟩
  | 88 => ⟨S_, .f32⟩
  | 89 => ⟨S136x512x1024, .i1⟩
  | 90 => ⟨S136x512x1024, .f32⟩
  | 91 => ⟨S136x512x1024, .f32⟩
  | 92 => ⟨S136x512x1024, .f32⟩
  | 93 => ⟨S1x1024x3584, .f32⟩
  | 94 => ⟨S1024x3584, .f32⟩
  | 95 => ⟨S136x512x3584, .f32⟩
  | 96 => ⟨S136x512x3584, .f32⟩
  | 97 => ⟨S136x512x3584, .f32⟩
  | 98 => ⟨S_, .f32⟩
  | 99 => ⟨S136x512x3584, .f32⟩
  | 100 => ⟨S136x512x3584, .f32⟩
  | 101 => ⟨S_, .f32⟩
  | 102 => ⟨S136x512x3584, .f32⟩
  | 103 => ⟨S136x512x3584, .f32⟩
  | 104 => ⟨S136x512x3584, .f32⟩
  | 105 => ⟨S1x1024x3584, .f32⟩
  | 106 => ⟨S1024x3584, .f32⟩
  | 107 => ⟨S136x512x3584, .f32⟩
  | 108 => ⟨S136x512x3584, .f32⟩
  | 109 => ⟨S136, .i32⟩
  | 110 => ⟨S136, .i1⟩
  | 111 => ⟨S1, .i32⟩
  | 112 => ⟨S_, .i32⟩
  | 113 => ⟨S_, .i32⟩
  | 114 => ⟨S136, .i32⟩
  | 115 => ⟨S136, .i1⟩
  | 116 => ⟨S136, .i1⟩
  | 117 => ⟨S1, .i32⟩
  | 118 => ⟨S_, .i32⟩
  | 119 => ⟨S_, .i32⟩
  | 120 => ⟨S136x1x1, .i1⟩
  | 121 => ⟨S1x3584x1024, .f32⟩
  | 122 => ⟨S3584x1024, .f32⟩
  | 123 => ⟨S136x512x1024, .f32⟩
  | 124 => ⟨S_, .f32⟩
  | 125 => ⟨S_, .f32⟩
  | 126 => ⟨S136x512x1024, .i1⟩
  | 127 => ⟨S136x512x1024, .f32⟩
  | _ => ⟨S557056x128, .f32⟩

abbrev hbmTy0_2 (i : Nat) : BufTy := match i % 128 with
  | 0 => ⟨S136x512x1024, .f32⟩
  | 1 => ⟨S136x512x1024, .f32⟩
  | 2 => ⟨S1x1024x3584, .f32⟩
  | 3 => ⟨S1024x3584, .f32⟩
  | 4 => ⟨S136x512x3584, .f32⟩
  | 5 => ⟨S136x512x3584, .f32⟩
  | 6 => ⟨S136x512x3584, .f32⟩
  | 7 => ⟨S_, .f32⟩
  | 8 => ⟨S136x512x3584, .f32⟩
  | 9 => ⟨S136x512x3584, .f32⟩
  | 10 => ⟨S_, .f32⟩
  | 11 => ⟨S136x512x3584, .f32⟩
  | 12 => ⟨S136x512x3584, .f32⟩
  | 13 => ⟨S136x512x3584, .f32⟩
  | 14 => ⟨S1x1024x3584, .f32⟩
  | 15 => ⟨S1024x3584, .f32⟩
  | 16 => ⟨S136x512x3584, .f32⟩
  | 17 => ⟨S136x512x3584, .f32⟩
  | 18 => ⟨S136, .i32⟩
  | 19 => ⟨S136, .i1⟩
  | 20 => ⟨S1, .i32⟩
  | 21 => ⟨S_, .i32⟩
  | 22 => ⟨S_, .i32⟩
  | 23 => ⟨S136, .i32⟩
  | 24 => ⟨S136, .i1⟩
  | 25 => ⟨S136, .i1⟩
  | 26 => ⟨S1, .i32⟩
  | 27 => ⟨S_, .i32⟩
  | 28 => ⟨S_, .i32⟩
  | 29 => ⟨S136x1x1, .i1⟩
  | 30 => ⟨S1x3584x1024, .f32⟩
  | 31 => ⟨S3584x1024, .f32⟩
  | 32 => ⟨S136x512x1024, .f32⟩
  | 33 => ⟨S_, .f32⟩
  | 34 => ⟨S_, .f32⟩
  | 35 => ⟨S136x512x1024, .i1⟩
  | 36 => ⟨S136x512x1024, .f32⟩
  | 37 => ⟨S136x512x1024, .f32⟩
  | 38 => ⟨S136x512x1024, .f32⟩
  | 39 => ⟨S1x1024x3584, .f32⟩
  | 40 => ⟨S1024x3584, .f32⟩
  | 41 => ⟨S136x512x3584, .f32⟩
  | 42 => ⟨S136x512x3584, .f32⟩
  | 43 => ⟨S136x512x3584, .f32⟩
  | 44 => ⟨S_, .f32⟩
  | 45 => ⟨S136x512x3584, .f32⟩
  | 46 => ⟨S136x512x3584, .f32⟩
  | 47 => ⟨S_, .f32⟩
  | 48 => ⟨S136x512x3584, .f32⟩
  | 49 => ⟨S136x512x3584, .f32⟩
  | 50 => ⟨S136x512x3584, .f32⟩
  | 51 => ⟨S1x1024x3584, .f32⟩
  | 52 => ⟨S1024x3584, .f32⟩
  | 53 => ⟨S136x512x3584, .f32⟩
  | 54 => ⟨S136x512x3584, .f32⟩
  | 55 => ⟨S136, .i32⟩
  | 56 => ⟨S136, .i1⟩
  | 57 => ⟨S1, .i32⟩
  | 58 => ⟨S_, .i32⟩
  | 59 => ⟨S_, .i32⟩
  | 60 => ⟨S136, .i32⟩
  | 61 => ⟨S136, .i1⟩
  | 62 => ⟨S136, .i1⟩
  | 63 => ⟨S1, .i32⟩
  | 64 => ⟨S_, .i32⟩
  | 65 => ⟨S_, .i32⟩
  | 66 => ⟨S136x1x1, .i1⟩
  | 67 => ⟨S1x3584x1024, .f32⟩
  | 68 => ⟨S3584x1024, .f32⟩
  | 69 => ⟨S136x512x1024, .f32⟩
  | 70 => ⟨S_, .f32⟩
  | 71 => ⟨S_, .f32⟩
  | 72 => ⟨S136x512x1024, .i1⟩
  | 73 => ⟨S136x512x1024, .f32⟩
  | 74 => ⟨S136x512x1024, .f32⟩
  | 75 => ⟨S136x512x1024, .f32⟩
  | 76 => ⟨S557056x128, .f32⟩
  | _ => ⟨S557056x128, .f32⟩

abbrev hbmTy (i : Nat) : BufTy := match i / 128 with
  | 0 => hbmTy0_0 i
  | 1 => hbmTy0_1 i
  | 2 => hbmTy0_2 i
  | _ => ⟨S557056x128, .f32⟩

abbrev bufTy : (tb : Table) → Fin (tcTables nBuf tb) → BufTy
  | .hbm, ⟨i, _⟩ => hbmTy i
  | _, _ => ⟨S557056x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_10 : Ref sig .tc := ⟨.hbm, 115, rfl⟩
abbrev main_v76 : Ref sig .tc := ⟨.hbm, 116, rfl⟩
abbrev main_v77 : Ref sig .tc := ⟨.hbm, 117, rfl⟩
abbrev main_cst_11 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_12 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_13 : Ref sig .tc := ⟨.hbm, 152, rfl⟩
abbrev main_v107 : Ref sig .tc := ⟨.hbm, 153, rfl⟩
abbrev main_v108 : Ref sig .tc := ⟨.hbm, 154, rfl⟩
abbrev main_cst_14 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_15 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_16 : Ref sig .tc := ⟨.hbm, 189, rfl⟩
abbrev main_v138 : Ref sig .tc := ⟨.hbm, 190, rfl⟩
abbrev main_v139 : Ref sig .tc := ⟨.hbm, 191, rfl⟩
abbrev main_cst_17 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_18 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_19 : Ref sig .tc := ⟨.hbm, 226, rfl⟩
abbrev main_v169 : Ref sig .tc := ⟨.hbm, 227, rfl⟩
abbrev main_v170 : Ref sig .tc := ⟨.hbm, 228, rfl⟩
abbrev main_cst_20 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_cst_21 : Ref sig .tc := ⟨.hbm, 252, rfl⟩
abbrev main_call6_v0 : Ref sig .tc := ⟨.hbm, 253, rfl⟩
abbrev main_call6_v1 : Ref sig .tc := ⟨.hbm, 254, rfl⟩
abbrev main_call6_v2 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_cst_22 : Ref sig .tc := ⟨.hbm, 263, rfl⟩
abbrev main_v200 : Ref sig .tc := ⟨.hbm, 264, rfl⟩
abbrev main_v201 : Ref sig .tc := ⟨.hbm, 265, rfl⟩
abbrev main_cst_23 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_cst_24 : Ref sig .tc := ⟨.hbm, 289, rfl⟩
abbrev main_call7_v0 : Ref sig .tc := ⟨.hbm, 290, rfl⟩
abbrev main_call7_v1 : Ref sig .tc := ⟨.hbm, 291, rfl⟩
abbrev main_call7_v2 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_cst_25 : Ref sig .tc := ⟨.hbm, 300, rfl⟩
abbrev main_v231 : Ref sig .tc := ⟨.hbm, 301, rfl⟩
abbrev main_v232 : Ref sig .tc := ⟨.hbm, 302, rfl⟩
abbrev main_cst_26 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_cst_27 : Ref sig .tc := ⟨.hbm, 326, rfl⟩
abbrev main_call8_v0 : Ref sig .tc := ⟨.hbm, 327, rfl⟩
abbrev main_call8_v1 : Ref sig .tc := ⟨.hbm, 328, rfl⟩
abbrev main_call8_v2 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩

abbrev nD : Nat := 1
abbrev τ : Topo := Topo.v7x

variable {F : FTy → Type} [FloatOps F]
-- ==== Proof.RunA.lean ====
module

public import proofs.«01_k».proof.Proof.Gen.KernelIdeal.Frame
public import proofs.«01_k».proof.Proof.Gen.KernelIdeal.Skeleton

@[expose] public section

set_option maxRecDepth 65536

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the recurrence starts over (the first chunk of a batch). -/
abbrev zeroAt (i : grid0.Coords) : Prop := (Scalar.cmpi .ne (Scalar.extui (Scalar.cmpi .eq (BitVec.ofNat 32 (i 1).val) 0#32)) 0#32) = 1#1
/-- The body's second branch: the last rows of the chunk before are kept. -/
abbrev keepAt (i : grid0.Coords) : Prop := (Scalar.cmpi .ne (Scalar.extui (Scalar.cmpi .sgt (BitVec.ofNat 32 (i 1).val) 0#32)) 0#32) = 1#1

set_option maxHeartbeats 4000000 in
noncomputable def runA (c : Dev nD) (i : grid0.Coords) (arg2 : Memref sig .tc .vmem S1x1024x1024 .f32) (harg2 : arg2.IsWhole) (arg3 : Memref sig .tc .vmem S1024x2560 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024x1536 .f32) (harg11 : arg11.IsWhole) (arg12 : Memref sig .tc .vmem S1x1024x512 .bf16) (harg12 : arg12.IsWhole) (arg13 : Memref sig .tc .vmem S1040x512 .f32) (harg13 : arg13.IsWhole) (arg14 : Memref sig .tc .vmem S1x512 .f32) (harg14 : arg14.IsWhole) (hc0 : zeroAt i) (hc1 : ¬ keepAt i)
    (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32) :
    Σ' (L11 : List (View.Piece (Elt F) S1x1024x1536 .f32)) (L12 : List (View.Piece (Elt F) S1x1024x512 .bf16)) (L13 : List (View.Piece (Elt F) S1040x512 .f32)), { L14 : List (View.Piece (Elt F) S1x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_proj_rglru i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_proj_rglru_eq_skeleton]; unfold cc0_proj_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d11, %f11, -, H11⟩, ⟨%d12, %f12, -, H12⟩, ⟨%d13, %f13, -, H13⟩, ⟨%d14, %f14, -, H14⟩, Hk⟩
    obtain rfl := harg2.eq_unread g2; obtain rfl := harg3.eq_unread g3; obtain rfl := harg4.eq_unread g4; obtain rfl := harg5.eq_unread g5; obtain rfl := harg6.eq_unread g6; obtain rfl := harg7.eq_unread g7; obtain rfl := harg8.eq_unread g8; obtain rfl := harg9.eq_unread g9; obtain rfl := harg10.eq_unread g10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    iexists _; iexact H14

end Cert.KernelIdeal.Proj
end
-- ==== Proof.RunB.lean ====
module

public import proofs.«01_k».proof.Proof.Gen.KernelIdeal.Frame
public import proofs.«01_k».proof.Proof.RunA

@[expose] public section

set_option maxRecDepth 65536

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer of the convolution's rows holds `T` in its rows 1024 to 1031, whatever the other rows hold. -/
def tailIs (c : Dev nD) (arg13 : Memref sig .tc .vmem S1040x512 .f32) (T : Vec F S8x512 .f32) : sProp 𝕄 :=
  iprop(∃ f, arg13.view.loc (c : Thread nD τ) ↦[arg13.view.set]{fullShare} arg13.view.writes (Elt F) f [⟨Rect.unit ![1024, 0] S8x512.size inb_S1040x512_S8x512_1024_0, T⟩])

set_option maxHeartbeats 4000000 in
noncomputable def runB (c : Dev nD) (i : grid0.Coords) (arg2 : Memref sig .tc .vmem S1x1024x1024 .f32) (harg2 : arg2.IsWhole) (arg3 : Memref sig .tc .vmem S1024x2560 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024x1536 .f32) (harg11 : arg11.IsWhole) (arg12 : Memref sig .tc .vmem S1x1024x512 .bf16) (harg12 : arg12.IsWhole) (arg13 : Memref sig .tc .vmem S1040x512 .f32) (harg13 : arg13.IsWhole) (arg14 : Memref sig .tc .vmem S1x512 .f32) (harg14 : arg14.IsWhole) (hc0 : ¬ zeroAt i) (hc1 : keepAt i)
    (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32) (T : Vec F S8x512 .f32) (x14 : Vec F S1x512 .f32) :
    Σ' (L11 : List (View.Piece (Elt F) S1x1024x1536 .f32)) (L12 : List (View.Piece (Elt F) S1x1024x512 .bf16)) (L13 : List (View.Piece (Elt F) S1040x512 .f32)), { L14 : List (View.Piece (Elt F) S1x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ tailIs c arg13 T ∗ owns (c : Thread nD τ) arg14 fullShare x14
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_proj_rglru i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_proj_rglru_eq_skeleton]; unfold cc0_proj_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns tailIs
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d11, %f11, -, H11⟩, ⟨%d12, %f12, -, H12⟩, ⟨%f13, H13⟩, ⟨%f14, %g14, H14⟩, Hk⟩
    obtain rfl := harg2.eq_unread g2; obtain rfl := harg3.eq_unread g3; obtain rfl := harg4.eq_unread g4; obtain rfl := harg5.eq_unread g5; obtain rfl := harg6.eq_unread g6; obtain rfl := harg7.eq_unread g7; obtain rfl := harg8.eq_unread g8; obtain rfl := harg9.eq_unread g9; obtain rfl := harg10.eq_unread g10; obtain rfl := harg14.eq_unread g14
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    iexists _; iexact H14

end Cert.KernelIdeal.Proj
end
-- ==== Proof.Vals.lean ====
module

public import proofs.«01_k».proof.Proof.Gen.KernelIdeal.Frame
public import proofs.«01_k».proof.Proof.Gen.KernelIdeal.Skeleton

@[expose] public section

set_option maxRecDepth 65536

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

/-! ## The groups of eight rows

The recurrence runs over a chunk of 1024 rows in 128 groups of eight. Within a group the coefficients `A`, `B` are already composed
over the rows before, so a group's rows are `A * carry + B`, the carry being the last row of the group before. -/

/-- Eight rows, a row, and the 128 groups of eight rows. -/
abbrev V8 (F : FTy → Type) := FVec F S8x512 .f32
abbrev V1 (F : FTy → Type) := FVec F S1x512 .f32
abbrev VG (F : FTy → Type) := FVec F S128x8x512 .f32

theorem slices_group (g : ℕ) : S128x8x512.Slices ![g % 128, 0, 0] S1x8x512 :=
  (by decide : ∀ k : Fin 128, S128x8x512.Slices ![k.val, 0, 0] S1x8x512) ⟨g % 128, Nat.mod_lt _ (by decide)⟩

/-- Group `g` of a chunk. -/
def sl (X : VG F) (g : ℕ) : V8 F := shapeCast S8x512 (extractStridedSlice S1x8x512 ![g % 128, 0, 0] X (slices_group g)) shapeCasts_S1x8x512_S8x512
/-- The last row of a group, its first row, and a row in all eight. -/
def row7 (X : V8 F) : V1 F := extractStridedSlice S1x512 ![7, 0] X slices_S8x512_o7_0_S1x512
def row0 (X : V8 F) : V1 F := extractStridedSlice S1x512 ![0, 0] X slices_S8x512_o0_0_S1x512
def bro (X : V1 F) : V8 F := broadcastTo S8x512 X broadcasts_S1x512_S8x512

/-- The rows of group `g`, from the row `h` carried into the chunk. -/
def hs (A B : VG F) (h : V1 F) : ℕ → V8 F
  | 0 => addf (mulf (sl A 0) (bro (addf h (row0 k0_pay32)))) (sl B 0)
  | g + 1 => addf (mulf (sl A (g + 1)) (bro (row7 (hs A B h g)))) (sl B (g + 1))

theorem hs_zero (A B : VG F) (h : V1 F) : hs A B h 0 = addf (mulf (sl A 0) (bro (addf h (row0 k0_pay32)))) (sl B 0) := rfl
theorem hs_succ (A B : VG F) (h : V1 F) (g : ℕ) : hs A B h (g + 1) = addf (mulf (sl A (g + 1)) (bro (row7 (hs A B h g)))) (sl B (g + 1)) := rfl

/-- The gated rows of a chunk before they are normalised, and the reciprocal root mean square of each. -/
def ygate (v17 : FVec F S1024x512 .f32) (A B : VG F) (h : V1 F) : FVec F S1024x512 .f32 :=
  k0_pay197 v17 B (hs A B h 0) (hs A B h 1) (hs A B h 2) (hs A B h 3) (hs A B h 4) (hs A B h 5) (hs A B h 6) (hs A B h 7) (hs A B h 8) (hs A B h 9) (hs A B h 10) (hs A B h 11) (hs A B h 12) (hs A B h 13) (hs A B h 14) (hs A B h 15) (hs A B h 16) (hs A B h 17) (hs A B h 18) (hs A B h 19) (hs A B h 20) (hs A B h 21) (hs A B h 22) (hs A B h 23) (hs A B h 24) (hs A B h 25) (hs A B h 26) (hs A B h 27) (hs A B h 28) (hs A B h 29) (hs A B h 30) (hs A B h 31) (hs A B h 32) (hs A B h 33) (hs A B h 34) (hs A B h 35) (hs A B h 36) (hs A B h 37) (hs A B h 38) (hs A B h 39) (hs A B h 40) (hs A B h 41) (hs A B h 42) (hs A B h 43) (hs A B h 44) (hs A B h 45) (hs A B h 46) (hs A B h 47) (hs A B h 48) (hs A B h 49) (hs A B h 50) (hs A B h 51) (hs A B h 52) (hs A B h 53) (hs A B h 54) (hs A B h 55) (hs A B h 56) (hs A B h 57) (hs A B h 58) (hs A B h 59) (hs A B h 60) (hs A B h 61) (hs A B h 62) (hs A B h 63) (hs A B h 64) (hs A B h 65) (hs A B h 66) (hs A B h 67) (hs A B h 68) (hs A B h 69) (hs A B h 70) (hs A B h 71) (hs A B h 72) (hs A B h 73) (hs A B h 74) (hs A B h 75) (hs A B h 76) (hs A B h 77) (hs A B h 78) (hs A B h 79) (hs A B h 80) (hs A B h 81) (hs A B h 82) (hs A B h 83) (hs A B h 84) (hs A B h 85) (hs A B h 86) (hs A B h 87) (hs A B h 88) (hs A B h 89) (hs A B h 90) (hs A B h 91) (hs A B h 92) (hs A B h 93) (hs A B h 94) (hs A B h 95) (hs A B h 96) (hs A B h 97) (hs A B h 98) (hs A B h 99) (hs A B h 100) (hs A B h 101) (hs A B h 102) (hs A B h 103) (hs A B h 104) (hs A B h 105) (hs A B h 106) (hs A B h 107) (hs A B h 108) (hs A B h 109) (hs A B h 110) (hs A B h 111) (hs A B h 112) (hs A B h 113) (hs A B h 114) (hs A B h 115) (hs A B h 116) (hs A B h 117) (hs A B h 118) (hs A B h 119) (hs A B h 120) (hs A B h 121) (hs A B h 122) (hs A B h 123) (hs A B h 124) (hs A B h 125) (hs A B h 126) (row7 (hs A B h 126)) (sl A 127)
def yrms (v17 : FVec F S1024x512 .f32) (A B : VG F) (h : V1 F) : FVec F S1024x1 .f32 :=
  k0_pay198 v17 B (hs A B h 0) (hs A B h 1) (hs A B h 2) (hs A B h 3) (hs A B h 4) (hs A B h 5) (hs A B h 6) (hs A B h 7) (hs A B h 8) (hs A B h 9) (hs A B h 10) (hs A B h 11) (hs A B h 12) (hs A B h 13) (hs A B h 14) (hs A B h 15) (hs A B h 16) (hs A B h 17) (hs A B h 18) (hs A B h 19) (hs A B h 20) (hs A B h 21) (hs A B h 22) (hs A B h 23) (hs A B h 24) (hs A B h 25) (hs A B h 26) (hs A B h 27) (hs A B h 28) (hs A B h 29) (hs A B h 30) (hs A B h 31) (hs A B h 32) (hs A B h 33) (hs A B h 34) (hs A B h 35) (hs A B h 36) (hs A B h 37) (hs A B h 38) (hs A B h 39) (hs A B h 40) (hs A B h 41) (hs A B h 42) (hs A B h 43) (hs A B h 44) (hs A B h 45) (hs A B h 46) (hs A B h 47) (hs A B h 48) (hs A B h 49) (hs A B h 50) (hs A B h 51) (hs A B h 52) (hs A B h 53) (hs A B h 54) (hs A B h 55) (hs A B h 56) (hs A B h 57) (hs A B h 58) (hs A B h 59) (hs A B h 60) (hs A B h 61) (hs A B h 62) (hs A B h 63) (hs A B h 64) (hs A B h 65) (hs A B h 66) (hs A B h 67) (hs A B h 68) (hs A B h 69) (hs A B h 70) (hs A B h 71) (hs A B h 72) (hs A B h 73) (hs A B h 74) (hs A B h 75) (hs A B h 76) (hs A B h 77) (hs A B h 78) (hs A B h 79) (hs A B h 80) (hs A B h 81) (hs A B h 82) (hs A B h 83) (hs A B h 84) (hs A B h 85) (hs A B h 86) (hs A B h 87) (hs A B h 88) (hs A B h 89) (hs A B h 90) (hs A B h 91) (hs A B h 92) (hs A B h 93) (hs A B h 94) (hs A B h 95) (hs A B h 96) (hs A B h 97) (hs A B h 98) (hs A B h 99) (hs A B h 100) (hs A B h 101) (hs A B h 102) (hs A B h 103) (hs A B h 104) (hs A B h 105) (hs A B h 106) (hs A B h 107) (hs A B h 108) (hs A B h 109) (hs A B h 110) (hs A B h 111) (hs A B h 112) (hs A B h 113) (hs A B h 114) (hs A B h 115) (hs A B h 116) (hs A B h 117) (hs A B h 118) (hs A B h 119) (hs A B h 120) (hs A B h 121) (hs A B h 122) (hs A B h 123) (hs A B h 124) (hs A B h 125) (hs A B h 126) (row7 (hs A B h 126)) (sl A 127)

/-! ## What the kernel computes from a chunk -/

section Chunk

variable (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32) (T : V8 F) (h : V1 F)

/-- A whole row vector as it is loaded. -/
abbrev lrow (x : Vec F S1x512 .f32) : V1 F := ld x (Rect.unit ![0, 0] S1x512.size inb_S1x512_S1x512_0_0)
abbrev lx : Vec F S1x1024x1024 .f32 := ld x2 (Rect.unit ![0, 0, 0] S1x1024x1024.size inb_S1x1024x1024_S1x1024x1024_0_0_0)

/-- The rows of `u` the chunk computes. -/
def uRows : FVec F S1024x512 .f32 := k0_pay6 (lx x2) (ld x3 (Rect.unit ![0, 1536] S1024x512.size inb_S1024x2560_S1024x512_0_1536))

/-- The convolution's buffer: the chunk's rows from row 8, `T` before them. -/
abbrev uBuf : List (View.Piece (Elt F) S1040x512 .f32) :=
  [⟨Rect.unit ![8, 0] S1024x512.size inb_S1040x512_S1024x512_8_0, uRows x2 x3⟩, ⟨Rect.unit ![0, 0] S8x512.size inb_S1040x512_S8x512_0_0, T⟩]

/-- 1024 rows of it from row `k`. -/
abbrev tap (k : ℕ) (hk : ∀ a, (![k, 0] : Fin 2 → ℕ) a + S1024x512.size a ≤ S1040x512.size a) : FVec F S1024x512 .f32 :=
  ld (canon (uBuf x2 x3 T)) (Rect.unit ![k, 0] S1024x512.size hk)

/-- The convolved rows; the two gates' logits; the negated parameter and its absolute value. -/
def cRows : FVec F S1024x512 .f32 :=
  k0_pay10 (k0_pay8 (lrow x5) (ld x4 (Rect.unit ![3, 0] S1x512.size inb_S4x512_S1x512_3_0)) (tap x2 x3 T 8 inb_S1040x512_S1024x512_8_0))
    (k0_pay9 (ld x4 (Rect.unit ![0, 0] S1x512.size inb_S4x512_S1x512_0_0))) (tap x2 x3 T 5 inb_S1040x512_S1024x512_5_0)
    (ld x4 (Rect.unit ![1, 0] S1x512.size inb_S4x512_S1x512_1_0)) (tap x2 x3 T 6 inb_S1040x512_S1024x512_6_0)
    (ld x4 (Rect.unit ![2, 0] S1x512.size inb_S4x512_S1x512_2_0)) (tap x2 x3 T 7 inb_S1040x512_S1024x512_7_0)
def rRows : FVec F S1024x512 .f32 :=
  k0_pay12 (k0_pay8 (lrow x5) (ld x4 (Rect.unit ![3, 0] S1x512.size inb_S4x512_S1x512_3_0)) (tap x2 x3 T 8 inb_S1040x512_S1024x512_8_0))
    (k0_pay9 (ld x4 (Rect.unit ![0, 0] S1x512.size inb_S4x512_S1x512_0_0))) (tap x2 x3 T 5 inb_S1040x512_S1024x512_5_0)
    (ld x4 (Rect.unit ![1, 0] S1x512.size inb_S4x512_S1x512_1_0)) (tap x2 x3 T 6 inb_S1040x512_S1024x512_6_0)
    (ld x4 (Rect.unit ![2, 0] S1x512.size inb_S4x512_S1x512_2_0)) (tap x2 x3 T 7 inb_S1040x512_S1024x512_7_0)
    (ld x6 (Rect.unit ![0, 0] S512x1024.size inb_S512x1024_S512x1024_0_0)) (lrow x7)
def iRows : FVec F S1024x512 .f32 :=
  k0_pay13 (k0_pay8 (lrow x5) (ld x4 (Rect.unit ![3, 0] S1x512.size inb_S4x512_S1x512_3_0)) (tap x2 x3 T 8 inb_S1040x512_S1024x512_8_0))
    (k0_pay9 (ld x4 (Rect.unit ![0, 0] S1x512.size inb_S4x512_S1x512_0_0))) (tap x2 x3 T 5 inb_S1040x512_S1024x512_5_0)
    (ld x4 (Rect.unit ![1, 0] S1x512.size inb_S4x512_S1x512_1_0)) (tap x2 x3 T 6 inb_S1040x512_S1024x512_6_0)
    (ld x4 (Rect.unit ![2, 0] S1x512.size inb_S4x512_S1x512_2_0)) (tap x2 x3 T 7 inb_S1040x512_S1024x512_7_0)
    (ld x6 (Rect.unit ![0, 0] S512x1024.size inb_S512x1024_S512x1024_0_0)) (lrow x8)

/-- The row's number within its group. -/
abbrev rowNo : IVec S1x8x1 32 := iota .tc S1x8x1 32 [1] iota_S1x8x1_d1_w32

/-- The coefficients and the inputs of the recurrence, each composed over the rows before it in its group. -/
def coefA : VG F :=
  k0_pay30 (k0_pay20 (rRows x2 x3 x4 x5 x6 x7 T) (k0_pay15 (lrow x9)) (k0_pay16 (lrow x9))) rowNo
    (k0_pay23 (rRows x2 x3 x4 x5 x6 x7 T) (k0_pay15 (lrow x9)) (k0_pay16 (lrow x9)))
def coefB : VG F :=
  k0_pay29 (k0_pay20 (rRows x2 x3 x4 x5 x6 x7 T) (k0_pay15 (lrow x9)) (k0_pay16 (lrow x9)))
    (k0_pay21 (cRows x2 x3 x4 x5 T) (rRows x2 x3 x4 x5 x6 x7 T) (iRows x2 x3 x4 x5 x6 x8 T) (k0_pay15 (lrow x9)) (k0_pay16 (lrow x9))) rowNo
    (k0_pay23 (rRows x2 x3 x4 x5 x6 x7 T) (k0_pay15 (lrow x9)) (k0_pay16 (lrow x9)))
    (k0_pay24 (cRows x2 x3 x4 x5 T) (rRows x2 x3 x4 x5 x6 x7 T) (iRows x2 x3 x4 x5 x6 x8 T) (k0_pay15 (lrow x9)) (k0_pay16 (lrow x9)))

/-- The gate's rows. -/
def gRows : FVec F S1024x512 .f32 := k0_pay7 (lx x2) (ld x3 (Rect.unit ![0, 2048] S1024x512.size inb_S1024x2560_S1024x512_0_2048))

/-- The chunk of the first result, of the second, and the row carried into the next chunk. -/
abbrev qkvPieces : List (View.Piece (Elt F) S1x1024x1536 .f32) :=
  [⟨Rect.unit ![0, 0, 1024] S1x1024x512.size inb_S1x1024x1536_S1x1024x512_0_0_1024, k0_pay196 (k0_pay2 (lx x2)) (ld x3 (Rect.unit ![0, 1024] S1024x512.size inb_S1024x2560_S1024x512_0_1024))⟩,
   ⟨Rect.unit ![0, 0, 512] S1x1024x512.size inb_S1x1024x1536_S1x1024x512_0_0_512, k0_pay31 (k0_pay2 (lx x2)) (ld x3 (Rect.unit ![0, 512] S1024x512.size inb_S1024x2560_S1024x512_0_512))⟩,
   ⟨Rect.unit ![0, 0, 0] S1x1024x512.size inb_S1x1024x1536_S1x1024x512_0_0_0, k0_pay19 (k0_pay2 (lx x2)) (ld x3 (Rect.unit ![0, 0] S1024x512.size inb_S1024x2560_S1024x512_0_0))⟩]
def qkvOf : Vec F S1x1024x1536 .f32 := canon (qkvPieces x2 x3)

def yOf : Vec F S1x1024x512 .bf16 :=
  k0_pay1 (ygate (gRows x2 x3) (coefA x2 x3 x4 x5 x6 x7 x9 T) (coefB x2 x3 x4 x5 x6 x7 x8 x9 T) h)
    (yrms (gRows x2 x3) (coefA x2 x3 x4 x5 x6 x7 x9 T) (coefB x2 x3 x4 x5 x6 x7 x8 x9 T) h) (lrow x10)
def hOf : V1 F :=
  k0_pay195 (coefB x2 x3 x4 x5 x6 x7 x8 x9 T) (row7 (hs (coefA x2 x3 x4 x5 x6 x7 x9 T) (coefB x2 x3 x4 x5 x6 x7 x8 x9 T) h 126)) (sl (coefA x2 x3 x4 x5 x6 x7 x9 T) 127)

/-- The rows of `u` the next chunk's convolution reaches back to: the buffer's rows 1024 to 1031. -/
def tailOf : V8 F := ld (canon (uBuf x2 x3 T)) (Rect.unit ![1024, 0] S8x512.size inb_S1040x512_S8x512_1024_0)

end Chunk

/-! ## The chain of groups as the kernel spells it -/

theorem k0_pay33_eq (v144 : FVec F S128x8x512 .f32) (v145 : FVec F S128x8x512 .f32) (v146 : Vec F S1x512 .f32) (v153 : FVec F S8x512 .f32) : k0_pay33 v144 v145 v146 v153 = (addf (mulf (sl v145 0) (bro (addf v146 (row0 v153)))) (sl v144 0)) := rfl
theorem k0_pay34_eq (v144 : FVec F S128x8x512 .f32) (v145 : FVec F S128x8x512 .f32) (v146 : Vec F S1x512 .f32) (v153 : FVec F S8x512 .f32) : k0_pay34 v144 v145 v146 v153 = (addf (mulf (sl v145 1) (bro (row7 (k0_pay33 v144 v145 v146 v153)))) (sl v144 1)) := rfl
theorem k0_pay35_eq (v144 : FVec F S128x8x512 .f32) (v145 : FVec F S128x8x512 .f32) (v146 : Vec F S1x512 .f32) (v153 : FVec F S8x512 .f32) : k0_pay35 v144 v145 v146 v153 = (addf (mulf (sl v145 2) (bro (row7 (k0_pay34 v144 v145 v146 v153)))) (sl v144 2)) := rfl
theorem k0_pay36_eq (v144 : FVec F S128x8x512 .f32) (v145 : FVec F S128x8x512 .f32) (v146 : Vec F S1x512 .f32) (v153 : FVec F S8x512 .f32) : k0_pay36 v144 v145 v146 v153 = (addf (mulf (sl v145 3) (bro (row7 (k0_pay35 v144 v145 v146 v153)))) (sl v144 3)) := rfl
theorem k0_pay37_eq (v144 : FVec F S128x8x512 .f32) (v145 : FVec F S128x8x512 .f32) (v146 : Vec F S1x512 .f32) (v153 : FVec F S8x512 .f32) : k0_pay37 v144 v145 v146 v153 = (addf (mulf (sl v145 4) (bro (row7 (k0_pay36 v144 v145 v146 v153)))) (sl v144 4)) := rfl
theorem k0_pay38_eq (v144 : FVec F S128x8x512 .f32) (v145 : FVec F S128x8x512 .f32) (v146 : Vec F S1x512 .f32) (v153 : FVec F S8x512 .f32) : k0_pay38 v144 v145 v146 v153 = (addf (mulf (sl v145 5) (bro (row7 (k0_pay37 v144 v145 v146 v153)))) (sl v144 5)) := rfl
theorem k0_pay39_eq (v144 : FVec F S128x8x512 .f32) (v145 : FVec F S128x8x512 .f32) (v146 : Vec F S1x512 .f32) (v153 : FVec F S8x512 .f32) : k0_pay39 v144 v145 v146 v153 = (addf (mulf (sl v145 6) (bro (row7 (k0_pay38 v144 v145 v146 v153)))) (sl v144 6)) := rfl
theorem k0_pay40_eq (v144 : FVec F S128x8x512 .f32) (v145 : FVec F S128x8x512 .f32) (v146 : Vec F S1x512 .f32) (v153 : FVec F S8x512 .f32) : k0_pay40 v144 v145 v146 v153 = (row7 (k0_pay39 v144 v145 v146 v153)) := rfl
theorem k0_pay41_eq (v145 : FVec F S128x8x512 .f32) : k0_pay41 v145 = (sl v145 7) := rfl
theorem k0_pay42_eq (v144 : FVec F S128x8x512 .f32) (v211 : FVec F S1x512 .f32) (v213 : FVec F S8x512 .f32) : k0_pay42 v144 v211 v213 = (addf (mulf v213 (bro v211)) (sl v144 7)) := rfl
theorem k0_pay43_eq (v144 : FVec F S128x8x512 .f32) (v145 : FVec F S128x8x512 .f32) (v211 : FVec F S1x512 .f32) (v213 : FVec F S8x512 .f32) : k0_pay43 v144 v145 v211 v213 = (addf (mulf (sl v145 8) (bro (row7 (k0_pay42 v144 v211 v213)))) (sl v144 8)) := rfl
theorem k0_pay44_eq (v144 : FVec F S128x8x512 .f32) (v145 : FVec F S128x8x512 .f32) (v211 : FVec F S1x512 .f32) (v213 : FVec F S8x512 .f32) : k0_pay44 v144 v145 v211 v213 = (addf (mulf (sl v145 9) (bro (row7 (k0_pay43 v144 v145 v211 v213)))) (sl v144 9)) := rfl
theorem k0_pay45_eq (v144 : FVec F S128x8x512 .f32) (v145 : FVec F S128x8x512 .f32) (v211 : FVec F S1x512 .f32) (v213 : FVec F S8x512 .f32) : k0_pay45 v144 v145 v211 v213 = (addf (mulf (sl v145 10) (bro (row7 (k0_pay44 v144 v145 v211 v213)))) (sl v144 10)) := rfl
theorem k0_pay46_eq (v144 : FVec F S128x8x512 .f32) (v145 : FVec F S128x8x512 .f32) (v211 : FVec F S1x512 .f32) (v213 : FVec F S8x512 .f32) : k0_pay46 v144 v145 v211 v213 = (addf (mulf (sl v145 11) (bro (row7 (k0_pay45 v144 v145 v211 v213)))) (sl v144 11)) := rfl
theorem k0_pay47_eq (v144 : FVec F S128x8x512 .f32) (v145 : FVec F S128x8x512 .f32) (v211 : FVec F S1x512 .f32) (v213 : FVec F S8x512 .f32) : k0_pay47 v144 v145 v211 v213 = (addf (mulf (sl v145 12) (bro (row7 (k0_pay46 v144 v145 v211 v213)))) (sl v144 12)) := rfl
theorem k0_pay48_eq (v144 : FVec F S128x8x512 .f32) (v145 : FVec F S128x8x512 .f32) (v211 : FVec F S1x512 .f32) (v213 : FVec F S8x512 .f32) : k0_pay48 v144 v145 v211 v213 = (addf (mulf (sl v145 13) (bro (row7 (k0_pay47 v144 v145 v211 v213)))) (sl v144 13)) := rfl
theorem k0_pay49_eq (v144 : FVec F S128x8x512 .f32) (v145 : FVec F S128x8x512 .f32) (v211 : FVec F S1x512 .f32) (v213 : FVec F S8x512 .f32) : k0_pay49 v144 v145 v211 v213 = (mulf (sl v145 14) (bro (row7 (k0_pay48 v144 v145 v211 v213)))) := rfl
theorem k0_pay50_eq (v144 : FVec F S128x8x512 .f32) : k0_pay50 v144 = (sl v144 14) := rfl
theorem k0_pay51_eq (v271 : FVec F S8x512 .f32) (v273 : FVec F S8x512 .f32) : k0_pay51 v271 v273 = (addf v271 v273) := rfl
theorem k0_pay52_eq (v144 : FVec F S128x8x512 .f32) (v145 : FVec F S128x8x512 .f32) (v271 : FVec F S8x512 .f32) (v273 : FVec F S8x512 .f32) : k0_pay52 v144 v145 v271 v273 = (addf (mulf (sl v145 15) (bro (row7 (k0_pay51 v271 v273)))) (sl v144 15)) := rfl
theorem k0_pay53_eq (v144 : FVec F S128x8x512 .f32) (v145 : FVec F S128x8x512 .f32) (v271 : FVec F S8x512 .f32) (v273 : FVec F S8x512 .f32) : k0_pay53 v144 v145 v271 v273 = (addf (mulf (sl v145 16) (bro (row7 (k0_pay52 v144 v145 v271 v273)))) (sl v144 16)) := rfl
theorem k0_pay54_eq (v144 : FVec F S128x8x512 .f32) (v145 : FVec F S128x8x512 .f32) (v271 : FVec F S8x512 .f32) (v273 : FVec F S8x512 .f32) : k0_pay54 v144 v145 v271 v273 = (addf (mulf (sl v145 17) (bro (row7 (k0_pay53 v144 v145 v271 v273)))) (sl v144 17)) := rfl
theorem k0_pay55_eq (v144 : FVec F S128x8x512 .f32) (v145 : FVec F S128x8x512 .f32) (v271 : FVec F S8x512 .f32) (v273 : FVec F S8x512 .f32) : k0_pay55 v144 v145 v271 v273 = (addf (mulf (sl v145 18) (bro (row7 (k0_pay54 v144 v145 v271 v273)))) (sl v144 18)) := rfl
theorem k0_pay56_eq (v144 : FVec F S128x8x512 .f32) (v145 : FVec F S128x8x512 .f32) (v271 : FVec F S8x512 .f32) (v273 : FVec F S8x512 .f32) : k0_pay56 v144 v145 v271 v273 = (addf (mulf (sl v145 19) (bro (row7 (k0_pay55 v144 v145 v271 v273)))) (sl v144 19)) := rfl
theorem k0_pay57_eq (v144 : FVec F S128x8x512 .f32) (v145 : FVec F S128x8x512 .f32) (v271 : FVec F S8x512 .f32) (v273 : FVec F S8x512 .f32) : k0_pay57 v144 v145 v271 v273 = (addf (mulf (sl v145 20) (bro (row7 (k0_pay56 v144 v145 v271 v273)))) (sl v144 20)) := rfl
theorem k0_pay58_eq (v144 : FVec F S128x8x512 .f32) (v145 : FVec F S128x8x512 .f32) (v271 : FVec F S8x512 .f32) (v273 : FVec F S8x512 .f32) : k0_pay58 v144 v145 v271 v273 = (addf (mulf (sl v145 21) (bro (row7 (k0_pay57 v144 v145 v271 v273)))) (sl v144 21)) := rfl
theorem k0_pay59_eq (v144 : FVec F S128x8x512 .f32) (v145 : FVec F S128x8x512 .f32) (v271 : FVec F S8x512 .f32) (v273 : FVec F S8x512 .f32) : k0_pay59 v144 v145 v271 v273 = (row7 (k0_pay58 v144 v145 v271 v273)) := rfl
theorem k0_pay60_eq (v145 : FVec F S128x8x512 .f32) : k0_pay60 v145 = (sl v145 22) := rfl
theorem k0_pay61_eq (v144 : FVec F S128x8x512 .f32) (v331 : FVec F S1x512 .f32) (v333 : FVec F S8x512 .f32) : k0_pay61 v144 v331 v333 = (addf (mulf v333 (bro v331)) (sl v144 22)) := rfl
theorem k0_pay62_eq (v144 : FVec F S128x8x512 .f32) (v145 : FVec F S128x8x512 .f32) (v331 : FVec F S1x512 .f32) (v333 : FVec F S8x512 .f32) : k0_pay62 v144 v145 v331 v333 = (addf (mulf (sl v145 23) (bro (row7 (k0_pay61 v144 v331 v333)))) (sl v144 23)) := rfl
theorem k0_pay63_eq (v144 : FVec F S128x8x512 .f32) (v145 : FVec F S128x8x512 .f32) (v331 : FVec F S1x512 .f32) (v333 : FVec F S8x512 .f32) : k0_pay63 v144 v145 v331 v333 = (addf (mulf (sl v145 24) (bro (row7 (k0_pay62 v144 v145 v331 v333)))) (sl v144 24)) := rfl
theorem k0_pay64_eq (v144 : FVec F S128x8x512 .f32) (v145 : FVec F S128x8x512 .f32) (v331 : FVec F S1x512 .f32) (v333 : FVec F S8x512 .f32) : k0_pay64 v144 v145 v331 v333 = (addf (mulf (sl v145 25) (bro (row7 (k0_pay63 v144 v145 v331 v333)))) (sl v144 25)) := rfl
theorem k0_pay65_eq (v144 : FVec F S128x8x512 .f32) (v145 : FVec F S128x8x512 .f32) (v331 : FVec F S1x512 .f32) (v333 : FVec F S8x512 .f32) : k0_pay65 v144 v145 v331 v333 = (addf (mulf (sl v145 26) (bro (row7 (k0_pay64 v144 v145 v331 v333)))) (sl v144 26)) := rfl
theorem k0_pay66_eq (v144 : FVec F S128x8x512 .f32) (v145 : FVec F S128x8x512 .f32) (v331 : FVec F S1x512 .f32) (v333 : FVec F S8x512 .f32) : k0_pay66 v144 v145 v331 v333 = (addf (mulf (sl v145 27) (bro (row7 (k0_pay65 v144 v145 v331 v333)))) (sl v144 27)) := rfl
theorem k0_pay67_eq (v144 : FVec F S128x8x512 .f32) (v145 : FVec F S128x8x512 .f32) (v331 : FVec F S1x512 .f32) (v333 : FVec F S8x512 .f32) : k0_pay67 v144 v145 v331 v333 = (addf (mulf (sl v145 28) (bro (row7 (k0_pay66 v144 v145 v331 v333)))) (sl v144 28)) := rfl
theorem k0_pay68_eq (v144 : FVec F S128x8x512 .f32) (v145 : FVec F S128x8x512 .f32) (v331 : FVec F S1x512 .f32) (v333 : FVec F S8x512 .f32) : k0_pay68 v144 v145 v331 v333 = (mulf (sl v145 29) (bro (row7 (k0_pay67 v144 v145 v331 v333)))) := rfl
theorem k0_pay69_eq (v144 : FVec F S128x8x512 .f32) : k0_pay69 v144 = (sl v144 29) := rfl
theorem k0_pay70_eq (v391 : FVec F S8x512 .f32) (v393 : FVec F S8x512 .f32) : k0_pay70 v391 v393 = (addf v391 v393) := rfl
theorem k0_pay71_eq (v144 : FVec F S128x8x512 .f32) (v145 : FVec F S128x8x512 .f32) (v391 : FVec F S8x512 .f32) (v393 : FVec F S8x512 .f32) : k0_pay71 v144 v145 v391 v393 = (addf (mulf (sl v145 30) (bro (row7 (k0_pay70 v391 v393)))) (sl v144 30)) := rfl
theorem k0_pay72_eq (v144 : FVec F S128x8x512 .f32) (v145 : FVec F S128x8x512 .f32) (v391 : FVec F S8x512 .f32) (v393 : FVec F S8x512 .f32) : k0_pay72 v144 v145 v391 v393 = (addf (mulf (sl v145 31) (bro (row7 (k0_pay71 v144 v145 v391 v393)))) (sl v144 31)) := rfl
theorem k0_pay73_eq (v144 : FVec F S128x8x512 .f32) (v145 : FVec F S128x8x512 .f32) (v391 : FVec F S8x512 .f32) (v393 : FVec F S8x512 .f32) : k0_pay73 v144 v145 v391 v393 = (addf (mulf (sl v145 32) (bro (row7 (k0_pay72 v144 v145 v391 v393)))) (sl v144 32)) := rfl
theorem k0_pay74_eq (v144 : FVec F S128x8x512 .f32) (v145 : FVec F S128x8x512 .f32) (v391 : FVec F S8x512 .f32) (v393 : FVec F S8x512 .f32) : k0_pay74 v144 v145 v391 v393 = (addf (mulf (sl v145 33) (bro (row7 (k0_pay73 v144 v145 v391 v393)))) (sl v144 33)) := rfl
theorem k0_pay75_eq (v144 : FVec F S128x8x512 .f32) (v145 : FVec F S128x8x512 .f32) (v391 : FVec F S8x512 .f32) (v393 : FVec F S8x512 .f32) : k0_pay75 v144 v145 v391 v393 = (addf (mulf (sl v145 34) (bro (row7 (k0_pay74 v144 v145 v391 v393)))) (sl v144 34)) := rfl
theorem k0_pay76_eq (v144 : FVec F S128x8x512 .f32) (v145 : FVec F S128x8x512 .f32) (v391 : FVec F S8x512 .f32) (v393 : FVec F S8x512 .f32) : k0_pay76 v144 v145 v391 v393 = (addf (mulf (sl v145 35) (bro (row7 (k0_pay75 v144 v145 v391 v393)))) (sl v144 35)) := rfl
theorem k0_pay77_eq (v144 : FVec F S128x8x512 .f32) (v145 : FVec F S128x8x512 .f32) (v391 : FVec F S8x512 .f32) (v393 : FVec F S8x512 .f32) : k0_pay77 v144 v145 v391 v393 = (addf (mulf (sl v145 36) (bro (row7 (k0_pay76 v144 v145 v391 v393)))) (sl v144 36)) := rfl
theorem k0_pay78_eq (v144 : FVec F S128x8x512 .f32) (v145 : FVec F S128x8x512 .f32) (v391 : FVec F S8x512 .f32) (v393 : FVec F S8x512 .f32) : k0_pay78 v144 v145 v391 v393 = (row7 (k0_pay77 v144 v145 v391 v393)) := rfl
theorem k0_pay79_eq (v145 : FVec F S128x8x512 .f32) : k0_pay79 v145 = (sl v145 37) := rfl
theorem k0_pay80_eq (v144 : FVec F S128x8x512 .f32) (v451 : FVec F S1x512 .f32) (v453 : FVec F S8x512 .f32) : k0_pay80 v144 v451 v453 = (addf (mulf v453 (bro v451)) (sl v144 37)) := rfl
theorem k0_pay81_eq (v144 : FVec F S128x8x512 .f32) (v145 : FVec F S128x8x512 .f32) (v451 : FVec F S1x512 .f32) (v453 : FVec F S8x512 .f32) : k0_pay81 v144 v145 v451 v453 = (addf (mulf (sl v145 38) (bro (row7 (k0_pay80 v144 v451 v453)))) (sl v144 38)) := rfl
theorem k0_pay82_eq (v144 : FVec F S128x8x512 .f32) (v145 : FVec F S128x8x512 .f32) (v451 : FVec F S1x512 .f32) (v453 : FVec F S8x512 .f32) : k0_pay82 v144 v145 v451 v453 = (addf (mulf (sl v145 39) (bro (row7 (k0_pay81 v144 v145 v451 v453)))) (sl v144 39)) := rfl
theorem k0_pay83_eq (v144 : FVec F S128x8x512 .f32) (v145 : FVec F S128x8x512 .f32) (v451 : FVec F S1x512 .f32) (v453 : FVec F S8x512 .f32) : k0_pay83 v144 v145 v451 v453 = (addf (mulf (sl v145 40) (bro (row7 (k0_pay82 v144 v145 v451 v453)))) (sl v144 40)) := rfl
theorem k0_pay84_eq (v144 : FVec F S128x8x512 .f32) (v145 : FVec F S128x8x512 .f32) (v451 : FVec F S1x512 .f32) (v453 : FVec F S8x512 .f32) : k0_pay84 v144 v145 v451 v453 = (addf (mulf (sl v145 41) (bro (row7 (k0_pay83 v144 v145 v451 v453)))) (sl v144 41)) := rfl
theorem k0_pay85_eq (v144 : FVec F S128x8x512 .f32) (v145 : FVec F S128x8x512 .f32) (v451 : FVec F S1x512 .f32) (v453 : FVec F S8x512 .f32) : k0_pay85 v144 v145 v451 v453 = (addf (mulf (sl v145 42) (bro (row7 (k0_pay84 v144 v145 v451 v453)))) (sl v144 42)) := rfl
theorem k0_pay86_eq (v144 : FVec F S128x8x512 .f32) (v145 : FVec F S128x8x512 .f32) (v451 : FVec F S1x512 .f32) (v453 : FVec F S8x512 .f32) : k0_pay86 v144 v145 v451 v453 = (addf (mulf (sl v145 43) (bro (row7 (k0_pay85 v144 v145 v451 v453)))) (sl v144 43)) := rfl
theorem k0_pay87_eq (v144 : FVec F S128x8x512 .f32) (v145 : FVec F S128x8x512 .f32) (v451 : FVec F S1x512 .f32) (v453 : FVec F S8x512 .f32) : k0_pay87 v144 v145 v451 v453 = (mulf (sl v145 44) (bro (row7 (k0_pay86 v144 v145 v451 v453)))) := rfl
theorem k0_pay88_eq (v144 : FVec F S128x8x512 .f32) : k0_pay88 v144 = (sl v144 44) := rfl
theorem k0_pay89_eq (v511 : FVec F S8x512 .f32) (v513 : FVec F S8x512 .f32) : k0_pay89 v511 v513 = (addf v511 v513) := rfl
theorem k0_pay90_eq (v144 : FVec F S128x8x512 .f32) (v145 : FVec F S128x8x512 .f32) (v511 : FVec F S8x512 .f32) (v513 : FVec F S8x512 .f32) : k0_pay90 v144 v145 v511 v513 = (addf (mulf (sl v145 45) (bro (row7 (k0_pay89 v511 v513)))) (sl v144 45)) := rfl
theorem k0_pay91_eq (v144 : FVec F S128x8x512 .f32) (v145 : FVec F S128x8x512 .f32) (v511 : FVec F S8x512 .f32) (v513 : FVec F S8x512 .f32) : k0_pay91 v144 v145 v511 v513 = (addf (mulf (sl v145 46) (bro (row7 (k0_pay90 v144 v145 v511 v513)))) (sl v144 46)) := rfl
theorem k0_pay92_eq (v144 : FVec F S128x8x512 .f32) (v145 : FVec F S128x8x512 .f32) (v511 : FVec F S8x512 .f32) (v513 : FVec F S8x512 .f32) : k0_pay92 v144 v145 v511 v513 = (addf (mulf (sl v145 47) (bro (row7 (k0_pay91 v144 v145 v511 v513)))) (sl v144 47)) := rfl
theorem k0_pay93_eq (v144 : FVec F S128x8x512 .f32) (v145 : FVec F S128x8x512 .f32) (v511 : FVec F S8x512 .f32) (v513 : FVec F S8x512 .f32) : k0_pay93 v144 v145 v511 v513 = (addf (mulf (sl v145 48) (bro (row7 (k0_pay92 v144 v145 v511 v513)))) (sl v144 48)) := rfl
theorem k0_pay94_eq (v144 : FVec F S128x8x512 .f32) (v145 : FVec F S128x8x512 .f32) (v511 : FVec F S8x512 .f32) (v513 : FVec F S8x512 .f32) : k0_pay94 v144 v145 v511 v513 = (addf (mulf (sl v145 49) (bro (row7 (k0_pay93 v144 v145 v511 v513)))) (sl v144 49)) := rfl
theorem k0_pay95_eq (v144 : FVec F S128x8x512 .f32) (v145 : FVec F S128x8x512 .f32) (v511 : FVec F S8x512 .f32) (v513 : FVec F S8x512 .f32) : k0_pay95 v144 v145 v511 v513 = (addf (mulf (sl v145 50) (bro (row7 (k0_pay94 v144 v145 v511 v513)))) (sl v144 50)) := rfl
theorem k0_pay96_eq (v144 : FVec F S128x8x512 .f32) (v145 : FVec F S128x8x512 .f32) (v511 : FVec F S8x512 .f32) (v513 : FVec F S8x512 .f32) : k0_pay96 v144 v145 v511 v513 = (addf (mulf (sl v145 51) (bro (row7 (k0_pay95 v144 v145 v511 v513)))) (sl v144 51)) := rfl
theorem k0_pay97_eq (v144 : FVec F S128x8x512 .f32) (v145 : FVec F S128x8x512 .f32) (v511 : FVec F S8x512 .f32) (v513 : FVec F S8x512 .f32) : k0_pay97 v144 v145 v511 v513 = (row7 (k0_pay96 v144 v145 v511 v513)) := rfl
theorem k0_pay98_eq (v145 : FVec F S128x8x512 .f32) : k0_pay98 v145 = (sl v145 52) := rfl
theorem k0_pay99_eq (v144 : FVec F S128x8x512 .f32) (v571 : FVec F S1x512 .f32) (v573 : FVec F S8x512 .f32) : k0_pay99 v144 v571 v573 = (addf (mulf v573 (bro v571)) (sl v144 52)) := rfl
theorem k0_pay100_eq (v144 : FVec F S128x8x512 .f32) (v145 : FVec F S128x8x512 .f32) (v571 : FVec F S1x512 .f32) (v573 : FVec F S8x512 .f32) : k0_pay100 v144 v145 v571 v573 = (addf (mulf (sl v145 53) (bro (row7 (k0_pay99 v144 v571 v573)))) (sl v144 53)) := rfl
theorem k0_pay101_eq (v144 : FVec F S128x8x512 .f32) (v145 : FVec F S128x8x512 .f32) (v571 : FVec F S1x512 .f32) (v573 : FVec F S8x512 .f32) : k0_pay101 v144 v145 v571 v573 = (addf (mulf (sl v145 54) (bro (row7 (k0_pay100 v144 v145 v571 v573)))) (sl v144 54)) := rfl
theorem k0_pay102_eq (v144 : FVec F S128x8x512 .f32) (v145 : FVec F S128x8x512 .f32) (v571 : FVec F S1x512 .f32) (v573 : FVec F S8x512 .f32) : k0_pay102 v144 v145 v571 v573 = (addf (mulf (sl v145 55) (bro (row7 (k0_pay101 v144 v145 v571 v573)))) (sl v144 55)) := rfl
theorem k0_pay103_eq (v144 : FVec F S128x8x512 .f32) (v145 : FVec F S128x8x512 .f32) (v571 : FVec F S1x512 .f32) (v573 : FVec F S8x512 .f32) : k0_pay103 v144 v145 v571 v573 = (addf (mulf (sl v145 56) (bro (row7 (k0_pay102 v144 v145 v571 v573)))) (sl v144 56)) := rfl
theorem k0_pay104_eq (v144 : FVec F S128x8x512 .f32) (v145 : FVec F S128x8x512 .f32) (v571 : FVec F S1x512 .f32) (v573 : FVec F S8x512 .f32) : k0_pay104 v144 v145 v571 v573 = (addf (mulf (sl v145 57) (bro (row7 (k0_pay103 v144 v145 v571 v573)))) (sl v144 57)) := rfl
theorem k0_pay105_eq (v144 : FVec F S128x8x512 .f32) (v145 : FVec F S128x8x512 .f32) (v571 : FVec F S1x512 .f32) (v573 : FVec F S8x512 .f32) : k0_pay105 v144 v145 v571 v573 = (addf (mulf (sl v145 58) (bro (row7 (k0_pay104 v144 v145 v571 v573)))) (sl v144 58)) := rfl
theorem k0_pay106_eq (v144 : FVec F S128x8x512 .f32) (v145 : FVec F S128x8x512 .f32) (v571 : FVec F S1x512 .f32) (v573 : FVec F S8x512 .f32) : k0_pay106 v144 v145 v571 v573 = (mulf (sl v145 59) (bro (row7 (k0_pay105 v144 v145 v571 v573)))) := rfl
theorem k0_pay107_eq (v144 : FVec F S128x8x512 .f32) : k0_pay107 v144 = (sl v144 59) := rfl
theorem k0_pay108_eq (v631 : FVec F S8x512 .f32) (v633 : FVec F S8x512 .f32) : k0_pay108 v631 v633 = (addf v631 v633) := rfl
theorem k0_pay109_eq (v144 : FVec F S128x8x512 .f32) (v145 : FVec F S128x8x512 .f32) (v631 : FVec F S8x512 .f32) (v633 : FVec F S8x512 .f32) : k0_pay109 v144 v145 v631 v633 = (addf (mulf (sl v145 60) (bro (row7 (k0_pay108 v631 v633)))) (sl v144 60)) := rfl
theorem k0_pay110_eq (v144 : FVec F S128x8x512 .f32) (v145 : FVec F S128x8x512 .f32) (v631 : FVec F S8x512 .f32) (v633 : FVec F S8x512 .f32) : k0_pay110 v144 v145 v631 v633 = (addf (mulf (sl v145 61) (bro (row7 (k0_pay109 v144 v145 v631 v633)))) (sl v144 61)) := rfl
theorem k0_pay111_eq (v144 : FVec F S128x8x512 .f32) (v145 : FVec F S128x8x512 .f32) (v631 : FVec F S8x512 .f32) (v633 : FVec F S8x512 .f32) : k0_pay111 v144 v145 v631 v633 = (addf (mulf (sl v145 62) (bro (row7 (k0_pay110 v144 v145 v631 v633)))) (sl v144 62)) := rfl
theorem k0_pay112_eq (v144 : FVec F S128x8x512 .f32) (v145 : FVec F S128x8x512 .f32) (v631 : FVec F S8x512 .f32) (v633 : FVec F S8x512 .f32) : k0_pay112 v144 v145 v631 v633 = (addf (mulf (sl v145 63) (bro (row7 (k0_pay111 v144 v145 v631 v633)))) (sl v144 63)) := rfl
theorem k0_pay113_eq (v144 : FVec F S128x8x512 .f32) (v145 : FVec F S128x8x512 .f32) (v631 : FVec F S8x512 .f32) (v633 : FVec F S8x512 .f32) : k0_pay113 v144 v145 v631 v633 = (addf (mulf (sl v145 64) (bro (row7 (k0_pay112 v144 v145 v631 v633)))) (sl v144 64)) := rfl
theorem k0_pay114_eq (v144 : FVec F S128x8x512 .f32) (v145 : FVec F S128x8x512 .f32) (v631 : FVec F S8x512 .f32) (v633 : FVec F S8x512 .f32) : k0_pay114 v144 v145 v631 v633 = (addf (mulf (sl v145 65) (bro (row7 (k0_pay113 v144 v145 v631 v633)))) (sl v144 65)) := rfl
theorem k0_pay115_eq (v144 : FVec F S128x8x512 .f32) (v145 : FVec F S128x8x512 .f32) (v631 : FVec F S8x512 .f32) (v633 : FVec F S8x512 .f32) : k0_pay115 v144 v145 v631 v633 = (addf (mulf (sl v145 66) (bro (row7 (k0_pay114 v144 v145 v631 v633)))) (sl v144 66)) := rfl
theorem k0_pay116_eq (v144 : FVec F S128x8x512 .f32) (v145 : FVec F S128x8x512 .f32) (v631 : FVec F S8x512 .f32) (v633 : FVec F S8x512 .f32) : k0_pay116 v144 v145 v631 v633 = (row7 (k0_pay115 v144 v145 v631 v633)) := rfl
theorem k0_pay117_eq (v145 : FVec F S128x8x512 .f32) : k0_pay117 v145 = (sl v145 67) := rfl
theorem k0_pay118_eq (v144 : FVec F S128x8x512 .f32) (v691 : FVec F S1x512 .f32) (v693 : FVec F S8x512 .f32) : k0_pay118 v144 v691 v693 = (addf (mulf v693 (bro v691)) (sl v144 67)) := rfl
theorem k0_pay119_eq (v144 : FVec F S128x8x512 .f32) (v145 : FVec F S128x8x512 .f32) (v691 : FVec F S1x512 .f32) (v693 : FVec F S8x512 .f32) : k0_pay119 v144 v145 v691 v693 = (addf (mulf (sl v145 68) (bro (row7 (k0_pay118 v144 v691 v693)))) (sl v144 68)) := rfl
theorem k0_pay120_eq (v144 : FVec F S128x8x512 .f32) (v145 : FVec F S128x8x512 .f32) (v691 : FVec F S1x512 .f32) (v693 : FVec F S8x512 .f32) : k0_pay120 v144 v145 v691 v693 = (addf (mulf (sl v145 69) (bro (row7 (k0_pay119 v144 v145 v691 v693)))) (sl v144 69)) := rfl
theorem k0_pay121_eq (v144 : FVec F S128x8x512 .f32) (v145 : FVec F S128x8x512 .f32) (v691 : FVec F S1x512 .f32) (v693 : FVec F S8x512 .f32) : k0_pay121 v144 v145 v691 v693 = (addf (mulf (sl v145 70) (bro (row7 (k0_pay120 v144 v145 v691 v693)))) (sl v144 70)) := rfl
theorem k0_pay122_eq (v144 : FVec F S128x8x512 .f32) (v145 : FVec F S128x8x512 .f32) (v691 : FVec F S1x512 .f32) (v693 : FVec F S8x512 .f32) : k0_pay122 v144 v145 v691 v693 = (addf (mulf (sl v145 71) (bro (row7 (k0_pay121 v144 v145 v691 v693)))) (sl v144 71)) := rfl
theorem k0_pay123_eq (v144 : FVec F S128x8x512 .f32) (v145 : FVec F S128x8x512 .f32) (v691 : FVec F S1x512 .f32) (v693 : FVec F S8x512 .f32) : k0_pay123 v144 v145 v691 v693 = (addf (mulf (sl v145 72) (bro (row7 (k0_pay122 v144 v145 v691 v693)))) (sl v144 72)) := rfl
theorem k0_pay124_eq (v144 : FVec F S128x8x512 .f32) (v145 : FVec F S128x8x512 .f32) (v691 : FVec F S1x512 .f32) (v693 : FVec F S8x512 .f32) : k0_pay124 v144 v145 v691 v693 = (addf (mulf (sl v145 73) (bro (row7 (k0_pay123 v144 v145 v691 v693)))) (sl v144 73)) := rfl
theorem k0_pay125_eq (v144 : FVec F S128x8x512 .f32) (v145 : FVec F S128x8x512 .f32) (v691 : FVec F S1x512 .f32) (v693 : FVec F S8x512 .f32) : k0_pay125 v144 v145 v691 v693 = (mulf (sl v145 74) (bro (row7 (k0_pay124 v144 v145 v691 v693)))) := rfl
theorem k0_pay126_eq (v144 : FVec F S128x8x512 .f32) : k0_pay126 v144 = (sl v144 74) := rfl
theorem k0_pay127_eq (v751 : FVec F S8x512 .f32) (v753 : FVec F S8x512 .f32) : k0_pay127 v751 v753 = (addf v751 v753) := rfl
theorem k0_pay128_eq (v144 : FVec F S128x8x512 .f32) (v145 : FVec F S128x8x512 .f32) (v751 : FVec F S8x512 .f32) (v753 : FVec F S8x512 .f32) : k0_pay128 v144 v145 v751 v753 = (addf (mulf (sl v145 75) (bro (row7 (k0_pay127 v751 v753)))) (sl v144 75)) := rfl
theorem k0_pay129_eq (v144 : FVec F S128x8x512 .f32) (v145 : FVec F S128x8x512 .f32) (v751 : FVec F S8x512 .f32) (v753 : FVec F S8x512 .f32) : k0_pay129 v144 v145 v751 v753 = (addf (mulf (sl v145 76) (bro (row7 (k0_pay128 v144 v145 v751 v753)))) (sl v144 76)) := rfl
theorem k0_pay130_eq (v144 : FVec F S128x8x512 .f32) (v145 : FVec F S128x8x512 .f32) (v751 : FVec F S8x512 .f32) (v753 : FVec F S8x512 .f32) : k0_pay130 v144 v145 v751 v753 = (addf (mulf (sl v145 77) (bro (row7 (k0_pay129 v144 v145 v751 v753)))) (sl v144 77)) := rfl
theorem k0_pay131_eq (v144 : FVec F S128x8x512 .f32) (v145 : FVec F S128x8x512 .f32) (v751 : FVec F S8x512 .f32) (v753 : FVec F S8x512 .f32) : k0_pay131 v144 v145 v751 v753 = (addf (mulf (sl v145 78) (bro (row7 (k0_pay130 v144 v145 v751 v753)))) (sl v144 78)) := rfl
theorem k0_pay132_eq (v144 : FVec F S128x8x512 .f32) (v145 : FVec F S128x8x512 .f32) (v751 : FVec F S8x512 .f32) (v753 : FVec F S8x512 .f32) : k0_pay132 v144 v145 v751 v753 = (addf (mulf (sl v145 79) (bro (row7 (k0_pay131 v144 v145 v751 v753)))) (sl v144 79)) := rfl
theorem k0_pay133_eq (v144 : FVec F S128x8x512 .f32) (v145 : FVec F S128x8x512 .f32) (v751 : FVec F S8x512 .f32) (v753 : FVec F S8x512 .f32) : k0_pay133 v144 v145 v751 v753 = (addf (mulf (sl v145 80) (bro (row7 (k0_pay132 v144 v145 v751 v753)))) (sl v144 80)) := rfl
theorem k0_pay134_eq (v144 : FVec F S128x8x512 .f32) (v145 : FVec F S128x8x512 .f32) (v751 : FVec F S8x512 .f32) (v753 : FVec F S8x512 .f32) : k0_pay134 v144 v145 v751 v753 = (addf (mulf (sl v145 81) (bro (row7 (k0_pay133 v144 v145 v751 v753)))) (sl v144 81)) := rfl
theorem k0_pay135_eq (v144 : FVec F S128x8x512 .f32) (v145 : FVec F S128x8x512 .f32) (v751 : FVec F S8x512 .f32) (v753 : FVec F S8x512 .f32) : k0_pay135 v144 v145 v751 v753 = (row7 (k0_pay134 v144 v145 v751 v753)) := rfl
theorem k0_pay136_eq (v145 : FVec F S128x8x512 .f32) : k0_pay136 v145 = (sl v145 82) := rfl
theorem k0_pay137_eq (v144 : FVec F S128x8x512 .f32) (v811 : FVec F S1x512 .f32) (v813 : FVec F S8x512 .f32) : k0_pay137 v144 v811 v813 = (addf (mulf v813 (bro v811)) (sl v144 82)) := rfl
theorem k0_pay138_eq (v144 : FVec F S128x8x512 .f32) (v145 : FVec F S128x8x512 .f32) (v811 : FVec F S1x512 .f32) (v813 : FVec F S8x512 .f32) : k0_pay138 v144 v145 v811 v813 = (addf (mulf (sl v145 83) (bro (row7 (k0_pay137 v144 v811 v813)))) (sl v144 83)) := rfl
theorem k0_pay139_eq (v144 : FVec F S128x8x512 .f32) (v145 : FVec F S128x8x512 .f32) (v811 : FVec F S1x512 .f32) (v813 : FVec F S8x512 .f32) : k0_pay139 v144 v145 v811 v813 = (addf (mulf (sl v145 84) (bro (row7 (k0_pay138 v144 v145 v811 v813)))) (sl v144 84)) := rfl
theorem k0_pay140_eq (v144 : FVec F S128x8x512 .f32) (v145 : FVec F S128x8x512 .f32) (v811 : FVec F S1x512 .f32) (v813 : FVec F S8x512 .f32) : k0_pay140 v144 v145 v811 v813 = (addf (mulf (sl v145 85) (bro (row7 (k0_pay139 v144 v145 v811 v813)))) (sl v144 85)) := rfl
theorem k0_pay141_eq (v144 : FVec F S128x8x512 .f32) (v145 : FVec F S128x8x512 .f32) (v811 : FVec F S1x512 .f32) (v813 : FVec F S8x512 .f32) : k0_pay141 v144 v145 v811 v813 = (addf (mulf (sl v145 86) (bro (row7 (k0_pay140 v144 v145 v811 v813)))) (sl v144 86)) := rfl
theorem k0_pay142_eq (v144 : FVec F S128x8x512 .f32) (v145 : FVec F S128x8x512 .f32) (v811 : FVec F S1x512 .f32) (v813 : FVec F S8x512 .f32) : k0_pay142 v144 v145 v811 v813 = (addf (mulf (sl v145 87) (bro (row7 (k0_pay141 v144 v145 v811 v813)))) (sl v144 87)) := rfl
theorem k0_pay143_eq (v144 : FVec F S128x8x512 .f32) (v145 : FVec F S128x8x512 .f32) (v811 : FVec F S1x512 .f32) (v813 : FVec F S8x512 .f32) : k0_pay143 v144 v145 v811 v813 = (addf (mulf (sl v145 88) (bro (row7 (k0_pay142 v144 v145 v811 v813)))) (sl v144 88)) := rfl
theorem k0_pay144_eq (v144 : FVec F S128x8x512 .f32) (v145 : FVec F S128x8x512 .f32) (v811 : FVec F S1x512 .f32) (v813 : FVec F S8x512 .f32) : k0_pay144 v144 v145 v811 v813 = (mulf (sl v145 89) (bro (row7 (k0_pay143 v144 v145 v811 v813)))) := rfl
theorem k0_pay145_eq (v144 : FVec F S128x8x512 .f32) : k0_pay145 v144 = (sl v144 89) := rfl
theorem k0_pay146_eq (v871 : FVec F S8x512 .f32) (v873 : FVec F S8x512 .f32) : k0_pay146 v871 v873 = (addf v871 v873) := rfl
theorem k0_pay147_eq (v144 : FVec F S128x8x512 .f32) (v145 : FVec F S128x8x512 .f32) (v871 : FVec F S8x512 .f32) (v873 : FVec F S8x512 .f32) : k0_pay147 v144 v145 v871 v873 = (addf (mulf (sl v145 90) (bro (row7 (k0_pay146 v871 v873)))) (sl v144 90)) := rfl
theorem k0_pay148_eq (v144 : FVec F S128x8x512 .f32) (v145 : FVec F S128x8x512 .f32) (v871 : FVec F S8x512 .f32) (v873 : FVec F S8x512 .f32) : k0_pay148 v144 v145 v871 v873 = (addf (mulf (sl v145 91) (bro (row7 (k0_pay147 v144 v145 v871 v873)))) (sl v144 91)) := rfl
theorem k0_pay149_eq (v144 : FVec F S128x8x512 .f32) (v145 : FVec F S128x8x512 .f32) (v871 : FVec F S8x512 .f32) (v873 : FVec F S8x512 .f32) : k0_pay149 v144 v145 v871 v873 = (addf (mulf (sl v145 92) (bro (row7 (k0_pay148 v144 v145 v871 v873)))) (sl v144 92)) := rfl
theorem k0_pay150_eq (v144 : FVec F S128x8x512 .f32) (v145 : FVec F S128x8x512 .f32) (v871 : FVec F S8x512 .f32) (v873 : FVec F S8x512 .f32) : k0_pay150 v144 v145 v871 v873 = (addf (mulf (sl v145 93) (bro (row7 (k0_pay149 v144 v145 v871 v873)))) (sl v144 93)) := rfl
theorem k0_pay151_eq (v144 : FVec F S128x8x512 .f32) (v145 : FVec F S128x8x512 .f32) (v871 : FVec F S8x512 .f32) (v873 : FVec F S8x512 .f32) : k0_pay151 v144 v145 v871 v873 = (addf (mulf (sl v145 94) (bro (row7 (k0_pay150 v144 v145 v871 v873)))) (sl v144 94)) := rfl
theorem k0_pay152_eq (v144 : FVec F S128x8x512 .f32) (v145 : FVec F S128x8x512 .f32) (v871 : FVec F S8x512 .f32) (v873 : FVec F S8x512 .f32) : k0_pay152 v144 v145 v871 v873 = (addf (mulf (sl v145 95) (bro (row7 (k0_pay151 v144 v145 v871 v873)))) (sl v144 95)) := rfl
theorem k0_pay153_eq (v144 : FVec F S128x8x512 .f32) (v145 : FVec F S128x8x512 .f32) (v871 : FVec F S8x512 .f32) (v873 : FVec F S8x512 .f32) : k0_pay153 v144 v145 v871 v873 = (addf (mulf (sl v145 96) (bro (row7 (k0_pay152 v144 v145 v871 v873)))) (sl v144 96)) := rfl
theorem k0_pay154_eq (v144 : FVec F S128x8x512 .f32) (v145 : FVec F S128x8x512 .f32) (v871 : FVec F S8x512 .f32) (v873 : FVec F S8x512 .f32) : k0_pay154 v144 v145 v871 v873 = (row7 (k0_pay153 v144 v145 v871 v873)) := rfl
theorem k0_pay155_eq (v145 : FVec F S128x8x512 .f32) : k0_pay155 v145 = (sl v145 97) := rfl
theorem k0_pay156_eq (v144 : FVec F S128x8x512 .f32) (v931 : FVec F S1x512 .f32) (v933 : FVec F S8x512 .f32) : k0_pay156 v144 v931 v933 = (addf (mulf v933 (bro v931)) (sl v144 97)) := rfl
theorem k0_pay157_eq (v144 : FVec F S128x8x512 .f32) (v145 : FVec F S128x8x512 .f32) (v931 : FVec F S1x512 .f32) (v933 : FVec F S8x512 .f32) : k0_pay157 v144 v145 v931 v933 = (addf (mulf (sl v145 98) (bro (row7 (k0_pay156 v144 v931 v933)))) (sl v144 98)) := rfl
theorem k0_pay158_eq (v144 : FVec F S128x8x512 .f32) (v145 : FVec F S128x8x512 .f32) (v931 : FVec F S1x512 .f32) (v933 : FVec F S8x512 .f32) : k0_pay158 v144 v145 v931 v933 = (addf (mulf (sl v145 99) (bro (row7 (k0_pay157 v144 v145 v931 v933)))) (sl v144 99)) := rfl
theorem k0_pay159_eq (v144 : FVec F S128x8x512 .f32) (v145 : FVec F S128x8x512 .f32) (v931 : FVec F S1x512 .f32) (v933 : FVec F S8x512 .f32) : k0_pay159 v144 v145 v931 v933 = (addf (mulf (sl v145 100) (bro (row7 (k0_pay158 v144 v145 v931 v933)))) (sl v144 100)) := rfl
theorem k0_pay160_eq (v144 : FVec F S128x8x512 .f32) (v145 : FVec F S128x8x512 .f32) (v931 : FVec F S1x512 .f32) (v933 : FVec F S8x512 .f32) : k0_pay160 v144 v145 v931 v933 = (addf (mulf (sl v145 101) (bro (row7 (k0_pay159 v144 v145 v931 v933)))) (sl v144 101)) := rfl
theorem k0_pay161_eq (v144 : FVec F S128x8x512 .f32) (v145 : FVec F S128x8x512 .f32) (v931 : FVec F S1x512 .f32) (v933 : FVec F S8x512 .f32) : k0_pay161 v144 v145 v931 v933 = (addf (mulf (sl v145 102) (bro (row7 (k0_pay160 v144 v145 v931 v933)))) (sl v144 102)) := rfl
theorem k0_pay162_eq (v144 : FVec F S128x8x512 .f32) (v145 : FVec F S128x8x512 .f32) (v931 : FVec F S1x512 .f32) (v933 : FVec F S8x512 .f32) : k0_pay162 v144 v145 v931 v933 = (addf (mulf (sl v145 103) (bro (row7 (k0_pay161 v144 v145 v931 v933)))) (sl v144 103)) := rfl
theorem k0_pay163_eq (v144 : FVec F S128x8x512 .f32) (v145 : FVec F S128x8x512 .f32) (v931 : FVec F S1x512 .f32) (v933 : FVec F S8x512 .f32) : k0_pay163 v144 v145 v931 v933 = (mulf (sl v145 104) (bro (row7 (k0_pay162 v144 v145 v931 v933)))) := rfl
theorem k0_pay164_eq (v144 : FVec F S128x8x512 .f32) : k0_pay164 v144 = (sl v144 104) := rfl
theorem k0_pay165_eq (v991 : FVec F S8x512 .f32) (v993 : FVec F S8x512 .f32) : k0_pay165 v991 v993 = (addf v991 v993) := rfl
theorem k0_pay166_eq (v144 : FVec F S128x8x512 .f32) (v145 : FVec F S128x8x512 .f32) (v991 : FVec F S8x512 .f32) (v993 : FVec F S8x512 .f32) : k0_pay166 v144 v145 v991 v993 = (addf (mulf (sl v145 105) (bro (row7 (k0_pay165 v991 v993)))) (sl v144 105)) := rfl
theorem k0_pay167_eq (v144 : FVec F S128x8x512 .f32) (v145 : FVec F S128x8x512 .f32) (v991 : FVec F S8x512 .f32) (v993 : FVec F S8x512 .f32) : k0_pay167 v144 v145 v991 v993 = (addf (mulf (sl v145 106) (bro (row7 (k0_pay166 v144 v145 v991 v993)))) (sl v144 106)) := rfl
theorem k0_pay168_eq (v144 : FVec F S128x8x512 .f32) (v145 : FVec F S128x8x512 .f32) (v991 : FVec F S8x512 .f32) (v993 : FVec F S8x512 .f32) : k0_pay168 v144 v145 v991 v993 = (addf (mulf (sl v145 107) (bro (row7 (k0_pay167 v144 v145 v991 v993)))) (sl v144 107)) := rfl
theorem k0_pay169_eq (v144 : FVec F S128x8x512 .f32) (v145 : FVec F S128x8x512 .f32) (v991 : FVec F S8x512 .f32) (v993 : FVec F S8x512 .f32) : k0_pay169 v144 v145 v991 v993 = (addf (mulf (sl v145 108) (bro (row7 (k0_pay168 v144 v145 v991 v993)))) (sl v144 108)) := rfl
theorem k0_pay170_eq (v144 : FVec F S128x8x512 .f32) (v145 : FVec F S128x8x512 .f32) (v991 : FVec F S8x512 .f32) (v993 : FVec F S8x512 .f32) : k0_pay170 v144 v145 v991 v993 = (addf (mulf (sl v145 109) (bro (row7 (k0_pay169 v144 v145 v991 v993)))) (sl v144 109)) := rfl
theorem k0_pay171_eq (v144 : FVec F S128x8x512 .f32) (v145 : FVec F S128x8x512 .f32) (v991 : FVec F S8x512 .f32) (v993 : FVec F S8x512 .f32) : k0_pay171 v144 v145 v991 v993 = (addf (mulf (sl v145 110) (bro (row7 (k0_pay170 v144 v145 v991 v993)))) (sl v144 110)) := rfl
theorem k0_pay172_eq (v144 : FVec F S128x8x512 .f32) (v145 : FVec F S128x8x512 .f32) (v991 : FVec F S8x512 .f32) (v993 : FVec F S8x512 .f32) : k0_pay172 v144 v145 v991 v993 = (addf (mulf (sl v145 111) (bro (row7 (k0_pay171 v144 v145 v991 v993)))) (sl v144 111)) := rfl
theorem k0_pay173_eq (v144 : FVec F S128x8x512 .f32) (v145 : FVec F S128x8x512 .f32) (v991 : FVec F S8x512 .f32) (v993 : FVec F S8x512 .f32) : k0_pay173 v144 v145 v991 v993 = (row7 (k0_pay172 v144 v145 v991 v993)) := rfl
theorem k0_pay174_eq (v145 : FVec F S128x8x512 .f32) : k0_pay174 v145 = (sl v145 112) := rfl
theorem k0_pay175_eq (v144 : FVec F S128x8x512 .f32) (v1051 : FVec F S1x512 .f32) (v1053 : FVec F S8x512 .f32) : k0_pay175 v144 v1051 v1053 = (addf (mulf v1053 (bro v1051)) (sl v144 112)) := rfl
theorem k0_pay176_eq (v144 : FVec F S128x8x512 .f32) (v145 : FVec F S128x8x512 .f32) (v1051 : FVec F S1x512 .f32) (v1053 : FVec F S8x512 .f32) : k0_pay176 v144 v145 v1051 v1053 = (addf (mulf (sl v145 113) (bro (row7 (k0_pay175 v144 v1051 v1053)))) (sl v144 113)) := rfl
theorem k0_pay177_eq (v144 : FVec F S128x8x512 .f32) (v145 : FVec F S128x8x512 .f32) (v1051 : FVec F S1x512 .f32) (v1053 : FVec F S8x512 .f32) : k0_pay177 v144 v145 v1051 v1053 = (addf (mulf (sl v145 114) (bro (row7 (k0_pay176 v144 v145 v1051 v1053)))) (sl v144 114)) := rfl
theorem k0_pay178_eq (v144 : FVec F S128x8x512 .f32) (v145 : FVec F S128x8x512 .f32) (v1051 : FVec F S1x512 .f32) (v1053 : FVec F S8x512 .f32) : k0_pay178 v144 v145 v1051 v1053 = (addf (mulf (sl v145 115) (bro (row7 (k0_pay177 v144 v145 v1051 v1053)))) (sl v144 115)) := rfl
theorem k0_pay179_eq (v144 : FVec F S128x8x512 .f32) (v145 : FVec F S128x8x512 .f32) (v1051 : FVec F S1x512 .f32) (v1053 : FVec F S8x512 .f32) : k0_pay179 v144 v145 v1051 v1053 = (addf (mulf (sl v145 116) (bro (row7 (k0_pay178 v144 v145 v1051 v1053)))) (sl v144 116)) := rfl
theorem k0_pay180_eq (v144 : FVec F S128x8x512 .f32) (v145 : FVec F S128x8x512 .f32) (v1051 : FVec F S1x512 .f32) (v1053 : FVec F S8x512 .f32) : k0_pay180 v144 v145 v1051 v1053 = (addf (mulf (sl v145 117) (bro (row7 (k0_pay179 v144 v145 v1051 v1053)))) (sl v144 117)) := rfl
theorem k0_pay181_eq (v144 : FVec F S128x8x512 .f32) (v145 : FVec F S128x8x512 .f32) (v1051 : FVec F S1x512 .f32) (v1053 : FVec F S8x512 .f32) : k0_pay181 v144 v145 v1051 v1053 = (addf (mulf (sl v145 118) (bro (row7 (k0_pay180 v144 v145 v1051 v1053)))) (sl v144 118)) := rfl
theorem k0_pay182_eq (v144 : FVec F S128x8x512 .f32) (v145 : FVec F S128x8x512 .f32) (v1051 : FVec F S1x512 .f32) (v1053 : FVec F S8x512 .f32) : k0_pay182 v144 v145 v1051 v1053 = (mulf (sl v145 119) (bro (row7 (k0_pay181 v144 v145 v1051 v1053)))) := rfl
theorem k0_pay183_eq (v144 : FVec F S128x8x512 .f32) : k0_pay183 v144 = (sl v144 119) := rfl
theorem k0_pay184_eq (v1111 : FVec F S8x512 .f32) (v1113 : FVec F S8x512 .f32) : k0_pay184 v1111 v1113 = (addf v1111 v1113) := rfl
theorem k0_pay185_eq (v144 : FVec F S128x8x512 .f32) (v145 : FVec F S128x8x512 .f32) (v1111 : FVec F S8x512 .f32) (v1113 : FVec F S8x512 .f32) : k0_pay185 v144 v145 v1111 v1113 = (addf (mulf (sl v145 120) (bro (row7 (k0_pay184 v1111 v1113)))) (sl v144 120)) := rfl
theorem k0_pay186_eq (v144 : FVec F S128x8x512 .f32) (v145 : FVec F S128x8x512 .f32) (v1111 : FVec F S8x512 .f32) (v1113 : FVec F S8x512 .f32) : k0_pay186 v144 v145 v1111 v1113 = (addf (mulf (sl v145 121) (bro (row7 (k0_pay185 v144 v145 v1111 v1113)))) (sl v144 121)) := rfl
theorem k0_pay187_eq (v144 : FVec F S128x8x512 .f32) (v145 : FVec F S128x8x512 .f32) (v1111 : FVec F S8x512 .f32) (v1113 : FVec F S8x512 .f32) : k0_pay187 v144 v145 v1111 v1113 = (addf (mulf (sl v145 122) (bro (row7 (k0_pay186 v144 v145 v1111 v1113)))) (sl v144 122)) := rfl
theorem k0_pay188_eq (v144 : FVec F S128x8x512 .f32) (v145 : FVec F S128x8x512 .f32) (v1111 : FVec F S8x512 .f32) (v1113 : FVec F S8x512 .f32) : k0_pay188 v144 v145 v1111 v1113 = (addf (mulf (sl v145 123) (bro (row7 (k0_pay187 v144 v145 v1111 v1113)))) (sl v144 123)) := rfl
theorem k0_pay189_eq (v144 : FVec F S128x8x512 .f32) (v145 : FVec F S128x8x512 .f32) (v1111 : FVec F S8x512 .f32) (v1113 : FVec F S8x512 .f32) : k0_pay189 v144 v145 v1111 v1113 = (addf (mulf (sl v145 124) (bro (row7 (k0_pay188 v144 v145 v1111 v1113)))) (sl v144 124)) := rfl
theorem k0_pay190_eq (v144 : FVec F S128x8x512 .f32) (v145 : FVec F S128x8x512 .f32) (v1111 : FVec F S8x512 .f32) (v1113 : FVec F S8x512 .f32) : k0_pay190 v144 v145 v1111 v1113 = (addf (mulf (sl v145 125) (bro (row7 (k0_pay189 v144 v145 v1111 v1113)))) (sl v144 125)) := rfl
theorem k0_pay191_eq (v144 : FVec F S128x8x512 .f32) (v145 : FVec F S128x8x512 .f32) (v1111 : FVec F S8x512 .f32) (v1113 : FVec F S8x512 .f32) : k0_pay191 v144 v145 v1111 v1113 = (addf (mulf (sl v145 126) (bro (row7 (k0_pay190 v144 v145 v1111 v1113)))) (sl v144 126)) := rfl
theorem k0_pay192_eq (v144 : FVec F S128x8x512 .f32) (v145 : FVec F S128x8x512 .f32) (v1111 : FVec F S8x512 .f32) (v1113 : FVec F S8x512 .f32) : k0_pay192 v144 v145 v1111 v1113 = (row7 (k0_pay191 v144 v145 v1111 v1113)) := rfl
theorem k0_pay193_eq (v145 : FVec F S128x8x512 .f32) : k0_pay193 v145 = (sl v145 127) := rfl
theorem k0_pay194_eq (v144 : FVec F S128x8x512 .f32) (v1171 : FVec F S1x512 .f32) (v1173 : FVec F S8x512 .f32) : k0_pay194 v144 v1171 v1173 = (addf (mulf v1173 (bro v1171)) (sl v144 127)) := rfl

end Cert.KernelIdeal.Proj
end
-- ==== Proof.Match.lean ====
module

public import proofs.«01_k».proof.Proof.Gen.KernelIdeal.Frame
public import proofs.«01_k».proof.Proof.RunA
public import proofs.«01_k».proof.Proof.RunB
public import proofs.«01_k».proof.Proof.Vals

@[expose] public section

set_option maxRecDepth 65536

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

/-- A load from a whole buffer is the contents cut at the rectangle. -/
theorem rd {S : Shape} {e : EltTy} (m : Memref sig .tc .vmem S e) (h : m.IsWhole) (X : S.Idx → Elt F e) (r : Rect S) :
    View.readAt (Elt F) m.view r.toLoadRect (h.unread X) = ld X r := by
  rw [View.readAt_eq_ld, h.read_unread]

/-- A covered load reads the canonical contents. -/
theorem rc {S : Shape} {e : EltTy} (m : Memref sig .tc .vmem S e) (L : List (View.Piece (Elt F) S e)) (r : Rect S) :
    m.view.readCov L r.toLoadRect = ld (canon L) r := View.readCov_eq_canon' _ _ _

/-- Where the first two pieces hold an index the later ones do not matter. -/
theorem canon_two {S : Shape} {e : EltTy} (p q : View.Piece (Elt F) S e) (L : List (View.Piece (Elt F) S e)) (y : S.Idx) (h : y ∈ p.1.set ∨ y ∈ q.1.set) :
    canon (p :: q :: L) y = canon [p, q] y := by
  obtain ⟨r, w⟩ := p
  obtain ⟨r', w'⟩ := q
  by_cases h1 : y ∈ r.set
  · obtain ⟨j, rfl⟩ : ∃ j, r.emb j = y := r.exists_idx_of_mem h1
    rw [View.canon_cons_emb, View.canon_cons_emb]
  · rw [View.canon_cons_of_not_mem ⟨r, w⟩ _ h1, View.canon_cons_of_not_mem ⟨r, w⟩ _ h1]
    have h2 : y ∈ r'.set := h.resolve_left h1
    obtain ⟨j, rfl⟩ : ∃ j, r'.emb j = y := r'.exists_idx_of_mem h2
    rw [View.canon_cons_emb, View.canon_cons_emb]

/-- The rows the convolution reads lie in the rows the buffer's two writes hold. -/
theorem tap_mem (k : ℕ) (hk : ∀ a, (![k, 0] : Fin 2 → ℕ) a + S1024x512.size a ≤ S1040x512.size a) (h8 : k ≤ 8) (j : (Rect.unit (s := S1040x512) ![k, 0] S1024x512.size hk).shape.Idx) :
    (Rect.unit (s := S1040x512) ![k, 0] S1024x512.size hk).idx j ∈ (Rect.unit (s := S1040x512) ![8, 0] S1024x512.size inb_S1040x512_S1024x512_8_0).set
      ∨ (Rect.unit (s := S1040x512) ![k, 0] S1024x512.size hk).idx j ∈ (Rect.unit (s := S1040x512) ![0, 0] S8x512.size inb_S1040x512_S8x512_0_0).set := by
  have hj0 : (j 0).val < 1024 := (j 0).isLt
  have hj1 : (j 1).val < 512 := (j 1).isLt
  have e0 : ((Rect.unit (s := S1040x512) ![k, 0] S1024x512.size hk).idx j 0).val = k + 1 * (j 0).val := rfl
  have e1 : ((Rect.unit (s := S1040x512) ![k, 0] S1024x512.size hk).idx j 1).val = 0 + 1 * (j 1).val := rfl
  by_cases h : k + (j 0).val < 8
  · right
    rw [Rect.mem_set_unit]
    intro a
    match a with
    | ⟨0, _⟩ => exact ⟨Nat.zero_le _, lt_of_eq_of_lt e0 (by show _ < 0 + 8; omega)⟩
    | ⟨1, _⟩ => exact ⟨Nat.zero_le _, lt_of_eq_of_lt e1 (by show _ < 0 + 512; omega)⟩
  · left
    rw [Rect.mem_set_unit]
    intro a
    match a with
    | ⟨0, _⟩ => exact ⟨le_of_le_of_eq (by show 8 ≤ _; omega) e0.symm, lt_of_eq_of_lt e0 (by show _ < 8 + 1024; omega)⟩
    | ⟨1, _⟩ => exact ⟨Nat.zero_le _, lt_of_eq_of_lt e1 (by show _ < 0 + 512; omega)⟩

theorem tap_three (x2 : Vec F S1x1024x1024 .f32) (x3 : Vec F S1024x2560 .bf16) (T : V8 F) (L : List (View.Piece (Elt F) S1040x512 .f32)) (k : ℕ)
    (hk : ∀ a, (![k, 0] : Fin 2 → ℕ) a + S1024x512.size a ≤ S1040x512.size a) (h8 : k ≤ 8) :
    ld (canon ((⟨Rect.unit (s := S1040x512) ![8, 0] S1024x512.size inb_S1040x512_S1024x512_8_0, uRows x2 x3⟩ : View.Piece (Elt F) S1040x512 .f32) :: ⟨Rect.unit (s := S1040x512) ![0, 0] S8x512.size inb_S1040x512_S8x512_0_0, T⟩ :: L)) (Rect.unit ![k, 0] S1024x512.size hk)
      = tap x2 x3 T k hk := by
  funext j
  exact canon_two _ _ L _ (tap_mem k hk h8 j)

section A

variable (c : Dev nD) (c : Dev nD) (i : grid0.Coords) (arg2 : Memref sig .tc .vmem S1x1024x1024 .f32) (harg2 : arg2.IsWhole) (arg3 : Memref sig .tc .vmem S1024x2560 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024x1536 .f32) (harg11 : arg11.IsWhole) (arg12 : Memref sig .tc .vmem S1x1024x512 .bf16) (harg12 : arg12.IsWhole) (arg13 : Memref sig .tc .vmem S1040x512 .f32) (harg13 : arg13.IsWhole) (arg14 : Memref sig .tc .vmem S1x512 .f32) (harg14 : arg14.IsWhole) (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32)

theorem tapA_pieces : runA.sl.H13_2 c arg2 harg2 arg3 harg3 x2 x3 = ⟨Rect.unit ![8, 0] S1024x512.size inb_S1040x512_S1024x512_8_0, uRows x2 x3⟩ :: ⟨Rect.unit ![0, 0] S8x512.size inb_S1040x512_S8x512_0_0, k0_pay3⟩ :: [] := by
  unfold runA.sl.H13_2
  rw [rd, rd]
  rfl
theorem tapA_8 : runA.sl.v22 c arg2 harg2 arg3 harg3 arg13 x2 x3 = tap x2 x3 k0_pay3 8 inb_S1040x512_S1024x512_8_0 := by
  unfold runA.sl.v22
  rw [rc, tapA_pieces]
theorem tapA_5 : runA.sl.v29 c arg2 harg2 arg3 harg3 arg13 x2 x3 = tap x2 x3 k0_pay3 5 inb_S1040x512_S1024x512_5_0 := by
  unfold runA.sl.v29
  rw [rc, tapA_pieces]
theorem tapA_6 : runA.sl.v35 c arg2 harg2 arg3 harg3 arg13 x2 x3 = tap x2 x3 k0_pay3 6 inb_S1040x512_S1024x512_6_0 := by
  unfold runA.sl.v35
  rw [rc, tapA_pieces]
theorem tapA_7 : runA.sl.v41 c arg2 harg2 arg3 harg3 arg13 x2 x3 = tap x2 x3 k0_pay3 7 inb_S1040x512_S1024x512_7_0 := by
  unfold runA.sl.v41
  rw [rc, tapA_pieces]
theorem coefA_B : runA.sl.r_13 c arg2 harg2 arg3 harg3 arg4 harg4 arg5 harg5 arg6 harg6 arg7 harg7 arg8 harg8 arg9 harg9 arg13 x2 x3 x4 x5 x6 x7 x8 x9 = coefB x2 x3 x4 x5 x6 x7 x8 x9 k0_pay3 := by
  simp only [runA.sl.r_13, runA.sl.r_2, runA.sl.r_3, runA.sl.r_4, runA.sl.r_5, runA.sl.r_6, runA.sl.r_7, runA.sl.r_8, runA.sl.r_9, runA.sl.r_10, runA.sl.r_11, runA.sl.r_12, tapA_5, tapA_6, tapA_7, tapA_8, rd]
  rfl
theorem coefA_A : runA.sl.r_14 c arg2 harg2 arg3 harg3 arg4 harg4 arg5 harg5 arg6 harg6 arg7 harg7 arg9 harg9 arg13 x2 x3 x4 x5 x6 x7 x9 = coefA x2 x3 x4 x5 x6 x7 x9 k0_pay3 := by
  simp only [runA.sl.r_14, runA.sl.r_2, runA.sl.r_3, runA.sl.r_4, runA.sl.r_5, runA.sl.r_6, runA.sl.r_7, runA.sl.r_8, runA.sl.r_9, runA.sl.r_10, runA.sl.r_11, runA.sl.r_12, tapA_5, tapA_6, tapA_7, tapA_8, rd]
  rfl
theorem gateA : runA.sl.r_1 c arg2 harg2 arg3 harg3 x2 x3 = gRows x2 x3 := by
  simp only [runA.sl.r_1, rd]
  rfl
theorem carryA : runA.sl.v146 c arg14 = (k0_pay4 : V1 F) := View.readCov_cons_toLoadRect _ _ _ _

set_option maxHeartbeats 4000000 in
theorem ygateA : runA.sl.r_176 c arg2 harg2 arg3 harg3 arg4 harg4 arg5 harg5 arg6 harg6 arg7 harg7 arg8 harg8 arg9 harg9 arg13 arg14 x2 x3 x4 x5 x6 x7 x8 x9 = ygate (gRows x2 x3) (coefA x2 x3 x4 x5 x6 x7 x9 k0_pay3) (coefB x2 x3 x4 x5 x6 x7 x8 x9 k0_pay3) k0_pay4 := by
  simp only [runA.sl.r_176, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.r_156, runA.sl.r_157, runA.sl.r_158, runA.sl.r_159, runA.sl.r_160, runA.sl.r_161, runA.sl.r_162, runA.sl.r_163, runA.sl.r_164, runA.sl.r_165, runA.sl.r_166, runA.sl.r_167, runA.sl.r_168, runA.sl.r_169, runA.sl.r_170, runA.sl.r_171, runA.sl.r_172, runA.sl.r_173, runA.sl.r_174, runA.sl.r_175, coefA_A, coefA_B, gateA, carryA]
  generalize coefA x2 x3 x4 x5 x6 x7 x9 k0_pay3 = P
  generalize coefB x2 x3 x4 x5 x6 x7 x8 x9 k0_pay3 = Q
  generalize gRows x2 x3 = G
  simp only [k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay78_eq, k0_pay79_eq, k0_pay80_eq, k0_pay81_eq, k0_pay82_eq, k0_pay83_eq, k0_pay84_eq, k0_pay85_eq, k0_pay86_eq, k0_pay87_eq, k0_pay88_eq, k0_pay89_eq, k0_pay90_eq, k0_pay91_eq, k0_pay92_eq, k0_pay93_eq, k0_pay94_eq, k0_pay95_eq, k0_pay96_eq, k0_pay97_eq, k0_pay98_eq, k0_pay99_eq, k0_pay100_eq, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay128_eq, k0_pay129_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay144_eq, k0_pay145_eq, k0_pay146_eq, k0_pay147_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, k0_pay165_eq, k0_pay166_eq, k0_pay167_eq, k0_pay168_eq, k0_pay169_eq, k0_pay170_eq, k0_pay171_eq, k0_pay172_eq, k0_pay173_eq, k0_pay174_eq, k0_pay175_eq, k0_pay176_eq, k0_pay177_eq, k0_pay178_eq, k0_pay179_eq, k0_pay180_eq, k0_pay181_eq, k0_pay182_eq, k0_pay183_eq, k0_pay184_eq, k0_pay185_eq, k0_pay186_eq, k0_pay187_eq, k0_pay188_eq, k0_pay189_eq, k0_pay190_eq, k0_pay191_eq, k0_pay192_eq, k0_pay193_eq, k0_pay194_eq, ygate, hs_zero, hs_succ]

end A

section B

variable (c : Dev nD) (c : Dev nD) (i : grid0.Coords) (arg2 : Memref sig .tc .vmem S1x1024x1024 .f32) (harg2 : arg2.IsWhole) (arg3 : Memref sig .tc .vmem S1024x2560 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024x1536 .f32) (harg11 : arg11.IsWhole) (arg12 : Memref sig .tc .vmem S1x1024x512 .bf16) (harg12 : arg12.IsWhole) (arg13 : Memref sig .tc .vmem S1040x512 .f32) (harg13 : arg13.IsWhole) (arg14 : Memref sig .tc .vmem S1x512 .f32) (harg14 : arg14.IsWhole) (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32) (T : V8 F) (x14 : V1 F)

theorem tapB_pieces : runB.sl.H13_3 c arg2 harg2 arg3 harg3 arg13 x2 x3 T = ⟨Rect.unit ![8, 0] S1024x512.size inb_S1040x512_S1024x512_8_0, uRows x2 x3⟩ :: ⟨Rect.unit ![0, 0] S8x512.size inb_S1040x512_S8x512_0_0, (k0_pay5 T)⟩ :: [⟨Rect.unit ![1024, 0] S8x512.size inb_S1040x512_S8x512_1024_0, T⟩] := by
  unfold runB.sl.H13_3 runB.sl.v1226
  rw [rd, rd, View.readCov_cons_toLoadRect]
  rfl
theorem tapB_8 : runB.sl.v22 c arg2 harg2 arg3 harg3 arg13 x2 x3 T = tap x2 x3 (k0_pay5 T) 8 inb_S1040x512_S1024x512_8_0 := by
  unfold runB.sl.v22
  rw [rc, tapB_pieces]
  exact tap_three _ _ _ _ 8 _ (by decide)
theorem tapB_5 : runB.sl.v29 c arg2 harg2 arg3 harg3 arg13 x2 x3 T = tap x2 x3 (k0_pay5 T) 5 inb_S1040x512_S1024x512_5_0 := by
  unfold runB.sl.v29
  rw [rc, tapB_pieces]
  exact tap_three _ _ _ _ 5 _ (by decide)
theorem tapB_6 : runB.sl.v35 c arg2 harg2 arg3 harg3 arg13 x2 x3 T = tap x2 x3 (k0_pay5 T) 6 inb_S1040x512_S1024x512_6_0 := by
  unfold runB.sl.v35
  rw [rc, tapB_pieces]
  exact tap_three _ _ _ _ 6 _ (by decide)
theorem tapB_7 : runB.sl.v41 c arg2 harg2 arg3 harg3 arg13 x2 x3 T = tap x2 x3 (k0_pay5 T) 7 inb_S1040x512_S1024x512_7_0 := by
  unfold runB.sl.v41
  rw [rc, tapB_pieces]
  exact tap_three _ _ _ _ 7 _ (by decide)
theorem coefB_B : runB.sl.r_13 c arg2 harg2 arg3 harg3 arg4 harg4 arg5 harg5 arg6 harg6 arg7 harg7 arg8 harg8 arg9 harg9 arg13 x2 x3 x4 x5 x6 x7 x8 x9 T = coefB x2 x3 x4 x5 x6 x7 x8 x9 (k0_pay5 T) := by
  simp only [runB.sl.r_13, runB.sl.r_2, runB.sl.r_3, runB.sl.r_4, runB.sl.r_5, runB.sl.r_6, runB.sl.r_7, runB.sl.r_8, runB.sl.r_9, runB.sl.r_10, runB.sl.r_11, runB.sl.r_12, tapB_5, tapB_6, tapB_7, tapB_8, rd]
  rfl
theorem coefB_A : runB.sl.r_14 c arg2 harg2 arg3 harg3 arg4 harg4 arg5 harg5 arg6 harg6 arg7 harg7 arg9 harg9 arg13 x2 x3 x4 x5 x6 x7 x9 T = coefA x2 x3 x4 x5 x6 x7 x9 (k0_pay5 T) := by
  simp only [runB.sl.r_14, runB.sl.r_2, runB.sl.r_3, runB.sl.r_4, runB.sl.r_5, runB.sl.r_6, runB.sl.r_7, runB.sl.r_8, runB.sl.r_9, runB.sl.r_10, runB.sl.r_11, runB.sl.r_12, tapB_5, tapB_6, tapB_7, tapB_8, rd]
  rfl
theorem gateB : runB.sl.r_1 c arg2 harg2 arg3 harg3 x2 x3 = gRows x2 x3 := by
  simp only [runB.sl.r_1, rd]
  rfl
theorem carryB : runB.sl.r_15 c arg14 harg14 x14 = lrow x14 := rd _ _ _ _

set_option maxHeartbeats 4000000 in
theorem ygateB : runB.sl.r_177 c arg2 harg2 arg3 harg3 arg4 harg4 arg5 harg5 arg6 harg6 arg7 harg7 arg8 harg8 arg9 harg9 arg13 arg14 harg14 x2 x3 x4 x5 x6 x7 x8 x9 T x14 = ygate (gRows x2 x3) (coefA x2 x3 x4 x5 x6 x7 x9 (k0_pay5 T)) (coefB x2 x3 x4 x5 x6 x7 x8 x9 (k0_pay5 T)) (lrow x14) := by
  simp only [runB.sl.r_177, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.r_157, runB.sl.r_158, runB.sl.r_159, runB.sl.r_160, runB.sl.r_161, runB.sl.r_162, runB.sl.r_163, runB.sl.r_164, runB.sl.r_165, runB.sl.r_166, runB.sl.r_167, runB.sl.r_168, runB.sl.r_169, runB.sl.r_170, runB.sl.r_171, runB.sl.r_172, runB.sl.r_173, runB.sl.r_174, runB.sl.r_175, runB.sl.r_176, coefB_A, coefB_B, gateB, carryB]
  generalize coefA x2 x3 x4 x5 x6 x7 x9 (k0_pay5 T) = P
  generalize coefB x2 x3 x4 x5 x6 x7 x8 x9 (k0_pay5 T) = Q
  generalize gRows x2 x3 = G
  simp only [k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay78_eq, k0_pay79_eq, k0_pay80_eq, k0_pay81_eq, k0_pay82_eq, k0_pay83_eq, k0_pay84_eq, k0_pay85_eq, k0_pay86_eq, k0_pay87_eq, k0_pay88_eq, k0_pay89_eq, k0_pay90_eq, k0_pay91_eq, k0_pay92_eq, k0_pay93_eq, k0_pay94_eq, k0_pay95_eq, k0_pay96_eq, k0_pay97_eq, k0_pay98_eq, k0_pay99_eq, k0_pay100_eq, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay128_eq, k0_pay129_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay144_eq, k0_pay145_eq, k0_pay146_eq, k0_pay147_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, k0_pay165_eq, k0_pay166_eq, k0_pay167_eq, k0_pay168_eq, k0_pay169_eq, k0_pay170_eq, k0_pay171_eq, k0_pay172_eq, k0_pay173_eq, k0_pay174_eq, k0_pay175_eq, k0_pay176_eq, k0_pay177_eq, k0_pay178_eq, k0_pay179_eq, k0_pay180_eq, k0_pay181_eq, k0_pay182_eq, k0_pay183_eq, k0_pay184_eq, k0_pay185_eq, k0_pay186_eq, k0_pay187_eq, k0_pay188_eq, k0_pay189_eq, k0_pay190_eq, k0_pay191_eq, k0_pay192_eq, k0_pay193_eq, k0_pay194_eq, ygate, hs_zero, hs_succ]

end B

end Cert.KernelIdeal.Proj
end
-- ==== Proof.Trip.lean ====
module

public import proofs.«01_k».proof.Proof.Gen.KernelIdeal.Frame
public import proofs.«01_k».proof.Proof.RunA
public import proofs.«01_k».proof.Proof.RunB
public import proofs.«01_k».proof.Proof.Vals
public import proofs.«01_k».proof.Proof.Match

@[expose] public section

set_option maxRecDepth 65536

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

/-- A write of what the buffer already reads there leaves it as it was. -/
theorem writes_same {S : Shape} {e : EltTy} (m : Memref sig .tc .vmem S e) (h : m.IsWhole) (f : m.view.ty.Contents (Elt F)) (r : Rect S) (w : r.shape.Idx → Elt F e)
    (hw : ld (m.view.read (Elt F) f) r = w) : m.view.writes (Elt F) f [⟨r, w⟩] = f := by
  have e : m.view.read (Elt F) (m.view.writes (Elt F) f [⟨r, w⟩]) = m.view.read (Elt F) f := by
    funext y
    by_cases hy : y ∈ r.set
    · obtain ⟨j, rfl⟩ : ∃ j, r.emb j = y := r.exists_idx_of_mem hy
      rw [View.read_writes_cons_emb, ← hw]
      rfl
    · have hy' : y ∉ Finset.univ.map r.emb := by rwa [Rect.map_emb_univ]
      rw [View.writes_cons, View.read_slice_write_of_not_mem r _ _ _ hy', View.writes_nil]
  exact (h.eq_unread e).trans (h.eq_unread rfl).symm

/-- What a whole-shape write leaves is its payload. -/
theorem read_whole {S : Shape} {e : EltTy} (m : Memref sig .tc .vmem S e) (f : m.view.ty.Contents (Elt F)) (r : Rect S) (L : List (View.Piece (Elt F) S e)) (X : S.Idx → Elt F e)
    (hr : ∀ y, y ∈ r.set) : m.view.read (Elt F) (m.view.writes (Elt F) f (⟨r, ld X r⟩ :: L)) = X := by
  funext y
  obtain ⟨j, rfl⟩ : ∃ j, r.emb j = y := r.exists_idx_of_mem (hr y)
  rw [View.read_writes_cons_emb]
  rfl

theorem ld_zero {S : Shape} {e : EltTy} (X : S.Idx → Elt F e) (off : Fin S.rank → ℕ) (h0 : off = fun _ => 0) (inb : ∀ a, off a + S.size a ≤ S.size a) :
    ld X (Rect.unit off S.size inb) = X := by
  subst h0
  funext j
  exact congrArg X (funext fun a => Fin.ext (by show 0 + 1 * (j a).val = (j a).val; omega))

theorem read_whole0 {S : Shape} {e : EltTy} (m : Memref sig .tc .vmem S e) (f : m.view.ty.Contents (Elt F)) (off : Fin S.rank → ℕ) (h0 : off = fun _ => 0) (inb : ∀ a, off a + S.size a ≤ S.size a) (L : List (View.Piece (Elt F) S e)) (X : S.Idx → Elt F e) :
    m.view.read (Elt F) (m.view.writes (Elt F) f (⟨Rect.unit off S.size inb, X⟩ :: L)) = X := by
  subst h0
  refine Eq.trans ?_ (read_whole m f (Rect.unit (fun _ => 0) S.size inb) L X (fun y => Rect.mem_set_unit.mpr fun a => ⟨Nat.zero_le _, by have := (y a).isLt; omega⟩))
  rw [ld_zero X _ rfl inb]

theorem qkv_cover (x2 : Vec F S1x1024x1024 .f32) (x3 : Vec F S1024x2560 .bf16) (y : S1x1024x1536.Idx) : ∃ p ∈ qkvPieces x2 x3, y ∈ p.1.set :=
  View.cover_of_tiledL (qkvPieces x2 x3) S1x1024x512.size (by sl_kernel_rfl) y

/-- The rows 1024 to 1031 of the convolution's buffer are the chunk's. -/
theorem tail_mem (j : (Rect.unit (s := S1040x512) ![1024, 0] S8x512.size inb_S1040x512_S8x512_1024_0).shape.Idx) :
    (Rect.unit (s := S1040x512) ![1024, 0] S8x512.size inb_S1040x512_S8x512_1024_0).idx j ∈ (Rect.unit (s := S1040x512) ![8, 0] S1024x512.size inb_S1040x512_S1024x512_8_0).set := by
  have hj0 : (j 0).val < 8 := (j 0).isLt
  have hj1 : (j 1).val < 512 := (j 1).isLt
  have e0 : ((Rect.unit (s := S1040x512) ![1024, 0] S8x512.size inb_S1040x512_S8x512_1024_0).idx j 0).val = 1024 + 1 * (j 0).val := rfl
  have e1 : ((Rect.unit (s := S1040x512) ![1024, 0] S8x512.size inb_S1040x512_S8x512_1024_0).idx j 1).val = 0 + 1 * (j 1).val := rfl
  rw [Rect.mem_set_unit]
  intro a
  match a with
  | ⟨0, _⟩ => exact ⟨le_of_le_of_eq (by show 8 ≤ _; omega) e0.symm, lt_of_eq_of_lt e0 (by show _ < 8 + 1024; omega)⟩
  | ⟨1, _⟩ => exact ⟨Nat.zero_le _, lt_of_eq_of_lt e1 (by show _ < 0 + 512; omega)⟩

theorem tail_gen {S : Shape} {e : EltTy} (m : Memref sig .tc .vmem S e) (h : m.IsWhole) (f : m.view.ty.Contents (Elt F)) (r8 r0 rt : Rect S) (U : r8.shape.Idx → Elt F e) (T : r0.shape.Idx → Elt F e) (L : List (View.Piece (Elt F) S e)) (hm : ∀ j, rt.idx j ∈ r8.set) :
    m.view.writes (Elt F) (m.view.writes (Elt F) f (⟨r8, U⟩ :: ⟨r0, T⟩ :: L)) [⟨rt, ld (canon [⟨r8, U⟩, ⟨r0, T⟩]) rt⟩]
      = m.view.writes (Elt F) f (⟨r8, U⟩ :: ⟨r0, T⟩ :: L) := by
  refine writes_same m h _ rt _ ?_
  funext j
  show m.view.read (Elt F) _ (rt.idx j) = canon _ (rt.idx j)
  exact (View.read_writes_apply_eq_canon m.view f (rt.idx j) (⟨r8, U⟩ :: ⟨r0, T⟩ :: L) ⟨_, List.mem_cons_self, hm j⟩).trans (canon_two ⟨r8, U⟩ ⟨r0, T⟩ L _ (.inl (hm j)))

/-- So the writes of a body leave `tailOf` there. -/
theorem tail_after (x2 : Vec F S1x1024x1024 .f32) (x3 : Vec F S1024x2560 .bf16) (T : V8 F) (L : List (View.Piece (Elt F) S1040x512 .f32)) (m : Memref sig .tc .vmem S1040x512 .f32) (h : m.IsWhole) (f : m.view.ty.Contents (Elt F)) :
    m.view.writes (Elt F) (m.view.writes (Elt F) f (⟨Rect.unit ![8, 0] S1024x512.size inb_S1040x512_S1024x512_8_0, uRows x2 x3⟩ :: ⟨Rect.unit ![0, 0] S8x512.size inb_S1040x512_S8x512_0_0, T⟩ :: L))
        [⟨Rect.unit ![1024, 0] S8x512.size inb_S1040x512_S8x512_1024_0, tailOf x2 x3 T⟩]
      = m.view.writes (Elt F) f (⟨Rect.unit ![8, 0] S1024x512.size inb_S1040x512_S1024x512_8_0, uRows x2 x3⟩ :: ⟨Rect.unit ![0, 0] S8x512.size inb_S1040x512_S8x512_0_0, T⟩ :: L) :=
  tail_gen m h f (Rect.unit ![8, 0] S1024x512.size inb_S1040x512_S1024x512_8_0) (Rect.unit ![0, 0] S8x512.size inb_S1040x512_S8x512_0_0) (Rect.unit ![1024, 0] S8x512.size inb_S1040x512_S8x512_1024_0) (uRows x2 x3) T L tail_mem

section A

variable (c : Dev nD) (i : grid0.Coords) (arg2 : Memref sig .tc .vmem S1x1024x1024 .f32) (harg2 : arg2.IsWhole) (arg3 : Memref sig .tc .vmem S1024x2560 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024x1536 .f32) (harg11 : arg11.IsWhole) (arg12 : Memref sig .tc .vmem S1x1024x512 .bf16) (harg12 : arg12.IsWhole) (arg13 : Memref sig .tc .vmem S1040x512 .f32) (harg13 : arg13.IsWhole) (arg14 : Memref sig .tc .vmem S1x512 .f32) (harg14 : arg14.IsWhole) (hc0 : zeroAt i) (hc1 : ¬ keepAt i) (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32)

set_option maxHeartbeats 4000000 in
theorem yrmsA : runA.sl.r_177 c arg2 harg2 arg3 harg3 arg4 harg4 arg5 harg5 arg6 harg6 arg7 harg7 arg8 harg8 arg9 harg9 arg13 arg14 x2 x3 x4 x5 x6 x7 x8 x9 = yrms (gRows x2 x3) (coefA x2 x3 x4 x5 x6 x7 x9 k0_pay3) (coefB x2 x3 x4 x5 x6 x7 x8 x9 k0_pay3) k0_pay4 := by
  simp only [runA.sl.r_177, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.r_156, runA.sl.r_157, runA.sl.r_158, runA.sl.r_159, runA.sl.r_160, runA.sl.r_161, runA.sl.r_162, runA.sl.r_163, runA.sl.r_164, runA.sl.r_165, runA.sl.r_166, runA.sl.r_167, runA.sl.r_168, runA.sl.r_169, runA.sl.r_170, runA.sl.r_171, runA.sl.r_172, runA.sl.r_173, runA.sl.r_174, runA.sl.r_175, coefA_A, coefA_B, gateA, carryA]
  generalize coefA x2 x3 x4 x5 x6 x7 x9 k0_pay3 = P
  generalize coefB x2 x3 x4 x5 x6 x7 x8 x9 k0_pay3 = Q
  generalize gRows x2 x3 = G
  simp only [k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay78_eq, k0_pay79_eq, k0_pay80_eq, k0_pay81_eq, k0_pay82_eq, k0_pay83_eq, k0_pay84_eq, k0_pay85_eq, k0_pay86_eq, k0_pay87_eq, k0_pay88_eq, k0_pay89_eq, k0_pay90_eq, k0_pay91_eq, k0_pay92_eq, k0_pay93_eq, k0_pay94_eq, k0_pay95_eq, k0_pay96_eq, k0_pay97_eq, k0_pay98_eq, k0_pay99_eq, k0_pay100_eq, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay128_eq, k0_pay129_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay144_eq, k0_pay145_eq, k0_pay146_eq, k0_pay147_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, k0_pay165_eq, k0_pay166_eq, k0_pay167_eq, k0_pay168_eq, k0_pay169_eq, k0_pay170_eq, k0_pay171_eq, k0_pay172_eq, k0_pay173_eq, k0_pay174_eq, k0_pay175_eq, k0_pay176_eq, k0_pay177_eq, k0_pay178_eq, k0_pay179_eq, k0_pay180_eq, k0_pay181_eq, k0_pay182_eq, k0_pay183_eq, k0_pay184_eq, k0_pay185_eq, k0_pay186_eq, k0_pay187_eq, k0_pay188_eq, k0_pay189_eq, k0_pay190_eq, k0_pay191_eq, k0_pay192_eq, k0_pay193_eq, k0_pay194_eq, yrms, hs_zero, hs_succ]

set_option maxHeartbeats 4000000 in
theorem lastA : k0_pay195 (runA.sl.r_13 c arg2 harg2 arg3 harg3 arg4 harg4 arg5 harg5 arg6 harg6 arg7 harg7 arg8 harg8 arg9 harg9 arg13 x2 x3 x4 x5 x6 x7 x8 x9) (runA.sl.r_174 c arg2 harg2 arg3 harg3 arg4 harg4 arg5 harg5 arg6 harg6 arg7 harg7 arg8 harg8 arg9 harg9 arg13 arg14 x2 x3 x4 x5 x6 x7 x8 x9) (runA.sl.r_175 c arg2 harg2 arg3 harg3 arg4 harg4 arg5 harg5 arg6 harg6 arg7 harg7 arg9 harg9 arg13 x2 x3 x4 x5 x6 x7 x9)
    = hOf x2 x3 x4 x5 x6 x7 x8 x9 k0_pay3 k0_pay4 := by
  unfold hOf
  simp only [runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.r_156, runA.sl.r_157, runA.sl.r_158, runA.sl.r_159, runA.sl.r_160, runA.sl.r_161, runA.sl.r_162, runA.sl.r_163, runA.sl.r_164, runA.sl.r_165, runA.sl.r_166, runA.sl.r_167, runA.sl.r_168, runA.sl.r_169, runA.sl.r_170, runA.sl.r_171, runA.sl.r_172, runA.sl.r_173, runA.sl.r_174, runA.sl.r_175, coefA_A, coefA_B, carryA]
  generalize coefA x2 x3 x4 x5 x6 x7 x9 k0_pay3 = P
  generalize coefB x2 x3 x4 x5 x6 x7 x8 x9 k0_pay3 = Q
  simp only [k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay78_eq, k0_pay79_eq, k0_pay80_eq, k0_pay81_eq, k0_pay82_eq, k0_pay83_eq, k0_pay84_eq, k0_pay85_eq, k0_pay86_eq, k0_pay87_eq, k0_pay88_eq, k0_pay89_eq, k0_pay90_eq, k0_pay91_eq, k0_pay92_eq, k0_pay93_eq, k0_pay94_eq, k0_pay95_eq, k0_pay96_eq, k0_pay97_eq, k0_pay98_eq, k0_pay99_eq, k0_pay100_eq, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay128_eq, k0_pay129_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay144_eq, k0_pay145_eq, k0_pay146_eq, k0_pay147_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, k0_pay165_eq, k0_pay166_eq, k0_pay167_eq, k0_pay168_eq, k0_pay169_eq, k0_pay170_eq, k0_pay171_eq, k0_pay172_eq, k0_pay173_eq, k0_pay174_eq, k0_pay175_eq, k0_pay176_eq, k0_pay177_eq, k0_pay178_eq, k0_pay179_eq, k0_pay180_eq, k0_pay181_eq, k0_pay182_eq, k0_pay183_eq, k0_pay184_eq, k0_pay185_eq, k0_pay186_eq, k0_pay187_eq, k0_pay188_eq, k0_pay189_eq, k0_pay190_eq, k0_pay191_eq, k0_pay192_eq, k0_pay193_eq, k0_pay194_eq, hs_zero, hs_succ]

theorem qkvA : (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1 = qkvPieces x2 x3 := by
  refine Eq.trans (b := [⟨Rect.unit ![0, 0, 1024] S1x1024x512.size inb_S1x1024x1536_S1x1024x512_0_0_1024, k0_pay196 (runA.sl.r c arg2 harg2 x2) (View.readAt (Elt F) arg3.view (Rect.unit (s := S1024x2560) ![0, 1024] S1024x512.size inb_S1024x2560_S1024x512_0_1024).toLoadRect (harg3.unread x3))⟩,
    ⟨Rect.unit ![0, 0, 512] S1x1024x512.size inb_S1x1024x1536_S1x1024x512_0_0_512, k0_pay31 (runA.sl.r c arg2 harg2 x2) (View.readAt (Elt F) arg3.view (Rect.unit (s := S1024x2560) ![0, 512] S1024x512.size inb_S1024x2560_S1024x512_0_512).toLoadRect (harg3.unread x3))⟩,
    ⟨Rect.unit ![0, 0, 0] S1x1024x512.size inb_S1x1024x1536_S1x1024x512_0_0_0, k0_pay19 (runA.sl.r c arg2 harg2 x2) (View.readAt (Elt F) arg3.view (Rect.unit (s := S1024x2560) ![0, 0] S1024x512.size inb_S1024x2560_S1024x512_0_0).toLoadRect (harg3.unread x3))⟩]) rfl ?_
  unfold runA.sl.r
  rw [rd, rd, rd, rd]

theorem yA : (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).2.1 = [⟨Rect.unit ![0, 0, 0] S1x1024x512.size inb_S1x1024x512_S1x1024x512_0_0_0, yOf x2 x3 x4 x5 x6 x7 x8 x9 x10 k0_pay3 k0_pay4⟩] := by
  refine Eq.trans (b := [⟨Rect.unit ![0, 0, 0] S1x1024x512.size inb_S1x1024x512_S1x1024x512_0_0_0, k0_pay1 (runA.sl.r_176 c arg2 harg2 arg3 harg3 arg4 harg4 arg5 harg5 arg6 harg6 arg7 harg7 arg8 harg8 arg9 harg9 arg13 arg14 x2 x3 x4 x5 x6 x7 x8 x9) (runA.sl.r_177 c arg2 harg2 arg3 harg3 arg4 harg4 arg5 harg5 arg6 harg6 arg7 harg7 arg8 harg8 arg9 harg9 arg13 arg14 x2 x3 x4 x5 x6 x7 x8 x9) (View.readAt (Elt F) arg10.view (Rect.unit ![0, 0] S1x512.size inb_S1x512_S1x512_0_0).toLoadRect (harg10.unread x10))⟩]) rfl ?_
  rw [rd, yrmsA, ygateA]
  rfl

theorem uA : (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).2.2.1 = ⟨Rect.unit ![8, 0] S1024x512.size inb_S1040x512_S1024x512_8_0, uRows x2 x3⟩ :: ⟨Rect.unit ![0, 0] S8x512.size inb_S1040x512_S8x512_0_0, k0_pay3⟩ :: [] :=
  Eq.trans (b := runA.sl.H13_2 c arg2 harg2 arg3 harg3 x2 x3) rfl (tapA_pieces ..)

theorem hA : (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).2.2.2.1 = ⟨Rect.unit ![0, 0] S1x512.size inb_S1x512_S1x512_0_0, hOf x2 x3 x4 x5 x6 x7 x8 x9 k0_pay3 k0_pay4⟩ :: runA.sl.H14_1 := by
  refine Eq.trans (b := ⟨Rect.unit ![0, 0] S1x512.size inb_S1x512_S1x512_0_0, k0_pay195 (runA.sl.r_13 c arg2 harg2 arg3 harg3 arg4 harg4 arg5 harg5 arg6 harg6 arg7 harg7 arg8 harg8 arg9 harg9 arg13 x2 x3 x4 x5 x6 x7 x8 x9) (runA.sl.r_174 c arg2 harg2 arg3 harg3 arg4 harg4 arg5 harg5 arg6 harg6 arg7 harg7 arg8 harg8 arg9 harg9 arg13 arg14 x2 x3 x4 x5 x6 x7 x8 x9) (runA.sl.r_175 c arg2 harg2 arg3 harg3 arg4 harg4 arg5 harg5 arg6 harg6 arg7 harg7 arg9 harg9 arg13 x2 x3 x4 x5 x6 x7 x9)⟩ :: runA.sl.H14_1) rfl ?_
  rw [lastA]

set_option maxHeartbeats 4000000 in
include hc0 hc1 in
/-- The body's triple in this case. -/
theorem tripA (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (qkvOf x2 x3) ∗ owns (c : Thread nD τ) arg12 fullShare (yOf x2 x3 x4 x5 x6 x7 x8 x9 x10 k0_pay3 k0_pay4)
            ∗ tailIs c arg13 (tailOf x2 x3 k0_pay3) ∗ owns (c : Thread nD τ) arg14 fullShare (hOf x2 x3 x4 x5 x6 x7 x8 x9 k0_pay3 k0_pay4)) -∗ K ⟨⟩))
      ⊢ wp frame (wpE (defs₀ (F := F)) Variants.none c none) E (cc0_proj_rglru i arg2 harg2 arg3 harg3 arg4 harg4 arg5 harg5 arg6 harg6 arg7 harg7 arg8 harg8 arg9 harg9 arg10 harg10 arg11 harg11 arg12 harg12 arg13 harg13 arg14 harg14) K := by
  have e1 := qkvA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10
  have e2 := yA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10
  have e3 := uA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10
  have e4 := hA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10
  generalize (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10) = W at e1 e2 e3 e4
  obtain ⟨L11, L12, L13, L14, run⟩ := W
  dsimp only at e1 e2 e3 e4
  subst e1 e2 e3 e4
  replace run := run E K
  generalize yOf x2 x3 x4 x5 x6 x7 x8 x9 x10 k0_pay3 k0_pay4 = Y at run ⊢
  generalize hOf x2 x3 x4 x5 x6 x7 x8 x9 k0_pay3 k0_pay4 = Z at run ⊢
  iintro ⟨H2, H3, H4, H5, H6, H7, H8, H9, H10, H11, H12, H13, H14, Hk⟩
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, ⟨%f11, H11⟩, ⟨%f12, H12⟩, ⟨%f13, H13⟩, ⟨%f14, H14⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (qkv_cover x2 x3)
  isplitl [H12]
  · unfold owns; iexists _; isplitr
    swap; · iexact H12
    ipureintro
    exact read_whole0 arg12 f12 ![0, 0, 0] (by decide) inb_S1x1024x512_S1x1024x512_0_0_0 [] Y
  isplitl [H13]
  · unfold tailIs; iexists _
    rw [tail_after x2 x3 k0_pay3 [] arg13 harg13 f13]
    iexact H13
  unfold owns; iexists _; isplitr
  swap; · iexact H14
  ipureintro
  exact read_whole0 arg14 f14 ![0, 0] (by decide) inb_S1x512_S1x512_0_0 _ Z

end A

section B

variable (c : Dev nD) (i : grid0.Coords) (arg2 : Memref sig .tc .vmem S1x1024x1024 .f32) (harg2 : arg2.IsWhole) (arg3 : Memref sig .tc .vmem S1024x2560 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024x1536 .f32) (harg11 : arg11.IsWhole) (arg12 : Memref sig .tc .vmem S1x1024x512 .bf16) (harg12 : arg12.IsWhole) (arg13 : Memref sig .tc .vmem S1040x512 .f32) (harg13 : arg13.IsWhole) (arg14 : Memref sig .tc .vmem S1x512 .f32) (harg14 : arg14.IsWhole) (hc0 : ¬ zeroAt i) (hc1 : keepAt i) (x2 : Vec F S1x1024x1024 .f32) (x3 : Vec F S1024x2560 .bf16) (x4 : Vec F S4x512 .f32) (x5 : Vec F S1x512 .f32) (x6 : Vec F S512x1024 .bf16) (x7 : Vec F S1x512 .f32) (x8 : Vec F S1x512 .f32) (x9 : Vec F S1x512 .f32) (x10 : Vec F S1x512 .f32) (T : V8 F) (x14 : V1 F)

set_option maxHeartbeats 4000000 in
theorem yrmsB : runB.sl.r_178 c arg2 harg2 arg3 harg3 arg4 harg4 arg5 harg5 arg6 harg6 arg7 harg7 arg8 harg8 arg9 harg9 arg13 arg14 harg14 x2 x3 x4 x5 x6 x7 x8 x9 T x14 = yrms (gRows x2 x3) (coefA x2 x3 x4 x5 x6 x7 x9 (k0_pay5 T)) (coefB x2 x3 x4 x5 x6 x7 x8 x9 (k0_pay5 T)) (lrow x14) := by
  simp only [runB.sl.r_178, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.r_157, runB.sl.r_158, runB.sl.r_159, runB.sl.r_160, runB.sl.r_161, runB.sl.r_162, runB.sl.r_163, runB.sl.r_164, runB.sl.r_165, runB.sl.r_166, runB.sl.r_167, runB.sl.r_168, runB.sl.r_169, runB.sl.r_170, runB.sl.r_171, runB.sl.r_172, runB.sl.r_173, runB.sl.r_174, runB.sl.r_175, runB.sl.r_176, coefB_A, coefB_B, gateB, carryB]
  generalize coefA x2 x3 x4 x5 x6 x7 x9 (k0_pay5 T) = P
  generalize coefB x2 x3 x4 x5 x6 x7 x8 x9 (k0_pay5 T) = Q
  generalize gRows x2 x3 = G
  simp only [k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay78_eq, k0_pay79_eq, k0_pay80_eq, k0_pay81_eq, k0_pay82_eq, k0_pay83_eq, k0_pay84_eq, k0_pay85_eq, k0_pay86_eq, k0_pay87_eq, k0_pay88_eq, k0_pay89_eq, k0_pay90_eq, k0_pay91_eq, k0_pay92_eq, k0_pay93_eq, k0_pay94_eq, k0_pay95_eq, k0_pay96_eq, k0_pay97_eq, k0_pay98_eq, k0_pay99_eq, k0_pay100_eq, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay128_eq, k0_pay129_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay144_eq, k0_pay145_eq, k0_pay146_eq, k0_pay147_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, k0_pay165_eq, k0_pay166_eq, k0_pay167_eq, k0_pay168_eq, k0_pay169_eq, k0_pay170_eq, k0_pay171_eq, k0_pay172_eq, k0_pay173_eq, k0_pay174_eq, k0_pay175_eq, k0_pay176_eq, k0_pay177_eq, k0_pay178_eq, k0_pay179_eq, k0_pay180_eq, k0_pay181_eq, k0_pay182_eq, k0_pay183_eq, k0_pay184_eq, k0_pay185_eq, k0_pay186_eq, k0_pay187_eq, k0_pay188_eq, k0_pay189_eq, k0_pay190_eq, k0_pay191_eq, k0_pay192_eq, k0_pay193_eq, k0_pay194_eq, yrms, hs_zero, hs_succ]

set_option maxHeartbeats 4000000 in
theorem lastB : k0_pay195 (runB.sl.r_13 c arg2 harg2 arg3 harg3 arg4 harg4 arg5 harg5 arg6 harg6 arg7 harg7 arg8 harg8 arg9 harg9 arg13 x2 x3 x4 x5 x6 x7 x8 x9 T) (runB.sl.r_175 c arg2 harg2 arg3 harg3 arg4 harg4 arg5 harg5 arg6 harg6 arg7 harg7 arg8 harg8 arg9 harg9 arg13 arg14 harg14 x2 x3 x4 x5 x6 x7 x8 x9 T x14) (runB.sl.r_176 c arg2 harg2 arg3 harg3 arg4 harg4 arg5 harg5 arg6 harg6 arg7 harg7 arg9 harg9 arg13 x2 x3 x4 x5 x6 x7 x9 T)
    = hOf x2 x3 x4 x5 x6 x7 x8 x9 (k0_pay5 T) (lrow x14) := by
  unfold hOf
  simp only [runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.r_157, runB.sl.r_158, runB.sl.r_159, runB.sl.r_160, runB.sl.r_161, runB.sl.r_162, runB.sl.r_163, runB.sl.r_164, runB.sl.r_165, runB.sl.r_166, runB.sl.r_167, runB.sl.r_168, runB.sl.r_169, runB.sl.r_170, runB.sl.r_171, runB.sl.r_172, runB.sl.r_173, runB.sl.r_174, runB.sl.r_175, runB.sl.r_176, coefB_A, coefB_B, carryB]
  generalize coefA x2 x3 x4 x5 x6 x7 x9 (k0_pay5 T) = P
  generalize coefB x2 x3 x4 x5 x6 x7 x8 x9 (k0_pay5 T) = Q
  simp only [k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay78_eq, k0_pay79_eq, k0_pay80_eq, k0_pay81_eq, k0_pay82_eq, k0_pay83_eq, k0_pay84_eq, k0_pay85_eq, k0_pay86_eq, k0_pay87_eq, k0_pay88_eq, k0_pay89_eq, k0_pay90_eq, k0_pay91_eq, k0_pay92_eq, k0_pay93_eq, k0_pay94_eq, k0_pay95_eq, k0_pay96_eq, k0_pay97_eq, k0_pay98_eq, k0_pay99_eq, k0_pay100_eq, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay128_eq, k0_pay129_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay144_eq, k0_pay145_eq, k0_pay146_eq, k0_pay147_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, k0_pay165_eq, k0_pay166_eq, k0_pay167_eq, k0_pay168_eq, k0_pay169_eq, k0_pay170_eq, k0_pay171_eq, k0_pay172_eq, k0_pay173_eq, k0_pay174_eq, k0_pay175_eq, k0_pay176_eq, k0_pay177_eq, k0_pay178_eq, k0_pay179_eq, k0_pay180_eq, k0_pay181_eq, k0_pay182_eq, k0_pay183_eq, k0_pay184_eq, k0_pay185_eq, k0_pay186_eq, k0_pay187_eq, k0_pay188_eq, k0_pay189_eq, k0_pay190_eq, k0_pay191_eq, k0_pay192_eq, k0_pay193_eq, k0_pay194_eq, hs_zero, hs_succ]

theorem qkvB : (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14).1 = qkvPieces x2 x3 := by
  refine Eq.trans (b := [⟨Rect.unit ![0, 0, 1024] S1x1024x512.size inb_S1x1024x1536_S1x1024x512_0_0_1024, k0_pay196 (runB.sl.r c arg2 harg2 x2) (View.readAt (Elt F) arg3.view (Rect.unit (s := S1024x2560) ![0, 1024] S1024x512.size inb_S1024x2560_S1024x512_0_1024).toLoadRect (harg3.unread x3))⟩,
    ⟨Rect.unit ![0, 0, 512] S1x1024x512.size inb_S1x1024x1536_S1x1024x512_0_0_512, k0_pay31 (runB.sl.r c arg2 harg2 x2) (View.readAt (Elt F) arg3.view (Rect.unit (s := S1024x2560) ![0, 512] S1024x512.size inb_S1024x2560_S1024x512_0_512).toLoadRect (harg3.unread x3))⟩,
    ⟨Rect.unit ![0, 0, 0] S1x1024x512.size inb_S1x1024x1536_S1x1024x512_0_0_0, k0_pay19 (runB.sl.r c arg2 harg2 x2) (View.readAt (Elt F) arg3.view (Rect.unit (s := S1024x2560) ![0, 0] S1024x512.size inb_S1024x2560_S1024x512_0_0).toLoadRect (harg3.unread x3))⟩]) rfl ?_
  unfold runB.sl.r
  rw [rd, rd, rd, rd]

theorem yB : (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14).2.1 = [⟨Rect.unit ![0, 0, 0] S1x1024x512.size inb_S1x1024x512_S1x1024x512_0_0_0, yOf x2 x3 x4 x5 x6 x7 x8 x9 x10 (k0_pay5 T) (lrow x14)⟩] := by
  refine Eq.trans (b := [⟨Rect.unit ![0, 0, 0] S1x1024x512.size inb_S1x1024x512_S1x1024x512_0_0_0, k0_pay1 (runB.sl.r_177 c arg2 harg2 arg3 harg3 arg4 harg4 arg5 harg5 arg6 harg6 arg7 harg7 arg8 harg8 arg9 harg9 arg13 arg14 harg14 x2 x3 x4 x5 x6 x7 x8 x9 T x14) (runB.sl.r_178 c arg2 harg2 arg3 harg3 arg4 harg4 arg5 harg5 arg6 harg6 arg7 harg7 arg8 harg8 arg9 harg9 arg13 arg14 harg14 x2 x3 x4 x5 x6 x7 x8 x9 T x14) (View.readAt (Elt F) arg10.view (Rect.unit ![0, 0] S1x512.size inb_S1x512_S1x512_0_0).toLoadRect (harg10.unread x10))⟩]) rfl ?_
  rw [rd, yrmsB, ygateB]
  rfl

theorem uB : (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14).2.2.1 = ⟨Rect.unit ![8, 0] S1024x512.size inb_S1040x512_S1024x512_8_0, uRows x2 x3⟩ :: ⟨Rect.unit ![0, 0] S8x512.size inb_S1040x512_S8x512_0_0, (k0_pay5 T)⟩ :: [⟨Rect.unit ![1024, 0] S8x512.size inb_S1040x512_S8x512_1024_0, T⟩] :=
  Eq.trans (b := runB.sl.H13_3 c arg2 harg2 arg3 harg3 arg13 x2 x3 T) rfl (tapB_pieces ..)

theorem hB : (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14).2.2.2.1 = ⟨Rect.unit ![0, 0] S1x512.size inb_S1x512_S1x512_0_0, hOf x2 x3 x4 x5 x6 x7 x8 x9 (k0_pay5 T) (lrow x14)⟩ :: [] := by
  refine Eq.trans (b := ⟨Rect.unit ![0, 0] S1x512.size inb_S1x512_S1x512_0_0, k0_pay195 (runB.sl.r_13 c arg2 harg2 arg3 harg3 arg4 harg4 arg5 harg5 arg6 harg6 arg7 harg7 arg8 harg8 arg9 harg9 arg13 x2 x3 x4 x5 x6 x7 x8 x9 T) (runB.sl.r_175 c arg2 harg2 arg3 harg3 arg4 harg4 arg5 harg5 arg6 harg6 arg7 harg7 arg8 harg8 arg9 harg9 arg13 arg14 harg14 x2 x3 x4 x5 x6 x7 x8 x9 T x14) (runB.sl.r_176 c arg2 harg2 arg3 harg3 arg4 harg4 arg5 harg5 arg6 harg6 arg7 harg7 arg9 harg9 arg13 x2 x3 x4 x5 x6 x7 x9 T)⟩ :: []) rfl ?_
  rw [lastB]

set_option maxHeartbeats 4000000 in
include hc0 hc1 in
/-- The body's triple in this case. -/
theorem tripB (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ tailIs c arg13 T ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (qkvOf x2 x3) ∗ owns (c : Thread nD τ) arg12 fullShare (yOf x2 x3 x4 x5 x6 x7 x8 x9 x10 (k0_pay5 T) (lrow x14))
            ∗ tailIs c arg13 (tailOf x2 x3 (k0_pay5 T)) ∗ owns (c : Thread nD τ) arg14 fullShare (hOf x2 x3 x4 x5 x6 x7 x8 x9 (k0_pay5 T) (lrow x14))) -∗ K ⟨⟩))
      ⊢ wp frame (wpE (defs₀ (F := F)) Variants.none c none) E (cc0_proj_rglru i arg2 harg2 arg3 harg3 arg4 harg4 arg5 harg5 arg6 harg6 arg7 harg7 arg8 harg8 arg9 harg9 arg10 harg10 arg11 harg11 arg12 harg12 arg13 harg13 arg14 harg14) K := by
  have e1 := qkvB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14
  have e2 := yB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14
  have e3 := uB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14
  have e4 := hB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14
  generalize (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 T x14) = W at e1 e2 e3 e4
  obtain ⟨L11, L12, L13, L14, run⟩ := W
  dsimp only at e1 e2 e3 e4
  subst e1 e2 e3 e4
  replace run := run E K
  generalize yOf x2 x3 x4 x5 x6 x7 x8 x9 x10 (k0_pay5 T) (lrow x14) = Y at run ⊢
  generalize hOf x2 x3 x4 x5 x6 x7 x8 x9 (k0_pay5 T) (lrow x14) = Z at run ⊢
  iintro ⟨H2, H3, H4, H5, H6, H7, H8, H9, H10, H11, H12, H13, H14, Hk⟩
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, ⟨%f11, H11⟩, ⟨%f12, H12⟩, ⟨%f13, H13⟩, ⟨%f14, H14⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (qkv_cover x2 x3)
  isplitl [H12]
  · unfold owns; iexists _; isplitr
    swap; · iexact H12
    ipureintro
    exact read_whole0 arg12 f12 ![0, 0, 0] (by decide) inb_S1x1024x512_S1x1024x512_0_0_0 [] Y
  isplitl [H13]
  · unfold tailIs; iexists _
    rw [tail_after x2 x3 (k0_pay5 T) [⟨Rect.unit ![1024, 0] S8x512.size inb_S1040x512_S8x512_1024_0, T⟩] arg13 harg13 f13]
    iexact H13
  unfold owns; iexists _; isplitr
  swap; · iexact H14
  ipureintro
  exact read_whole0 arg14 f14 ![0, 0] (by decide) inb_S1x512_S1x512_0_0 _ Z

end B

end Cert.KernelIdeal.Proj
end
-- ==== Proof.Body.lean ====
module

public import proofs.«01_k».proof.Proof.Gen.KernelIdeal.Frame
public import proofs.«01_k».proof.Proof.RunA
public import proofs.«01_k».proof.Proof.RunB
public import proofs.«01_k».proof.Proof.Vals
public import proofs.«01_k».proof.Proof.Match
public import proofs.«01_k».proof.Proof.Trip
public import Idealize.ShloMosaic.Lib.Claim

@[expose] public section

set_option maxRecDepth 65536

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

variable (m : (ℓ : Loc nD τ sig) → Buf (Elt F) ℓ) (ρ : Dev nD → PrngReg)

/-! ## The point's operands -/

/-- Operand 0 at a point. -/
abbrev b2 (c : Dev nD) (t : Fin cfg0.N) : Vec F S1x1024x1024 .f32 := iblk m c 0 t
/-- Operand 1 at a point. -/
abbrev b3 (c : Dev nD) (t : Fin cfg0.N) : Vec F S1024x2560 .bf16 := iblk m c 1 t
/-- Operand 2 at a point. -/
abbrev b4 (c : Dev nD) (t : Fin cfg0.N) : Vec F S4x512 .f32 := iblk m c 2 t
/-- Operand 3 at a point. -/
abbrev b5 (c : Dev nD) (t : Fin cfg0.N) : Vec F S1x512 .f32 := iblk m c 3 t
/-- Operand 4 at a point. -/
abbrev b6 (c : Dev nD) (t : Fin cfg0.N) : Vec F S512x1024 .bf16 := iblk m c 4 t
/-- Operand 5 at a point. -/
abbrev b7 (c : Dev nD) (t : Fin cfg0.N) : Vec F S1x512 .f32 := iblk m c 5 t
/-- Operand 6 at a point. -/
abbrev b8 (c : Dev nD) (t : Fin cfg0.N) : Vec F S1x512 .f32 := iblk m c 6 t
/-- Operand 7 at a point. -/
abbrev b9 (c : Dev nD) (t : Fin cfg0.N) : Vec F S1x512 .f32 := iblk m c 7 t
/-- Operand 8 at a point. -/
abbrev b10 (c : Dev nD) (t : Fin cfg0.N) : Vec F S1x512 .f32 := iblk m c 8 t
abbrev s2 (t : Fin cfg0.N) : Memref sig .tc .vmem S1x1024x1024 .f32 := win0_0.stage (cfg0.slots t 0)
theorem hs2 (t : Fin cfg0.N) : (s2 t).IsWhole := hstage0_0 ((cfg0.slots t 0).cast nbuf0_0)
abbrev s3 (t : Fin cfg0.N) : Memref sig .tc .vmem S1024x2560 .bf16 := win0_1.stage (cfg0.slots t 1)
theorem hs3 (t : Fin cfg0.N) : (s3 t).IsWhole := hstage0_1 ((cfg0.slots t 1).cast nbuf0_1)
abbrev s4 (t : Fin cfg0.N) : Memref sig .tc .vmem S4x512 .f32 := win0_2.stage (cfg0.slots t 2)
theorem hs4 (t : Fin cfg0.N) : (s4 t).IsWhole := hstage0_2 ((cfg0.slots t 2).cast nbuf0_2)
abbrev s5 (t : Fin cfg0.N) : Memref sig .tc .vmem S1x512 .f32 := win0_3.stage (cfg0.slots t 3)
theorem hs5 (t : Fin cfg0.N) : (s5 t).IsWhole := hstage0_3 ((cfg0.slots t 3).cast nbuf0_3)
abbrev s6 (t : Fin cfg0.N) : Memref sig .tc .vmem S512x1024 .bf16 := win0_4.stage (cfg0.slots t 4)
theorem hs6 (t : Fin cfg0.N) : (s6 t).IsWhole := hstage0_4 ((cfg0.slots t 4).cast nbuf0_4)
abbrev s7 (t : Fin cfg0.N) : Memref sig .tc .vmem S1x512 .f32 := win0_5.stage (cfg0.slots t 5)
theorem hs7 (t : Fin cfg0.N) : (s7 t).IsWhole := hstage0_5 ((cfg0.slots t 5).cast nbuf0_5)
abbrev s8 (t : Fin cfg0.N) : Memref sig .tc .vmem S1x512 .f32 := win0_6.stage (cfg0.slots t 6)
theorem hs8 (t : Fin cfg0.N) : (s8 t).IsWhole := hstage0_6 ((cfg0.slots t 6).cast nbuf0_6)
abbrev s9 (t : Fin cfg0.N) : Memref sig .tc .vmem S1x512 .f32 := win0_7.stage (cfg0.slots t 7)
theorem hs9 (t : Fin cfg0.N) : (s9 t).IsWhole := hstage0_7 ((cfg0.slots t 7).cast nbuf0_7)
abbrev s10 (t : Fin cfg0.N) : Memref sig .tc .vmem S1x512 .f32 := win0_8.stage (cfg0.slots t 8)
theorem hs10 (t : Fin cfg0.N) : (s10 t).IsWhole := hstage0_8 ((cfg0.slots t 8).cast nbuf0_8)
abbrev s11 (t : Fin cfg0.N) : Memref sig .tc .vmem S1x1024x1536 .f32 := win0_9.stage (cfg0.slots t 9)
theorem hs11 (t : Fin cfg0.N) : (s11 t).IsWhole := hstage0_9 ((cfg0.slots t 9).cast nbuf0_9)
abbrev s12 (t : Fin cfg0.N) : Memref sig .tc .vmem S1x1024x512 .bf16 := win0_10.stage (cfg0.slots t 10)
theorem hs12 (t : Fin cfg0.N) : (s12 t).IsWhole := hstage0_10 ((cfg0.slots t 10).cast nbuf0_10)

/-- The convolution's buffer and the carried row of the recurrence. -/
abbrev bufU : Memref sig .tc .vmem S1040x512 .f32 := Memref.whole cc0_scratch0
abbrev bufH : Memref sig .tc .vmem S1x512 .f32 := Memref.whole cc0_scratch1

theorem zeroAt_iff : ∀ t : Fin cfg0.N, zeroAt (grid0.coords t) ↔ t.val % 4 = 0 :=
  (by decide +kernel : ∀ t : Fin grid0.N, zeroAt (grid0.coords t) ↔ t.val % 4 = 0)

theorem keepAt_iff : ∀ t : Fin cfg0.N, keepAt (grid0.coords t) ↔ t.val % 4 ≠ 0 :=
  (by decide +kernel : ∀ t : Fin grid0.N, keepAt (grid0.coords t) ↔ t.val % 4 ≠ 0)

/-! ## What is carried from chunk to chunk -/

/-- The eight rows of the convolution before point `n`, and the recurrence's row: zero at a sequence's first chunk. -/
def carry (c : Dev nD) : (n : ℕ) → n < cfg0.N → V8 F × V1 F
  | 0, _ => (k0_pay3, k0_pay4)
  | n + 1, hn =>
    if (n + 1) % 4 = 0 then (k0_pay3, k0_pay4)
    else
      let t : Fin cfg0.N := ⟨n, Nat.lt_of_succ_lt hn⟩
      let s := carry c n (Nat.lt_of_succ_lt hn)
      (k0_pay5 (tailOf (b2 m c t) (b3 m c t) s.1), lrow (hOf (b2 m c t) (b3 m c t) (b4 m c t) (b5 m c t) (b6 m c t) (b7 m c t) (b8 m c t) (b9 m c t) s.1 s.2))

abbrev carryU (c : Dev nD) (t : Fin cfg0.N) : V8 F := (carry m c t.val t.isLt).1
abbrev carryH (c : Dev nD) (t : Fin cfg0.N) : V1 F := (carry m c t.val t.isLt).2

/-- The rows a point leaves for the next, and its last row. -/
def leftU (c : Dev nD) (t : Fin cfg0.N) : V8 F := tailOf (b2 m c t) (b3 m c t) (carryU m c t)
def leftH (c : Dev nD) (t : Fin cfg0.N) : V1 F := hOf (b2 m c t) (b3 m c t) (b4 m c t) (b5 m c t) (b6 m c t) (b7 m c t) (b8 m c t) (b9 m c t) (carryU m c t) (carryH m c t)
/-- The two results' blocks. -/
def outQ (c : Dev nD) (t : Fin cfg0.N) : Vec F S1x1024x1536 .f32 := qkvOf (b2 m c t) (b3 m c t)
def outY (c : Dev nD) (t : Fin cfg0.N) : Vec F S1x1024x512 .bf16 := yOf (b2 m c t) (b3 m c t) (b4 m c t) (b5 m c t) (b6 m c t) (b7 m c t) (b8 m c t) (b9 m c t) (b10 m c t) (carryU m c t) (carryH m c t)

theorem carry_first (c : Dev nD) (n : ℕ) (hn : n < cfg0.N) (h : n % 4 = 0) : carry m c n hn = (k0_pay3, k0_pay4) := by
  cases n with
  | zero => rfl
  | succ n => exact if_pos h

theorem carry_next (c : Dev nD) (n : ℕ) (hn : n + 1 < cfg0.N) (h : (n + 1) % 4 ≠ 0) :
    carry m c (n + 1) hn = (k0_pay5 (leftU m c ⟨n, Nat.lt_of_succ_lt hn⟩), lrow (leftH m c ⟨n, Nat.lt_of_succ_lt hn⟩)) :=
  if_neg h

/-! ## The invariant and the proof data -/

/-- Before point `n`: at the start both scratch buffers at anything, later the rows the point before left. -/
def inv (c : Dev nD) : (n : ℕ) → n ≤ cfg0.N → sProp 𝕄
  | 0, _ => Pipeline.ΦA spec0 c
  | n + 1, hn => iprop((tailIs c bufU (leftU m c ⟨n, hn⟩) ∗ owns (c : Thread nD τ) bufH fullShare (leftH m c ⟨n, hn⟩)) ∗ (∃ r, prngReg c r))

theorem start_eq (c : Dev nD) :
    (Pipeline.ΦA spec0 c : sProp 𝕄) = iprop(((∃ d, owns (c : Thread nD τ) bufU fullShare d) ∗ (∃ d, owns (c : Thread nD τ) bufH fullShare d)) ∗ (∃ r, prngReg c r)) := by
  unfold Pipeline.ΦA
  rw [scopedRest0_eq]
  simp only [bufU, bufH, owns_whole]
  try rfl

/-- Rows known inside a buffer are a buffer at something. -/
theorem tailIs_any (c : Dev nD) (T : V8 F) : tailIs c bufU T ⊢ iprop(∃ d, owns (c : Thread nD τ) bufU fullShare d) := by
  unfold tailIs
  iintro ⟨%f, H⟩
  iexists _; unfold owns; iexists _; isplitr
  swap; · iexact H
  ipureintro; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outQ m c t
    | ⟨10, _⟩ => outY m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_2 (c : Dev nD) (t : Fin cfg0.N) : (dats m 0 c).after 0 t = iblk m c 0 t := by dsimp only [dats]
theorem after_3 (c : Dev nD) (t : Fin cfg0.N) : (dats m 0 c).after 1 t = iblk m c 1 t := by dsimp only [dats]
theorem after_4 (c : Dev nD) (t : Fin cfg0.N) : (dats m 0 c).after 2 t = iblk m c 2 t := by dsimp only [dats]
theorem after_5 (c : Dev nD) (t : Fin cfg0.N) : (dats m 0 c).after 3 t = iblk m c 3 t := by dsimp only [dats]
theorem after_6 (c : Dev nD) (t : Fin cfg0.N) : (dats m 0 c).after 4 t = iblk m c 4 t := by dsimp only [dats]
theorem after_7 (c : Dev nD) (t : Fin cfg0.N) : (dats m 0 c).after 5 t = iblk m c 5 t := by dsimp only [dats]
theorem after_8 (c : Dev nD) (t : Fin cfg0.N) : (dats m 0 c).after 6 t = iblk m c 6 t := by dsimp only [dats]
theorem after_9 (c : Dev nD) (t : Fin cfg0.N) : (dats m 0 c).after 7 t = iblk m c 7 t := by dsimp only [dats]
theorem after_10 (c : Dev nD) (t : Fin cfg0.N) : (dats m 0 c).after 8 t = iblk m c 8 t := by dsimp only [dats]
theorem after_11 (c : Dev nD) (t : Fin cfg0.N) : (dats m 0 c).after 9 t = outQ m c t := by dsimp only [dats]
theorem after_12 (c : Dev nD) (t : Fin cfg0.N) : (dats m 0 c).after 10 t = outY m c t := by dsimp only [dats]
theorem before_2 (c : Dev nD) (t : Fin cfg0.N) (d) : (dats m 0 c).before 0 t d = b2 m c t :=
  before0_0_of m (dats m 0 c) (A_eq m c 0) (after_2 m c) t d
theorem before_3 (c : Dev nD) (t : Fin cfg0.N) (d) : (dats m 0 c).before 1 t d = b3 m c t :=
  before0_1_of m (dats m 0 c) (A_eq m c 1) (after_3 m c) t d
theorem before_4 (c : Dev nD) (t : Fin cfg0.N) (d) : (dats m 0 c).before 2 t d = b4 m c t :=
  before0_2_of m (dats m 0 c) (A_eq m c 2) (after_4 m c) t d
theorem before_5 (c : Dev nD) (t : Fin cfg0.N) (d) : (dats m 0 c).before 3 t d = b5 m c t :=
  before0_3_of m (dats m 0 c) (A_eq m c 3) (after_5 m c) t d
theorem before_6 (c : Dev nD) (t : Fin cfg0.N) (d) : (dats m 0 c).before 4 t d = b6 m c t :=
  before0_4_of m (dats m 0 c) (A_eq m c 4) (after_6 m c) t d
theorem before_7 (c : Dev nD) (t : Fin cfg0.N) (d) : (dats m 0 c).before 5 t d = b7 m c t :=
  before0_5_of m (dats m 0 c) (A_eq m c 5) (after_7 m c) t d
theorem before_8 (c : Dev nD) (t : Fin cfg0.N) (d) : (dats m 0 c).before 6 t d = b8 m c t :=
  before0_6_of m (dats m 0 c) (A_eq m c 6) (after_8 m c) t d
theorem before_9 (c : Dev nD) (t : Fin cfg0.N) (d) : (dats m 0 c).before 7 t d = b9 m c t :=
  before0_7_of m (dats m 0 c) (A_eq m c 7) (after_9 m c) t d
theorem before_10 (c : Dev nD) (t : Fin cfg0.N) (d) : (dats m 0 c).before 8 t d = b10 m c t :=
  before0_8_of m (dats m 0 c) (A_eq m c 8) (after_10 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (s2 t) fullShare ((dats m 0 c).before 0 t d))
    ∗ (∃ d, owns (c : Thread nD τ) (s3 t) fullShare ((dats m 0 c).before 1 t d))
    ∗ (∃ d, owns (c : Thread nD τ) (s4 t) fullShare ((dats m 0 c).before 2 t d))
    ∗ (∃ d, owns (c : Thread nD τ) (s5 t) fullShare ((dats m 0 c).before 3 t d))
    ∗ (∃ d, owns (c : Thread nD τ) (s6 t) fullShare ((dats m 0 c).before 4 t d))
    ∗ (∃ d, owns (c : Thread nD τ) (s7 t) fullShare ((dats m 0 c).before 5 t d))
    ∗ (∃ d, owns (c : Thread nD τ) (s8 t) fullShare ((dats m 0 c).before 6 t d))
    ∗ (∃ d, owns (c : Thread nD τ) (s9 t) fullShare ((dats m 0 c).before 7 t d))
    ∗ (∃ d, owns (c : Thread nD τ) (s10 t) fullShare ((dats m 0 c).before 8 t d))
    ∗ (∃ d, owns (c : Thread nD τ) (s11 t) fullShare ((dats m 0 c).before 9 t d))
    ∗ (∃ d, owns (c : Thread nD τ) (s12 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (s2 t) fullShare ((dats m 0 c).after 0 t)
    ∗ owns (c : Thread nD τ) (s3 t) fullShare ((dats m 0 c).after 1 t)
    ∗ owns (c : Thread nD τ) (s4 t) fullShare ((dats m 0 c).after 2 t)
    ∗ owns (c : Thread nD τ) (s5 t) fullShare ((dats m 0 c).after 3 t)
    ∗ owns (c : Thread nD τ) (s6 t) fullShare ((dats m 0 c).after 4 t)
    ∗ owns (c : Thread nD τ) (s7 t) fullShare ((dats m 0 c).after 5 t)
    ∗ owns (c : Thread nD τ) (s8 t) fullShare ((dats m 0 c).after 6 t)
    ∗ owns (c : Thread nD τ) (s9 t) fullShare ((dats m 0 c).after 7 t)
    ∗ owns (c : Thread nD τ) (s10 t) fullShare ((dats m 0 c).after 8 t)
    ∗ owns (c : Thread nD τ) (s11 t) fullShare ((dats m 0 c).after 9 t)
    ∗ owns (c : Thread nD τ) (s12 t) fullShare ((dats m 0 c).after 10 t))

/-- The triple at the first chunk of a sequence, over the point's names. -/
theorem first_chunk (c : Dev nD) (t : Fin cfg0.N) (h0 : t.val % 4 = 0) (E : Set ℕ) (K : PUnit → sProp 𝕄) :
    iprop(owns (c : Thread nD τ) (s2 t) fullShare (b2 m c t) ∗ owns (c : Thread nD τ) (s3 t) fullShare (b3 m c t) ∗ owns (c : Thread nD τ) (s4 t) fullShare (b4 m c t) ∗ owns (c : Thread nD τ) (s5 t) fullShare (b5 m c t) ∗ owns (c : Thread nD τ) (s6 t) fullShare (b6 m c t) ∗ owns (c : Thread nD τ) (s7 t) fullShare (b7 m c t) ∗ owns (c : Thread nD τ) (s8 t) fullShare (b8 m c t) ∗ owns (c : Thread nD τ) (s9 t) fullShare (b9 m c t) ∗ owns (c : Thread nD τ) (s10 t) fullShare (b10 m c t) ∗ (∃ d, owns (c : Thread nD τ) (s11 t) fullShare d) ∗ (∃ d, owns (c : Thread nD τ) (s12 t) fullShare d) ∗ (∃ d, owns (c : Thread nD τ) bufU fullShare d) ∗ (∃ d, owns (c : Thread nD τ) bufH fullShare d)
        ∗ (iprop(owns (c : Thread nD τ) (s2 t) fullShare (b2 m c t) ∗ owns (c : Thread nD τ) (s3 t) fullShare (b3 m c t) ∗ owns (c : Thread nD τ) (s4 t) fullShare (b4 m c t) ∗ owns (c : Thread nD τ) (s5 t) fullShare (b5 m c t) ∗ owns (c : Thread nD τ) (s6 t) fullShare (b6 m c t) ∗ owns (c : Thread nD τ) (s7 t) fullShare (b7 m c t) ∗ owns (c : Thread nD τ) (s8 t) fullShare (b8 m c t) ∗ owns (c : Thread nD τ) (s9 t) fullShare (b9 m c t) ∗ owns (c : Thread nD τ) (s10 t) fullShare (b10 m c t) ∗ owns (c : Thread nD τ) (s11 t) fullShare (outQ m c t) ∗ owns (c : Thread nD τ) (s12 t) fullShare (outY m c t) ∗ tailIs c bufU (leftU m c t) ∗ owns (c : Thread nD τ) bufH fullShare (leftH m c t)) -∗ K ⟨⟩))
      ⊢ wp frame (wpE (defs₀ (F := F)) Variants.none c none) E (bodyAt0 t) K := by
  have h := tripA c (grid0.coords t) (s2 t) (hs2 t) (s3 t) (hs3 t) (s4 t) (hs4 t) (s5 t) (hs5 t) (s6 t) (hs6 t) (s7 t) (hs7 t) (s8 t) (hs8 t) (s9 t) (hs9 t) (s10 t) (hs10 t) (s11 t) (hs11 t) (s12 t) (hs12 t) bufU (Memref.isWhole_whole _) bufH (Memref.isWhole_whole _) ((zeroAt_iff t).mpr h0) (fun h => (keepAt_iff t).mp h h0) (b2 m c t) (b3 m c t) (b4 m c t) (b5 m c t) (b6 m c t) (b7 m c t) (b8 m c t) (b9 m c t) (b10 m c t) E K
  have e : carry m c t.val t.isLt = (k0_pay3, k0_pay4) := carry_first m c t.val t.isLt h0
  unfold outY leftU leftH carryU carryH
  rw [e]
  exact h

/-- The triple at a later chunk. -/
theorem later_chunk (c : Dev nD) (t t' : Fin cfg0.N) (ht : t.val = t'.val + 1) (h0 : t.val % 4 ≠ 0) (E : Set ℕ) (K : PUnit → sProp 𝕄) :
    iprop(owns (c : Thread nD τ) (s2 t) fullShare (b2 m c t) ∗ owns (c : Thread nD τ) (s3 t) fullShare (b3 m c t) ∗ owns (c : Thread nD τ) (s4 t) fullShare (b4 m c t) ∗ owns (c : Thread nD τ) (s5 t) fullShare (b5 m c t) ∗ owns (c : Thread nD τ) (s6 t) fullShare (b6 m c t) ∗ owns (c : Thread nD τ) (s7 t) fullShare (b7 m c t) ∗ owns (c : Thread nD τ) (s8 t) fullShare (b8 m c t) ∗ owns (c : Thread nD τ) (s9 t) fullShare (b9 m c t) ∗ owns (c : Thread nD τ) (s10 t) fullShare (b10 m c t) ∗ (∃ d, owns (c : Thread nD τ) (s11 t) fullShare d) ∗ (∃ d, owns (c : Thread nD τ) (s12 t) fullShare d) ∗ tailIs c bufU (leftU m c t') ∗ owns (c : Thread nD τ) bufH fullShare (leftH m c t')
        ∗ (iprop(owns (c : Thread nD τ) (s2 t) fullShare (b2 m c t) ∗ owns (c : Thread nD τ) (s3 t) fullShare (b3 m c t) ∗ owns (c : Thread nD τ) (s4 t) fullShare (b4 m c t) ∗ owns (c : Thread nD τ) (s5 t) fullShare (b5 m c t) ∗ owns (c : Thread nD τ) (s6 t) fullShare (b6 m c t) ∗ owns (c : Thread nD τ) (s7 t) fullShare (b7 m c t) ∗ owns (c : Thread nD τ) (s8 t) fullShare (b8 m c t) ∗ owns (c : Thread nD τ) (s9 t) fullShare (b9 m c t) ∗ owns (c : Thread nD τ) (s10 t) fullShare (b10 m c t) ∗ owns (c : Thread nD τ) (s11 t) fullShare (outQ m c t) ∗ owns (c : Thread nD τ) (s12 t) fullShare (outY m c t) ∗ tailIs c bufU (leftU m c t) ∗ owns (c : Thread nD τ) bufH fullShare (leftH m c t)) -∗ K ⟨⟩))
      ⊢ wp frame (wpE (defs₀ (F := F)) Variants.none c none) E (bodyAt0 t) K := by
  have h := tripB c (grid0.coords t) (s2 t) (hs2 t) (s3 t) (hs3 t) (s4 t) (hs4 t) (s5 t) (hs5 t) (s6 t) (hs6 t) (s7 t) (hs7 t) (s8 t) (hs8 t) (s9 t) (hs9 t) (s10 t) (hs10 t) (s11 t) (hs11 t) (s12 t) (hs12 t) bufU (Memref.isWhole_whole _) bufH (Memref.isWhole_whole _) (fun h => h0 ((zeroAt_iff t).mp h)) ((keepAt_iff t).mpr h0) (b2 m c t) (b3 m c t) (b4 m c t) (b5 m c t) (b6 m c t) (b7 m c t) (b8 m c t) (b9 m c t) (b10 m c t) (leftU m c t') (leftH m c t') E K
  have e : carry m c t.val t.isLt = (k0_pay5 (leftU m c t'), lrow (leftH m c t')) := by
    obtain ⟨n, hn⟩ := t
    obtain ⟨n', hn'⟩ := t'
    obtain rfl : n = n' + 1 := ht
    exact carry_next m c n' hn h0
  rw [show outY m c t = yOf (b2 m c t) (b3 m c t) (b4 m c t) (b5 m c t) (b6 m c t) (b7 m c t) (b8 m c t) (b9 m c t) (b10 m c t) (carry m c t.val t.isLt).1 (carry m c t.val t.isLt).2 from rfl,
    show leftU m c t = tailOf (b2 m c t) (b3 m c t) (carry m c t.val t.isLt).1 from rfl,
    show leftH m c t = hOf (b2 m c t) (b3 m c t) (b4 m c t) (b5 m c t) (b6 m c t) (b7 m c t) (b8 m c t) (b9 m c t) (carry m c t.val t.isLt).1 (carry m c t.val t.isLt).2 from rfl, e]
  generalize leftU m c t' = T at h ⊢
  generalize leftH m c t' = Z at h ⊢
  exact h

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_2, before_3, before_4, before_5, before_6, before_7, before_8, before_9, before_10]
  rw [show (dats m 0 c).owesAt () t.succ = (dats m 0 c).owesAt () t.castSucc from rfl, after_2, after_3, after_4, after_5, after_6, after_7, after_8, after_9, after_10, after_11, after_12]
  rw [show (dats m 0 c).Φ t.succ = iprop((tailIs c bufU (leftU m c t) ∗ owns (c : Thread nD τ) bufH fullShare (leftH m c t)) ∗ (∃ r, prngReg c r)) from rfl]
  rw [inv_castSucc]
  by_cases hz : t.val = 0
  · rw [show inv m c t.val (Nat.le_of_lt t.isLt) = Pipeline.ΦA spec0 c from by obtain ⟨n, hn⟩ := t; obtain rfl : n = 0 := hz; rfl, start_eq]
    iintro ⟨⟨⟨HU, HH⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_chunk m c t (by omega) Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HU]; · iexact HU
    isplitl [HH]; · iexact HH
    iintro ⟨H2, H3, H4, H5, H6, H7, H8, H9, H10, H11, H12, HU, HH⟩
    isplitl [HU HH Hg]
    · isplitl [HU HH]
      · isplitl [HU]
        · iexact HU
        iexact HH
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

  obtain ⟨t', ht⟩ : ∃ t' : Fin cfg0.N, t.val = t'.val + 1 := ⟨⟨t.val - 1, by have := t.isLt; omega⟩, by show t.val = t.val - 1 + 1; omega⟩
  rw [show inv m c t.val (Nat.le_of_lt t.isLt) = iprop((tailIs c bufU (leftU m c t') ∗ owns (c : Thread nD τ) bufH fullShare (leftH m c t')) ∗ (∃ r, prngReg c r)) from by
    obtain ⟨n, hn⟩ := t; obtain ⟨n', hn'⟩ := t'; obtain rfl : n = n' + 1 := ht; rfl]
  by_cases h0 : t.val % 4 = 0
  · iintro ⟨⟨⟨HU, HH⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_chunk m c t h0 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HU]; · iapply (tailIs_any c (leftU m c t')); iexact HU
    isplitl [HH]; · iexists _; iexact HH
    iintro ⟨H2, H3, H4, H5, H6, H7, H8, H9, H10, H11, H12, HU, HH⟩
    isplitl [HU HH Hg]
    · isplitl [HU HH]
      · isplitl [HU]
        · iexact HU
        iexact HH
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

  · iintro ⟨⟨⟨HU, HH⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (later_chunk m c t t' ht h0 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HU]; · iexact HU
    isplitl [HH]; · iexact HH
    iintro ⟨H2, H3, H4, H5, H6, H7, H8, H9, H10, H11, H12, HU, HH⟩
    isplitl [HU HH Hg]
    · isplitl [HU HH]
      · isplitl [HU]
        · iexact HU
        iexact HH
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem row_body (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_body]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  have hN : cfg0.N = 31 + 1 := N_0
  rw [show (dats m 0 c).Φ (Fin.last cfg0.N) = iprop((tailIs c bufU (leftU m c ⟨31, by omega⟩) ∗ owns (c : Thread nD τ) bufH fullShare (leftH m c ⟨31, by omega⟩)) ∗ (∃ r, prngReg c r)) from rfl, start_eq]
  iintro ⟨⟨HU, HH⟩, Hg⟩
  isplitl [HU HH]
  · isplitl [HU]
    · iapply (tailIs_any c (leftU m c ⟨31, by omega⟩)); iexact HU
    iexists _; iexact HH
  iexact Hg

/-! ## The run -/

set_option backward.isDefEq.respectTransparency.types false in
/-- Every execution terminates with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_arrays : θ_run defs (onTc (τ := τ) (main (F := F))) (s₀ m ρ) (Pipeline.FramePost cfgs (dats m) 0 (V m)) :=
  (θ_run defs _ _).mono (fun _ h => h.1) (run_quiescent m ρ)

/-- The arguments end unchanged and no counter is left raised. -/
theorem framed : θ_run defs (onTc (τ := τ) (main (F := F))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_arrays m ρ)) ((θ_run defs _ _).mono (fun _ h => h.2) (run_quiescent m ρ))

end Cert.KernelIdeal.Proj
end
-- ==== Proof.RefRun.lean ====
/- The reference's loop: what each trip reads and leaves, and the results after the last. -/
module

public import proofs.«01_k».proof.Proof.Gen.ReferenceIdeal.Run
public import proofs.«01_k».proof.Proof.Gen.ReferenceIdeal.Step
public import Idealize.ShloMosaic.Lib.Claim

@[expose] public section

set_option maxRecDepth 8192

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- Before trip `j` the buffers of the loop hold `s`, and its counter `j`. -/
structure At (W : Valuation τ sig (Elt F)) (s : State F) (j : ℕ) : Prop where
  decay : W (Proc.devRef .tc main_v79_0) = s.main_v79_0
  input : W (Proc.devRef .tc main_v79_1) = s.main_v79_1
  count : W (Proc.devRef .tc main_v79_2) = constantI S_ 32 (BitVec.ofNat 32 j)
  state : W (Proc.devRef .tc main_v79_3) = s.main_v79_3
  rows : W (Proc.devRef .tc main_v79_4) = s.main_v79_4

variable {W : Valuation τ sig (Elt F)} {s : State F} {j : ℕ}

theorem new_state (h : At W s j) : res_main_while0b_v116 W = Step.b9 j s := by
  unfold res_main_while0b_v116 Step.b9 Step.b8 Step.b7 Step.b6 Step.b3 Step.b2
  rw [h.decay, h.input, h.count, h.state]
  rfl

theorem new_rows (h : At W s j) : step_main_v79_4 W = Step.b13 j s := by
  unfold step_main_v79_4 Step.b13 Step.b10
  rw [← new_state h, ← h.rows]
  have e := h.count
  generalize W (Proc.devRef .tc main_v79_2) = k at e
  subst e
  rfl

/-- A trip leaves the next state. -/
theorem At.next (h : At W s j) : At (STEP W) (Step.step j s) (j + 1) where
  decay := (STEP_main_v79_0 W).trans h.decay
  input := (STEP_main_v79_1 W).trans h.input
  count := (STEP_main_v79_2 W).trans (by
    unfold step_main_v79_2
    rw [h.count]
    funext _
    exact (BitVec.ofNat_add j 1).symm)
  state := (STEP_main_v79_3 W).trans (new_state h)
  rows := (STEP_main_v79_4 W).trans (new_rows h)

variable (m : (ℓ : Loc nD τ sig) → Buf (Elt F) ℓ) (ρ : Dev nD → PrngReg) (c : Dev nD)

/-- The state the loop starts from, -/
abbrev first : State F :=
  Step.init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- and the one before trip `k`. -/
def states : ℕ → State F
  | 0 => first m c
  | k + 1 => Step.step k (states k)

set_option maxRecDepth 65536 in
set_option maxHeartbeats 1000000 in
theorem at_start : At (entryContents preI m c) (first m c) 0 := by
  constructor <;> (simp only [entryContents, afterL_cons, afterL_nil]; after_reads_simp) <;> rfl

theorem at_trip (k : ℕ) : At (STEP^[k] (entryContents preI m c)) (states m c k) k := by
  induction k with
  | zero => exact at_start m c
  | succ k ih => rw [Function.iterate_succ_apply']; exact ih.next

theorem result_qkv (W : Valuation τ sig (Elt F)) (s : State F) : out_main_v81 W = Step.R_main_v81 s (W (Proc.devRef .tc main_arg0)) (W (Proc.devRef .tc main_arg1)) := by
  unfold out_main_v81 Step.R_main_v81
  rfl

theorem result_y (h : At W s j) : out_main_v112 W = Step.R_main_v112 s (W (Proc.devRef .tc main_arg0)) (W (Proc.devRef .tc main_arg1)) (W (Proc.devRef .tc main_arg9)) := by
  unfold out_main_v112 Step.R_main_v112
  rw [h.rows]
  try rfl

/-- The results, and the arguments as they were. -/
theorem values : θ_run (defs (F := F)) (onTc (τ := τ) (main (F := F))) ⟨m, fun _ => 0, ρ⟩ fun r => ∀ c : Dev nD,
    r.2.mem ((c.tc : Thread nD τ).loc main_v81) = Step.R_main_v81 (states m c 4096) (m ((c.tc : Thread nD τ).loc main_arg0)) (m ((c.tc : Thread nD τ).loc main_arg1))
    ∧ r.2.mem ((c.tc : Thread nD τ).loc main_v112) = Step.R_main_v112 (states m c 4096) (m ((c.tc : Thread nD τ).loc main_arg0)) (m ((c.tc : Thread nD τ).loc main_arg1)) (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun _ h c => by
    obtain ⟨hq, hy, rest⟩ := h c
    refine ⟨?_, ?_, rest⟩
    · rw [hq, result_qkv _ (states m c 4096), iter_main_arg0 m c 4096, iter_main_arg1 m c 4096]
    · rw [hy, result_y (at_trip m c 4096), iter_main_arg0 m c 4096, iter_main_arg1 m c 4096, iter_main_arg9 m c 4096]) (run m ρ)

end Cert.ReferenceIdeal.Scan

end
-- ==== Proof.Plain.lean ====
/- The recurrence as plain formulas over the extended reals: what both programs compute, element by element. -/
module

public import Idealize.ShloMosaic.Lib.Pointwise

@[expose] public section

noncomputable section

namespace Cert.Plain

open Idealize.ShloMosaic

variable (x : (⟨3, ![8, 4096, 1024]⟩ : Shape).Idx → EReal) (w : (⟨2, ![1024, 2560]⟩ : Shape).Idx → EReal)
  (cw : (⟨3, ![4, 1, 512]⟩ : Shape).Idx → EReal) (cb : (⟨1, ![512]⟩ : Shape).Idx → EReal)
  (wa : (⟨3, ![8, 64, 64]⟩ : Shape).Idx → EReal) (ba : (⟨1, ![512]⟩ : Shape).Idx → EReal)
  (wx : (⟨3, ![8, 64, 64]⟩ : Shape).Idx → EReal) (bx : (⟨1, ![512]⟩ : Shape).Idx → EReal)
  (lam : (⟨1, ![512]⟩ : Shape).Idx → EReal) (g : (⟨1, ![512]⟩ : Shape).Idx → EReal)

/-- The projection's recurrent columns, at position `s` of sequence `b`. -/
def u (b : Fin 8) (s : ℕ) (c : Fin 512) : EReal :=
  if h : s < 4096 then ∑ d : Fin 1024, x (ix3 b ⟨s, h⟩ d) * w (ix2 d ⟨1536 + c.val, by omega⟩) else 0

/-- The same `k` positions earlier: zero before the start. -/
def past (b : Fin 8) (s k : ℕ) (c : Fin 512) : EReal := if k ≤ s then u x w b (s - k) c else 0

/-- The causal convolution. -/
def conv (b : Fin 8) (s : ℕ) (c : Fin 512) : EReal :=
  cb (ix1 c) + (cw (ix3 0 0 c) * past x w b s 3 c + cw (ix3 1 0 c) * past x w b s 2 c + cw (ix3 2 0 c) * past x w b s 1 c
    + cw (ix3 3 0 c) * past x w b s 0 c)

/-- A gate: block diagonal weights `v`, bias `d`. -/
def gate (v : (⟨3, ![8, 64, 64]⟩ : Shape).Idx → EReal) (d : (⟨1, ![512]⟩ : Shape).Idx → EReal) (b : Fin 8) (s : ℕ) (c : Fin 512) : EReal :=
  Ideal.div 1 (1 + Ideal.exp (-(∑ k : Fin 64, v (ix3 ⟨c.val / 64, by omega⟩ k ⟨c.val % 64, by omega⟩) * conv x w cw cb b s ⟨c.val / 64 * 64 + k.val, by omega⟩
    + d (ix1 c))))

/-- `softplus (-lam)`. -/
def soft (c : Fin 512) : EReal :=
  max (-lam (ix1 c)) 0 + Ideal.log1p (Ideal.exp (-FloatOps.absf (F := Ideal) (φ := .f32) (-lam (ix1 c))))

/-- The logarithm of the decay. -/
def logDecay (b : Fin 8) (s : ℕ) (c : Fin 512) : EReal :=
  Ideal.ofBits .f32 0xC1000000#32 * gate x w cw cb wa ba b s c * soft lam c

/-- What position `s` adds to the state. -/
def input (b : Fin 8) (s : ℕ) (c : Fin 512) : EReal :=
  Ideal.sqrt (-(Ideal.exp (Ideal.ofBits .f32 0x40000000#32 * logDecay x w cw cb wa ba lam b s c) - 1))
    * (gate x w cw cb wx bx b s c * conv x w cw cb b s c)

/-- The state after `s` positions. -/
def state (b : Fin 8) (c : Fin 512) : ℕ → EReal
  | 0 => 0
  | s + 1 => Ideal.exp (logDecay x w cw cb wa ba lam b s c) * state b c s + input x w cw cb wa ba wx bx lam b s c

/-- The projection's gate columns, -/
def outer (b : Fin 8) (s : Fin 4096) (c : Fin 512) : EReal := ∑ d : Fin 1024, x (ix3 b s d) * w (ix2 d ⟨2048 + c.val, by omega⟩)

/-- their GELU, -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- times the state, -/
def rows (b : Fin 8) (s : Fin 4096) (c : Fin 512) : EReal :=
  gelu (outer x w b s c) * state x w cw cb wa ba wx bx lam b c (s.val + 1)

/-- normalised: the second result. -/
def normed (b : Fin 8) (s : Fin 4096) (c : Fin 512) : EReal :=
  rows x w cw cb wa ba wx bx lam b s c
    * Ideal.rsqrt (Ideal.div (∑ k : Fin 512, rows x w cw cb wa ba wx bx lam b s k * rows x w cw cb wa ba wx bx lam b s k)
        (Ideal.ofBits .f32 0x44000000#32) + Ideal.ofBits .f32 0x358637BD#32)
    * g (ix1 c)

/-- The first result. -/
def qkv (b : Fin 8) (s : Fin 4096) (c : Fin 1536) : EReal := ∑ d : Fin 1024, x (ix3 b s d) * w (ix2 d ⟨c.val, by omega⟩)

end Cert.Plain

end
-- ==== Proof.RefVal.lean ====
/- The reference's results are the plain formulas. -/
module

public import proofs.«01_k».proof.Proof.RefRun
public import proofs.«01_k».proof.Proof.Plain

@[expose] public section

set_option maxRecDepth 16384

noncomputable section

namespace Cert.ReferenceIdeal.Scan

open Idealize.ShloMosaic
open Cert.ReferenceIdeal Cert.ReferenceIdeal.Gen
open Cert.ReferenceIdeal.Step

variable (x : S8x4096x1024.Idx → EReal) (w : S1024x2560.Idx → EReal) (cw : S4x1x512.Idx → EReal) (cb : S512.Idx → EReal) (wa : S8x64x64.Idx → EReal) (ba : S512.Idx → EReal) (wx : S8x64x64.Idx → EReal) (bx : S512.Idx → EReal) (lam : S512.Idx → EReal) (g : S512.Idx → EReal)

theorem u_eq (b : Fin 8) (t : Fin 4096) (c : Fin 512) :
    A_main_v1 (F := Ideal) x w cw cb wa ba wx bx lam (ix3 b t c) = Plain.u x w b t.val c := by
  unfold Plain.u
  rw [dif_pos t.isLt]
  pointwise [A_main_v1, A_main_v0]
  try rfl

theorem past_eq (b : Fin 8) (t : Fin 4096) (k : ℕ) (hk : k ≤ 3) (h : 3 - k + t.val < 4099) (c : Fin 512) :
    A_main_v2 (F := Ideal) x w cw cb wa ba wx bx lam (ix3 b ⟨3 - k + t.val, h⟩ c) = Plain.past x w b t.val k c := by
  pointwise [A_main_v2, K_main_call0_v0, K_main_c]
  unfold Plain.past
  by_cases hs : k ≤ t.val
  · rw [dif_pos (by omega), if_pos hs, u_eq]
    congr 1
    show 3 - k + t.val - 3 = _
    omega
  · rw [dif_neg (by omega), if_neg hs]
    show (((0#32 : BitVec 32).toInt : ℝ) : EReal) = 0
    simp

theorem conv_eq (b : Fin 8) (t : Fin 4096) (c : Fin 512) :
    A_main_v34 (F := Ideal) x w cw cb wa ba wx bx lam (ix3 b t c) = Plain.conv x w cw cb b t.val c := by
  unfold Plain.conv
  rw [← past_eq x w cw cb wa ba wx bx lam b t 3 (by omega) (by omega) c, ← past_eq x w cw cb wa ba wx bx lam b t 2 (by omega) (by omega) c,
    ← past_eq x w cw cb wa ba wx bx lam b t 1 (by omega) (by omega) c, ← past_eq x w cw cb wa ba wx bx lam b t 0 (by omega) (by omega) c]
  pointwise [A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v8, A_main_v7, A_main_v6, A_main_v5, A_main_v4, A_main_v3, K_main_v9, K_main_cst]

theorem gate_a_eq (b : Fin 8) (t : Fin 4096) (c : Fin 512) :
    A_main_v47 (F := Ideal) x w cw cb wa ba wx bx lam (ix3 b t c) = Plain.gate x w cw cb wa ba b t.val c := by
  pointwise [A_main_v47, A_main_v45, A_main_v43, A_main_v42, A_main_v41, A_main_v40, A_main_v39, A_main_v38, A_main_v37, A_main_v36, A_main_v35, K_main_v46, K_main_v44, K_main_cst_0, K_main_cst_1]
  unfold Plain.gate
  simp only [conv_eq]

theorem gate_x_eq (b : Fin 8) (t : Fin 4096) (c : Fin 512) :
    A_main_v59 (F := Ideal) x w cw cb wa ba wx bx lam (ix3 b t c) = Plain.gate x w cw cb wx bx b t.val c := by
  pointwise [A_main_v59, A_main_v57, A_main_v55, A_main_v54, A_main_v53, A_main_v52, A_main_v51, A_main_v50, A_main_v49, A_main_v48, A_main_v35, K_main_v58, K_main_v56, K_main_cst_2, K_main_cst_3]
  unfold Plain.gate
  simp only [conv_eq]

theorem logDecay_eq (b : Fin 8) (t : Fin 4096) (c : Fin 512) :
    A_main_v66 (F := Ideal) x w cw cb wa ba wx bx lam (ix3 b t c) = Plain.logDecay x w cw cb wa ba lam b t.val c := by
  pointwise [A_main_v66, A_main_v65, A_main_v64, A_main_v63, A_main_call1_v11, A_main_call1_v10, A_main_call1_v9, A_main_call1_v8, A_main_call1_v7, A_main_call1_v6, A_main_call1_v4, A_main_call1_v3, A_main_call1_v1, A_main_v62, A_main_v61, K_main_v60, K_main_cst_4, K_main_call1_v0,K_main_call1_v2,K_main_call1_v5,K_main_call1_cst]
  unfold Plain.logDecay Plain.soft
  rw [if_neg (by simp), gate_a_eq]

theorem decay_eq (b : Fin 8) (t : Fin 4096) (c : Fin 512) :
    A_main_v76 (F := Ideal) x w cw cb wa ba wx bx lam (ix3 t b c) = Ideal.exp (Plain.logDecay x w cw cb wa ba lam b t.val c) := by
  pointwise [A_main_v76, A_main_v67]
  rw [logDecay_eq]

theorem input_eq (b : Fin 8) (t : Fin 4096) (c : Fin 512) :
    A_main_v77 (F := Ideal) x w cw cb wa ba wx bx lam (ix3 t b c) = Plain.input x w cw cb wa ba wx bx lam b t.val c := by
  pointwise [A_main_v77, A_main_v74, A_main_v73, A_main_v72, A_main_v71, A_main_v70, A_main_v69, K_main_v68, K_main_cst_5]
  unfold Plain.input
  rw [logDecay_eq, gate_x_eq, conv_eq]

/-- The trip's number as a start of a slice is itself; the other two starts are zero. -/
theorem start_row (j : ℕ) (hj : j < 4096) (hr : S1x8x512.rank = S4096x8x512.rank) :
    Host.clampedStart S4096x8x512 S1x8x512 hr
      (fun k => BitVec.toInt ((![constantI S_ 32 (BitVec.ofNat 32 j), constantI S_ 32 0#32, constantI S_ 32 0#32] : Fin 3 → S_.Idx → BitVec 32) k (Shape.Idx.first h_S_))) 0 = j := by
  have e : (BitVec.ofNat 32 j).toInt = (j : ℤ) := by
    rw [BitVec.toInt_eq_toNat_of_lt] <;> rw [BitVec.toNat_ofNat, Nat.mod_eq_of_lt] <;> omega
  refine Host.clampedStart_of_le hr _ 0 j e ?_
  show j + 1 ≤ 4096
  omega

theorem start_b (j : ℕ) (hr : S1x8x512.rank = S4096x8x512.rank) :
    Host.clampedStart S4096x8x512 S1x8x512 hr
      (fun k => BitVec.toInt ((![constantI S_ 32 (BitVec.ofNat 32 j), constantI S_ 32 0#32, constantI S_ 32 0#32] : Fin 3 → S_.Idx → BitVec 32) k (Shape.Idx.first h_S_))) 1 = 0 :=
  Host.clampedStart_of_le hr _ 1 0 (by rfl) (by show 0 + 8 ≤ 8; omega)

theorem start_c (j : ℕ) (hr : S1x8x512.rank = S4096x8x512.rank) :
    Host.clampedStart S4096x8x512 S1x8x512 hr
      (fun k => BitVec.toInt ((![constantI S_ 32 (BitVec.ofNat 32 j), constantI S_ 32 0#32, constantI S_ 32 0#32] : Fin 3 → S_.Idx → BitVec 32) k (Shape.Idx.first h_S_))) 2 = 0 :=
  Host.clampedStart_of_le hr _ 2 0 (by rfl) (by show 0 + 512 ≤ 512; omega)

theorem trip_state (s : State Ideal) (j : ℕ) (hj : j < 4096) (b : Fin 8) (c : Fin 512) :
    b9 j s (ix2 b c) = s.main_v79_0 (ix3 ⟨j, hj⟩ b c) * s.main_v79_3 (ix2 b c) + s.main_v79_1 (ix3 ⟨j, hj⟩ b c) := by
  pointwise [b9, b8, b7, b6, b5, b4, b3, b2, b1, b0]
  simp only [start_row j hj, start_b, start_c, Nat.zero_add, Fin.eta]

theorem trip_rows (s : State Ideal) (j : ℕ) (hj : j < 4096) (t : Fin 4096) (b : Fin 8) (c : Fin 512) :
    b13 j s (ix3 t b c) = if t.val = j then b9 j s (ix2 b c) else s.main_v79_4 (ix3 t b c) := by
  pointwise [b13, b12, b11, b10]
  simp only [start_row j hj, start_b, start_c, Nat.sub_zero, Fin.eta, Nat.zero_le, and_true]
  by_cases h : t.val = j
  · rw [dif_pos (by omega), if_pos h]
  · rw [dif_neg (by omega), if_neg h]

variable (m : (ℓ : Loc nD τ sig) → Buf (Elt Ideal) ℓ) (d : Dev nD)

/-- The arguments, and what the loop holds after `k` trips. -/
theorem states_eq (k : ℕ) (hk : k ≤ 4096)
    (hx : m ((d.tc : Thread nD τ).loc main_arg0) = x) (hw : m ((d.tc : Thread nD τ).loc main_arg1) = w) (hcw : m ((d.tc : Thread nD τ).loc main_arg2) = cw)
    (hcb : m ((d.tc : Thread nD τ).loc main_arg3) = cb) (hwa : m ((d.tc : Thread nD τ).loc main_arg4) = wa) (hba : m ((d.tc : Thread nD τ).loc main_arg5) = ba)
    (hwx : m ((d.tc : Thread nD τ).loc main_arg6) = wx) (hbx : m ((d.tc : Thread nD τ).loc main_arg7) = bx) (hlam : m ((d.tc : Thread nD τ).loc main_arg8) = lam) :
    (states m d k).main_v79_0 = A_main_v76 (F := Ideal) x w cw cb wa ba wx bx lam
    ∧ (states m d k).main_v79_1 = A_main_v77 (F := Ideal) x w cw cb wa ba wx bx lam
    ∧ (∀ (b : Fin 8) (c : Fin 512), (states m d k).main_v79_3 (ix2 b c) = Plain.state x w cw cb wa ba wx bx lam b c k)
    ∧ (∀ (t : Fin 4096) (b : Fin 8) (c : Fin 512), t.val < k → (states m d k).main_v79_4 (ix3 t b c) = Plain.state x w cw cb wa ba wx bx lam b c (t.val + 1)) := by
  induction k with
  | zero =>
    subst hx hw hcw hcb hwa hba hwx hbx hlam
    refine ⟨rfl, rfl, fun b c => ?_, fun t b c h => absurd h (Nat.not_lt_zero _)⟩
    show K_main_v75 (F := Ideal) (ix2 b c) = 0
    pointwise [K_main_v75, K_main_cst_6]
  | succ k ih =>
    obtain ⟨h0, h1, h3, h4⟩ := ih (by omega)
    have e3 : ∀ (b : Fin 8) (c : Fin 512), b9 k (states m d k) (ix2 b c) = Plain.state x w cw cb wa ba wx bx lam b c (k + 1) := fun b c => by
      rw [trip_state _ k (by omega), h0, h1, h3, decay_eq, input_eq]
      rfl
    refine ⟨h0, h1, e3, fun t b c ht => ?_⟩
    show b13 k (states m d k) (ix3 t b c) = _
    rw [trip_rows _ k (by omega)]
    by_cases h : t.val = k
    · rw [if_pos h, e3, h]
    · rw [if_neg h]
      exact h4 t b c (by omega)

theorem result_y_eq (s : State Ideal) (hs : ∀ (t : Fin 4096) (b : Fin 8) (c : Fin 512), s.main_v79_4 (ix3 t b c) = Plain.state x w cw cb wa ba wx bx lam b c (t.val + 1))
    (b : Fin 8) (t : Fin 4096) (c : Fin 512) : R_main_v112 (F := Ideal) s x w g (ix3 b t c) = Plain.normed x w cw cb wa ba wx bx lam g b t c := by
  pointwise [R_main_v112]
  simp only [hs]
  rfl

theorem result_qkv_eq (s : State Ideal) (b : Fin 8) (t : Fin 4096) (c : Fin 1536) : R_main_v81 (F := Ideal) s x w (ix3 b t c) = Plain.qkv x w b t c := by
  pointwise [R_main_v81]
  try rfl

end Cert.ReferenceIdeal.Scan
end
-- ==== Proof.Scal.lean ====
/- What the recurrence's scalars satisfy over the extended reals: the decay lies in `[0, 1]`, and its two spellings of the input's factor agree. -/
module

public import proofs.«01_k».proof.Proof.Plain

@[expose] public section

noncomputable section

namespace Cert.Plain

open Idealize.ShloMosaic

theorem two_lit : Ideal.ofBits .f32 0x40000000#32 = ((2 : ℝ) : EReal) := by
  simp [Ideal.ofBits, Ideal.ieee, -EReal.coe_mul]; norm_num
theorem neg_eight_lit : Ideal.ofBits .f32 0xC1000000#32 = ((-8 : ℝ) : EReal) := by
  simp [Ideal.ofBits, Ideal.ieee, -EReal.coe_mul]; norm_num

theorem exp_nonneg (z : EReal) : 0 ≤ Ideal.exp z := by
  induction z with
  | bot => simp
  | top => simp
  | coe r => simp only [Ideal.exp_coe]; exact_mod_cast (Real.exp_pos r).le

theorem exp_ne_top {z : EReal} (h : z ≤ 0) : Ideal.exp z ≠ ⊤ := by
  induction z with
  | bot => simp
  | top => simp at h
  | coe r => simp

theorem logistic_nonneg (z : EReal) : 0 ≤ Ideal.logistic z := by
  induction z with
  | bot => simp
  | top => simp
  | coe r =>
    rw [Ideal.logistic_coe]
    exact_mod_cast (inv_nonneg.mpr (by positivity))

theorem log1p_exp_nonneg (z : EReal) : 0 ≤ Ideal.log1p (Ideal.exp z) := by
  unfold Ideal.log1p
  induction z with
  | bot =>
    have : (1 + 0 : EReal) = ((1 : ℝ) : EReal) := by simp
    rw [Ideal.exp_bot, this, Ideal.log_coe, if_neg (by norm_num), Real.log_one]
    exact le_rfl
  | top =>
    rw [Ideal.exp_top, EReal.add_top_of_ne_bot (by decide), Ideal.log_top]
    exact le_top
  | coe r =>
    have : (1 + ((Real.exp r : ℝ) : EReal)) = ((1 + Real.exp r : ℝ) : EReal) := by simp
    rw [Ideal.exp_coe, this, Ideal.log_coe, if_neg (by have := Real.exp_pos r; linarith)]
    exact_mod_cast Real.log_nonneg (by have := Real.exp_pos r; linarith)

/-- The decay's logarithm is nonpositive, -/
theorem decay_nonpos (q s : EReal) (hq : 0 ≤ q) (hs : 0 ≤ s) : Ideal.ofBits .f32 0xC1000000#32 * q * s ≤ 0 := by
  have h8 : Ideal.ofBits .f32 0xC1000000#32 = -((8 : ℝ) : EReal) := by rw [neg_eight_lit]; simp
  rw [h8, EReal.neg_mul, EReal.neg_mul]
  have : (0 : EReal) ≤ ((8 : ℝ) : EReal) * q * s := mul_nonneg (mul_nonneg (by exact_mod_cast (by norm_num : (0 : ℝ) ≤ 8)) hq) hs
  simpa using EReal.neg_le_neg_iff.mpr this

/-- and the two spellings of the input's factor agree on it. -/
theorem factor_eq (z : EReal) (h : z ≤ 0) :
    (0 - Ideal.tanh z) * (1 + Ideal.exp z * Ideal.exp z) = -(Ideal.exp (Ideal.ofBits .f32 0x40000000#32 * z) - 1) := by
  rw [two_lit]
  induction z with
  | bot =>
    rw [EReal.coe_mul_bot_of_pos (by norm_num)]
    simp
  | top => simp at h
  | coe r =>
    rw [← EReal.coe_mul]
    simp only [Ideal.exp_coe, Ideal.tanh_coe]
    have e : (0 - Real.tanh r) * (1 + Real.exp r * Real.exp r) = -(Real.exp (2 * r) - 1) := by
      have hp := Real.exp_pos r
      have hc : Real.cosh r ≠ 0 := (Real.cosh_pos r).ne'
      have h2 : Real.exp (2 * r) = Real.exp r * Real.exp r := by rw [two_mul, Real.exp_add]
      rw [h2, Real.tanh_eq_sinh_div_cosh, Real.sinh_eq, Real.cosh_eq, Real.exp_neg]
      have : Real.exp r + (Real.exp r)⁻¹ ≠ 0 := by positivity
      field_simp
      ring
    exact_mod_cast congrArg (fun t : ℝ => (t : EReal)) e

variable (x : (⟨3, ![8, 4096, 1024]⟩ : Shape).Idx → EReal) (w : (⟨2, ![1024, 2560]⟩ : Shape).Idx → EReal)
  (cw : (⟨3, ![4, 1, 512]⟩ : Shape).Idx → EReal) (cb : (⟨1, ![512]⟩ : Shape).Idx → EReal)
  (wa : (⟨3, ![8, 64, 64]⟩ : Shape).Idx → EReal) (ba : (⟨1, ![512]⟩ : Shape).Idx → EReal)
  (wx : (⟨3, ![8, 64, 64]⟩ : Shape).Idx → EReal) (bx : (⟨1, ![512]⟩ : Shape).Idx → EReal)
  (lam : (⟨1, ![512]⟩ : Shape).Idx → EReal) (g : (⟨1, ![512]⟩ : Shape).Idx → EReal)

theorem soft_nonneg (c : Fin 512) : 0 ≤ soft lam c := add_nonneg (le_max_right _ _) (log1p_exp_nonneg _)

theorem logDecay_nonpos (b : Fin 8) (s : ℕ) (c : Fin 512) : logDecay x w cw cb wa ba lam b s c ≤ 0 :=
  decay_nonpos _ _ (logistic_nonneg _) (soft_nonneg lam c)

/-- The GELU with its cube and its half taken in another order. -/
theorem gelu_eq (z : EReal) :
    Ideal.ofBits .f32 0x3F000000#32 * z * (1 + Ideal.tanh (Ideal.ofBits .f32 0x3F4C422A#32 * (z + Ideal.ofBits .f32 0x3D372713#32 * z * z * z))) = gelu z := by
  unfold gelu
  rw [show Ideal.ofBits .f32 0x3D372713#32 * z * z * z = Ideal.ofBits .f32 0x3D372713#32 * (z * z * z) by simp only [mul_assoc],
    mul_comm (Ideal.ofBits .f32 0x3F000000#32) z, mul_assoc]

/-! ## Eight steps of the recurrence composed -/

/-- The state after `n` steps `h ↦ a h + b` from `h`. -/
def steps (a b : ℕ → EReal) (h : EReal) : ℕ → EReal
  | 0 => h
  | n + 1 => a n * steps a b h n + b n

/-- The state after `n` more positions is `n` steps from the state. -/
theorem state_add (b : Fin 8) (c : Fin 512) (s n : ℕ) :
    steps (fun i => Ideal.exp (logDecay x w cw cb wa ba lam b (s + i) c)) (fun i => input x w cw cb wa ba wx bx lam b (s + i) c)
      (state x w cw cb wa ba wx bx lam b c s) n = state x w cw cb wa ba wx bx lam b c (s + n) := by
  induction n with
  | zero => rfl
  | succ n ih => rw [steps, ih]; rfl

end Cert.Plain

end
-- ==== Proof.ChunkVal.lean ====
/- What the kernel computes from one chunk over the extended reals: the recurrence's formulas at the chunk's positions. -/
module

public import proofs.«01_k».proof.Proof.Vals
public import proofs.«01_k».proof.Proof.Scal
public import Idealize.ShloMosaic.Lib.Pointwise
public import Idealize.ShloMosaic.Lib.Pipeline.ValueKit.Geometry

@[expose] public section

set_option maxRecDepth 65536

noncomputable section

namespace Cert.KernelIdeal.Proj

open Idealize.ShloMosaic
open Cert.KernelIdeal Cert.KernelIdeal.Gen
open Idealize.ShloMosaic.View (ld canon)

section Rows

variable (x2 : Vec Ideal S1x1024x1024 .f32) (x3 : Vec Ideal S1024x2560 .bf16) (x4 : Vec Ideal S4x512 .f32) (x5 : Vec Ideal S1x512 .f32) (x6 : Vec Ideal S512x1024 .bf16) (x7 : Vec Ideal S1x512 .f32) (x8 : Vec Ideal S1x512 .f32) (x9 : Vec Ideal S1x512 .f32) (x10 : Vec Ideal S1x512 .f32) (T : V8 Ideal) (h : V1 Ideal)

/-! ## The convolution's buffer -/

theorem buf_new (r : Fin 1024) (c : Fin 512) (hr : 8 + r.val < 1040) : canon (uBuf x2 x3 T) (ix2 ⟨8 + r.val, hr⟩ c) = uRows x2 x3 (ix2 r c) := by
  have e : (Rect.unit (s := S1040x512) ![8, 0] S1024x512.size inb_S1040x512_S1024x512_8_0).emb (ix2 r c) = ix2 ⟨8 + r.val, hr⟩ c := by
    funext a
    apply Fin.ext
    rw [ValueKit.rect_emb_unit_val]
    match a with
    | ⟨0, _⟩ => rfl
    | ⟨1, _⟩ => exact Nat.zero_add _
  rw [← e]
  exact View.canon_cons_emb _ _ _ _
theorem buf_old (r : Fin 8) (c : Fin 512) (hr : r.val < 1040) : canon (uBuf x2 x3 T) (ix2 ⟨r.val, hr⟩ c) = T (ix2 r c) := by
  have e : (Rect.unit (s := S1040x512) ![0, 0] S8x512.size inb_S1040x512_S8x512_0_0).emb (ix2 r c) = ix2 ⟨r.val, hr⟩ c := by
    funext a
    apply Fin.ext
    rw [ValueKit.rect_emb_unit_val]
    match a with
    | ⟨0, _⟩ => exact Nat.zero_add _
    | ⟨1, _⟩ => exact Nat.zero_add _
  rw [View.canon_cons_of_not_mem _ _ (fun hm => by
    have := ((Rect.mem_set_unit (inb := inb_S1040x512_S1024x512_8_0)).mp hm 0).1
    have h8 : (8 : ℕ) ≤ r.val := this
    omega), ← e]
  exact View.canon_cons_emb _ _ _ _

theorem lx_eq : lx x2 = x2 :=
  View.ld_unit_lit _ _ (fun a => by match a with | ⟨0, _⟩ => rfl | ⟨1, _⟩ => rfl | ⟨2, _⟩ => rfl)
theorem uRows_apply (r : Fin 1024) (c : Fin 512) :
    uRows x2 x3 (ix2 r c) = ∑ d : Fin 1024, x2 (ix3 0 r d) * x3 (ix2 d ⟨1536 + c.val, by omega⟩) := by
  unfold uRows
  rw [lx_eq]
  pointwise [k0_pay6, k0_pay2]
theorem gRows_apply (r : Fin 1024) (c : Fin 512) :
    gRows x2 x3 (ix2 r c) = ∑ d : Fin 1024, x2 (ix3 0 r d) * x3 (ix2 d ⟨2048 + c.val, by omega⟩) := by
  unfold gRows
  rw [lx_eq]
  pointwise [k0_pay7, k0_pay2]
theorem lrow_eq (z : Vec Ideal S1x512 .f32) : lrow z = z :=
  View.ld_unit_lit _ _ (fun a => by match a with | ⟨0, _⟩ => rfl | ⟨1, _⟩ => rfl)
theorem tap_apply (k : ℕ) (hk) (r : Fin 1024) (c : Fin 512) (hr : k + r.val < 1040) : tap x2 x3 T k hk (ix2 r c) = canon (uBuf x2 x3 T) (ix2 ⟨k + r.val, hr⟩ c) := by
  pointwise [tap]
theorem tailOf_apply (r : Fin 8) (c : Fin 512) (hr : 1024 + r.val < 1040) : tailOf x2 x3 T (ix2 r c) = canon (uBuf x2 x3 T) (ix2 ⟨1024 + r.val, hr⟩ c) := by
  pointwise [tailOf]
theorem cRows_apply (r : Fin 1024) (c : Fin 512) : cRows x2 x3 x4 x5 T (ix2 r c) =
    x5 (ix2 0 c) + x4 (ix2 3 c) * tap x2 x3 T 8 inb_S1040x512_S1024x512_8_0 (ix2 r c) +
          x4 (ix2 0 c) * tap x2 x3 T 5 inb_S1040x512_S1024x512_5_0 (ix2 r c) +
        x4 (ix2 1 c) * tap x2 x3 T 6 inb_S1040x512_S1024x512_6_0 (ix2 r c) +
      x4 (ix2 2 c) * tap x2 x3 T 7 inb_S1040x512_S1024x512_7_0 (ix2 r c) := by
  unfold cRows
  rw [lrow_eq]
  pointwise [k0_pay10, k0_pay8, k0_pay9]
theorem rRows_apply (r : Fin 1024) (c : Fin 512) : rRows x2 x3 x4 x5 x6 x7 T (ix2 r c) =
    Ideal.logistic (∑ k : Fin 512, cRows x2 x3 x4 x5 T (ix2 r k) * x6 (ix2 k ⟨c.val, by omega⟩) + x7 (ix2 0 c)) := by
  unfold rRows cRows
  rw [lrow_eq, lrow_eq]
  pointwise [k0_pay12, k0_pay11]
theorem iRows_apply (r : Fin 1024) (c : Fin 512) : iRows x2 x3 x4 x5 x6 x8 T (ix2 r c) =
    Ideal.logistic (∑ k : Fin 512, cRows x2 x3 x4 x5 T (ix2 r k) * x6 (ix2 k ⟨512 + c.val, by omega⟩) + x8 (ix2 0 c)) := by
  unfold iRows cRows
  rw [lrow_eq, lrow_eq]
  pointwise [k0_pay13, k0_pay11]

end Rows

/-! ## Eight rows composed -/

section Compose

variable (P Q R S : VG Ideal) (c : Fin 512) (g : Fin 128) (a b : ℕ → EReal)

theorem composed (ha : ∀ i, 0 ≤ a i) (ht : ∀ i, a i ≠ ⊤) (hP : ∀ i : Fin 8, P (ix3 g i c) = a i.val) (hQ : ∀ i : Fin 8, Q (ix3 g i c) = b i.val)
    (hR : ∀ i : Fin 8, R (ix3 g i c) = if i.val = 0 then 1 else a (i.val - 1))
    (hS : ∀ i : Fin 8, S (ix3 g i c) = a i.val * if i.val = 0 then 0 else b (i.val - 1)) (h : EReal) (r : Fin 8) :
    (k0_pay30 P rowNo R (ix3 g r c) : EReal) * h + (k0_pay29 P Q rowNo R S (ix3 g r c) : EReal) = Plain.steps a b h (r.val + 1) := by
  have hd : ∀ (i : ℕ) (y z : EReal), a i * (y + z) = a i * y + a i * z := fun i y z => EReal.left_distrib_of_nonneg_of_ne_top (ha i) (ht i) y z
  pointwise [k0_pay29, k0_pay30, k0_pay25, k0_pay26, k0_pay27, k0_pay28, rowNo]
  fin_cases r
  all_goals simp [Scalar.select, IntOp.cmpi]
  all_goals simp only [hP, hQ, hR, hS, Plain.steps]
  all_goals simp only [mul_assoc, hd, reduceIte, Fin.val_zero, Fin.val_one, mul_zero, add_zero, zero_add, mul_one, one_mul, Fin.isValue, Nat.reduceSub, Nat.reduceAdd, Fin.val_ofNat, Nat.reduceMod, OfNat.ofNat_ne_zero, one_ne_zero, Fin.coe_ofNat_eq_mod]
  all_goals simp only [mul_left_comm, mul_comm]
  all_goals abel

/-- A group's rows over a carried row. -/
theorem group_apply (A B : VG Ideal) (k : V1 Ideal) (n : ℕ) (hn : n < 128) (r : Fin 8) :
    addf (mulf (sl A n) (bro k)) (sl B n) (ix2 r c) = A (ix3 ⟨n, hn⟩ r c) * k (ix2 0 c) + B (ix3 ⟨n, hn⟩ r c) := by
  have e : (⟨n % 128, Nat.mod_lt _ (by decide)⟩ : Fin 128) = ⟨n, hn⟩ := Fin.ext (Nat.mod_eq_of_lt hn)
  rw [← e]
  pointwise [sl, bro]
theorem row7_apply (A : V8 Ideal) : row7 A (ix2 0 c) = A (ix2 7 c) := by
  pointwise [row7]
theorem plus_zero_row (A : V1 Ideal) : addf A (row0 k0_pay32) (ix2 0 c) = A (ix2 0 c) := by
  pointwise [row0, k0_pay32]

/-- The rows of all groups, when each group's coefficients are eight steps composed. -/
theorem hs_apply (A B : VG Ideal) (h : V1 Ideal) (S : ℕ → EReal)
    (hAB : ∀ (n : ℕ) (hn : n < 128) (r : Fin 8), A (ix3 ⟨n, hn⟩ r c) * S (8 * n) + B (ix3 ⟨n, hn⟩ r c) = S (8 * n + r.val + 1))
    (h0 : h (ix2 0 c) = S 0) : ∀ (n : ℕ) (hn : n < 128) (r : Fin 8), hs A B h n (ix2 r c) = S (8 * n + r.val + 1)
  | 0, hn, r => by
    rw [hs_zero, group_apply _ _ _ _ _ hn, plus_zero_row, h0]
    exact hAB 0 hn r
  | n + 1, hn, r => by
    rw [hs_succ, group_apply _ _ _ _ _ hn, row7_apply, hs_apply A B h S hAB h0 n (by omega) 7]
    exact hAB (n + 1) hn r

end Compose

/-! ## The coefficients -/

section Coef

variable (C R I : FVec Ideal S1024x512 .f32) (L : V1 Ideal) (g : Fin 128) (r : Fin 8) (c : Fin 512)

/-- The logarithm of the decay at a row, from the gate there. -/
def la (q l : EReal) : EReal := Ideal.ofBits .f32 0xC1000000#32 * q * (max (0 - l) 0 + Ideal.log1p (Ideal.exp (0 - FloatOps.absf (F := Ideal) (φ := .f32) (0 - l))))

theorem decay_apply : k0_pay20 R (k0_pay15 L) (k0_pay16 L) (ix3 g r c) = Ideal.exp (la (R (ix2 ⟨g.val * 8 + r.val, by omega⟩ c)) (L (ix2 0 c))) := by
  pointwise [k0_pay20, k0_pay18, k0_pay17, k0_pay16, k0_pay15, k0_pay14]
  rfl
theorem input_apply : k0_pay21 C R I (k0_pay15 L) (k0_pay16 L) (ix3 g r c) =
    Ideal.sqrt ((0 - Ideal.tanh (la (R (ix2 ⟨g.val * 8 + r.val, by omega⟩ c)) (L (ix2 0 c))))
        * (1 + Ideal.exp (la (R (ix2 ⟨g.val * 8 + r.val, by omega⟩ c)) (L (ix2 0 c))) * Ideal.exp (la (R (ix2 ⟨g.val * 8 + r.val, by omega⟩ c)) (L (ix2 0 c)))))
      * (I (ix2 ⟨g.val * 8 + r.val, by omega⟩ c) * C (ix2 ⟨g.val * 8 + r.val, by omega⟩ c)) := by
  pointwise [k0_pay21, k0_pay18, k0_pay17, k0_pay16, k0_pay15, k0_pay14]
  rfl
theorem shifted_apply (p q : V1 Ideal) (a : ℕ → EReal) (ha : ∀ i : Fin 8, k0_pay20 R p q (ix3 g i c) = a i.val) :
    k0_pay23 R p q (ix3 g r c) = if r.val = 0 then 1 else a (r.val - 1) := by
  pointwise [k0_pay23, k0_pay22]
  fin_cases r
  all_goals simp [Scalar.select, IntOp.cmpi, ha]
theorem moved_apply (p q : V1 Ideal) (a b : ℕ → EReal) (ha : ∀ i : Fin 8, k0_pay20 R p q (ix3 g i c) = a i.val) (hb : ∀ i : Fin 8, k0_pay21 C R I p q (ix3 g i c) = b i.val) :
    k0_pay24 C R I p q (ix3 g r c) = a r.val * if r.val = 0 then 0 else b (r.val - 1) := by
  pointwise [k0_pay24, k0_pay22]
  rw [ha]
  fin_cases r
  all_goals simp [Scalar.select, IntOp.cmpi, hb]

end Coef

end Cert.KernelIdeal.Proj

end
-- ==== Proof.ChunkPlain.lean ====
/- One chunk of the kernel against the plain formulas: given its operands and what is carried into it, what it writes and carries on. -/
module

public import proofs.«01_k».proof.Proof.ChunkVal

@[expose] public section

set_option maxRecDepth 65536

noncomputable section

namespace Cert.KernelIdeal.Proj

open Idealize.ShloMosaic
open Cert.KernelIdeal Cert.KernelIdeal.Gen
open Idealize.ShloMosaic.View (ld canon)

/-- Row `r` of chunk `k`, as a position of the sequence. -/
abbrev pos (k : ℕ) (hk : k < 4) (r : Fin 1024) : Fin 4096 := ⟨1024 * k + r.val, by omega⟩

/-- What the resident operands hold. -/
structure Weights (x3 : Vec Ideal S1024x2560 .bf16) (x4 : Vec Ideal S4x512 .f32) (x5 : Vec Ideal S1x512 .f32) (x6 : Vec Ideal S512x1024 .bf16) (x7 x8 x9 x10 : Vec Ideal S1x512 .f32)
    (w : (⟨2, ![1024, 2560]⟩ : Shape).Idx → EReal) (cw : (⟨3, ![4, 1, 512]⟩ : Shape).Idx → EReal) (cb : (⟨1, ![512]⟩ : Shape).Idx → EReal)
    (wa : (⟨3, ![8, 64, 64]⟩ : Shape).Idx → EReal) (ba : (⟨1, ![512]⟩ : Shape).Idx → EReal) (wx : (⟨3, ![8, 64, 64]⟩ : Shape).Idx → EReal)
    (bx lam g : (⟨1, ![512]⟩ : Shape).Idx → EReal) : Prop where
  proj : ∀ (d : Fin 1024) (e : Fin 2560), x3 (ix2 d e) = w (ix2 d e)
  taps : ∀ (j : Fin 4) (c : Fin 512), x4 (ix2 j c) = cw (ix3 j 0 c)
  bias : ∀ c : Fin 512, x5 (ix2 0 c) = cb (ix1 c)
  left : ∀ i c : Fin 512, x6 (ix2 i ⟨c.val, by omega⟩) = if i.val / 64 = c.val / 64 then wa (ix3 ⟨i.val / 64, by omega⟩ ⟨i.val % 64, by omega⟩ ⟨c.val % 64, by omega⟩) else 0
  right : ∀ i c : Fin 512, x6 (ix2 i ⟨512 + c.val, by omega⟩) = if i.val / 64 = c.val / 64 then wx (ix3 ⟨i.val / 64, by omega⟩ ⟨i.val % 64, by omega⟩ ⟨c.val % 64, by omega⟩) else 0
  biasA : ∀ c : Fin 512, x7 (ix2 0 c) = ba (ix1 c)
  biasX : ∀ c : Fin 512, x8 (ix2 0 c) = bx (ix1 c)
  rate : ∀ c : Fin 512, x9 (ix2 0 c) = lam (ix1 c)
  scale : ∀ c : Fin 512, x10 (ix2 0 c) = g (ix1 c)

/-- A sum against a column of a block-diagonal matrix is the block's own. -/
theorem sum_blocks (f : Fin 512 → EReal) (v : (⟨3, ![8, 64, 64]⟩ : Shape).Idx → EReal) (c : Fin 512) :
    ∑ i : Fin 512, f i * (if i.val / 64 = c.val / 64 then v (ix3 ⟨i.val / 64, by omega⟩ ⟨i.val % 64, by omega⟩ ⟨c.val % 64, by omega⟩) else 0)
      = ∑ p : Fin 64, v (ix3 ⟨c.val / 64, by omega⟩ p ⟨c.val % 64, by omega⟩) * f ⟨c.val / 64 * 64 + p.val, by omega⟩ := by
  rw [← (finProdFinEquiv (m := 8) (n := 64)).sum_comp, Fintype.sum_prod_type, Finset.sum_eq_single (⟨c.val / 64, by omega⟩ : Fin 8)]
  · refine Finset.sum_congr rfl fun p _ => ?_
    have e1 : (finProdFinEquiv (m := 8) (n := 64) (⟨c.val / 64, by omega⟩, p)).val = p.val + 64 * (c.val / 64) := rfl
    have e2 : (p.val + 64 * (c.val / 64)) / 64 = c.val / 64 := by omega
    have e3 : (p.val + 64 * (c.val / 64)) % 64 = p.val := by omega
    rw [if_pos (by rw [e1, e2]), mul_comm]
    congr 3
    · exact Fin.ext (by show (finProdFinEquiv (m := 8) (n := 64) (⟨c.val / 64, by omega⟩, p)).val / 64 = _; rw [e1, e2])
    · exact Fin.ext (by show (finProdFinEquiv (m := 8) (n := 64) (⟨c.val / 64, by omega⟩, p)).val % 64 = _; rw [e1, e3])
    · exact Fin.ext (by rw [e1]; show _ = c.val / 64 * 64 + p.val; omega)
  · intro n _ hn
    refine Finset.sum_eq_zero fun p _ => ?_
    have e1 : (finProdFinEquiv (m := 8) (n := 64) (n, p)).val = p.val + 64 * n.val := rfl
    rw [if_neg, mul_zero]
    rw [e1]
    intro e
    exact hn (Fin.ext (by show n.val = c.val / 64; omega))
  · exact fun e => absurd (Finset.mem_univ _) e

section Blocks

variable (x2 : Vec Ideal S1x1024x1024 .f32) (x3 : Vec Ideal S1024x2560 .bf16)

/-- The groups stacked, then gated. -/
theorem ygate_apply (v : FVec Ideal S1024x512 .f32) (A B : VG Ideal) (h : V1 Ideal) (r : Fin 1024) (c : Fin 512) :
    ygate v A B h (ix2 r c) = Plain.gelu (v (ix2 r c)) * hs A B h (r.val / 8) (ix2 ⟨r.val % 8, by omega⟩ c) := by
  have e := concatenate_ofFn_apply (t := S1024x512) (s₁ := S8x512) 0 (fun n : Fin 128 => hs A B h n.val) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S1024x512_d0 rfl 8 rfl (ix2 r c)
    ⟨r.val / 8, by omega⟩ rfl (ix2 ⟨r.val % 8, by omega⟩ c) rfl (fun b hb => by
      match b with
      | ⟨0, _⟩ => exact absurd rfl hb
      | ⟨1, _⟩ => rfl)
  rw [← e, ← Plain.gelu_eq]
  have e0 : ∀ i : S1024x512.Idx, addf v (broadcastTo S1024x512 (extractStridedSlice S1x512 ![0, 0] (broadcast S8x512 (Scalar.ofBits (F := Ideal) .f32 0x00000000#32)) slices_S8x512_o0_0_S1x512) broadcasts_S1x512_S1024x512) i = v i := by
    intro i
    show v i + Ideal.ofBits .f32 0x00000000#32 = v i
    rw [Ideal.ofBits_zero_f32, add_zero]
  rw [← e0 (ix2 r c)]
  have one : (1 : EReal) = Ideal.ofBits .f32 0x3F800000#32 := Ideal.ofBits_one_f32.symm
  rw [one]
  rfl

theorem yrms_apply (v : FVec Ideal S1024x512 .f32) (A B : VG Ideal) (h : V1 Ideal) (r : Fin 1024) :
    yrms v A B h (ix2 r 0) = Ideal.rsqrt (Ideal.div (∑ c : Fin 512, ygate v A B h (ix2 r c) * ygate v A B h (ix2 r c))
      (Ideal.ofBits .f32 0x44000000#32) + Ideal.ofBits .f32 0x358637BD#32) := by
  unfold yrms ygate
  pointwise [k0_pay198]

theorem last_apply (A B : VG Ideal) (h : V1 Ideal) (c : Fin 512) :
    k0_pay195 B (row7 (hs A B h 126)) (sl A 127) (ix2 0 c) = hs A B h 127 (ix2 7 c) := by
  have e : k0_pay194 B (row7 (hs A B h 126)) (sl A 127) = hs A B h 127 := rfl
  rw [← e]
  pointwise [k0_pay195]

/-- A product's block of 512 columns. -/
theorem block2_apply (v : Vec Ideal S1024x512 .bf16) (r : Fin 1024) (c : Fin 512) :
    k0_pay196 (k0_pay2 x2) v (ix3 0 r c) = ∑ d : Fin 1024, x2 (ix3 0 r d) * v (ix2 d c) := by
  pointwise [k0_pay196, k0_pay2]
theorem block1_apply (v : Vec Ideal S1024x512 .bf16) (r : Fin 1024) (c : Fin 512) :
    k0_pay31 (k0_pay2 x2) v (ix3 0 r c) = ∑ d : Fin 1024, x2 (ix3 0 r d) * v (ix2 d c) := by
  pointwise [k0_pay31, k0_pay2]
theorem block0_apply (v : Vec Ideal S1024x512 .bf16) (r : Fin 1024) (c : Fin 512) :
    k0_pay19 (k0_pay2 x2) v (ix3 0 r c) = ∑ d : Fin 1024, x2 (ix3 0 r d) * v (ix2 d c) := by
  pointwise [k0_pay19, k0_pay2]
theorem cols_apply (o : ℕ) (inb) (d : Fin 1024) (c : Fin 512) (hc : o + c.val < 2560) :
    (ld x3 (Rect.unit ![0, o] S1024x512.size inb) : Vec Ideal S1024x512 .bf16) (ix2 d c) = x3 (ix2 d ⟨o + c.val, hc⟩) := by
  pointwise []

theorem emb_cols (o : ℕ) (inb) (r : Fin 1024) (c : Fin 512) (hc : o + c.val < 1536) :
    (Rect.unit (s := S1x1024x1536) ![0, 0, o] S1x1024x512.size inb).emb (ix3 0 r c) = ix3 0 r ⟨o + c.val, hc⟩ := by
  funext a
  apply Fin.ext
  rw [ValueKit.rect_emb_unit_val]
  match a with
  | ⟨0, _⟩ => rfl
  | ⟨1, _⟩ => exact Nat.zero_add _
  | ⟨2, _⟩ => rfl
theorem not_cols (o : ℕ) (inb) (r : Fin 1024) (c : Fin 1536) (hc : c.val < o) :
    (ix3 0 r c : S1x1024x1536.Idx) ∉ (Rect.unit (s := S1x1024x1536) ![0, 0, o] S1x1024x512.size inb).set := fun hm => by
  have h1 := ((Rect.mem_set_unit (inb := inb)).mp hm 2).1
  have h2 : o ≤ c.val := h1
  omega

/-- Three blocks of columns side by side, read in each. -/
theorem cols_2 (p2 p1 p0 : Vec Ideal S1x1024x512 .f32) (r : Fin 1024) (q : Fin 512) (hq : 1024 + q.val < 1536) :
    canon (Val := Elt Ideal) (e := .f32) (s := S1x1024x1536) [⟨Rect.unit ![0, 0, 1024] S1x1024x512.size inb_S1x1024x1536_S1x1024x512_0_0_1024, p2⟩,
      ⟨Rect.unit ![0, 0, 512] S1x1024x512.size inb_S1x1024x1536_S1x1024x512_0_0_512, p1⟩,
      ⟨Rect.unit ![0, 0, 0] S1x1024x512.size inb_S1x1024x1536_S1x1024x512_0_0_0, p0⟩] (ix3 0 r ⟨1024 + q.val, hq⟩) = p2 (ix3 0 r q) := by
  rw [← emb_cols 1024 inb_S1x1024x1536_S1x1024x512_0_0_1024 r q hq]
  exact View.canon_cons_emb _ _ _ _
theorem cols_1 (p2 p1 p0 : Vec Ideal S1x1024x512 .f32) (r : Fin 1024) (q : Fin 512) (hq : 512 + q.val < 1536) :
    canon (Val := Elt Ideal) (e := .f32) (s := S1x1024x1536) [⟨Rect.unit ![0, 0, 1024] S1x1024x512.size inb_S1x1024x1536_S1x1024x512_0_0_1024, p2⟩,
      ⟨Rect.unit ![0, 0, 512] S1x1024x512.size inb_S1x1024x1536_S1x1024x512_0_0_512, p1⟩,
      ⟨Rect.unit ![0, 0, 0] S1x1024x512.size inb_S1x1024x1536_S1x1024x512_0_0_0, p0⟩] (ix3 0 r ⟨512 + q.val, hq⟩) = p1 (ix3 0 r q) := by
  refine (View.canon_cons_of_not_mem (⟨Rect.unit ![0, 0, 1024] S1x1024x512.size inb_S1x1024x1536_S1x1024x512_0_0_1024, p2⟩ : View.Piece (Elt Ideal) S1x1024x1536 .f32) _ (not_cols 1024 inb_S1x1024x1536_S1x1024x512_0_0_1024 r ⟨512 + q.val, hq⟩ (by show 512 + q.val < 1024; omega))).trans ?_
  rw [← emb_cols 512 inb_S1x1024x1536_S1x1024x512_0_0_512 r q hq]
  exact View.canon_cons_emb _ _ _ _
theorem cols_0 (p2 p1 p0 : Vec Ideal S1x1024x512 .f32) (r : Fin 1024) (q : Fin 512) (hq : 0 + q.val < 1536) :
    canon (Val := Elt Ideal) (e := .f32) (s := S1x1024x1536) [⟨Rect.unit ![0, 0, 1024] S1x1024x512.size inb_S1x1024x1536_S1x1024x512_0_0_1024, p2⟩,
      ⟨Rect.unit ![0, 0, 512] S1x1024x512.size inb_S1x1024x1536_S1x1024x512_0_0_512, p1⟩,
      ⟨Rect.unit ![0, 0, 0] S1x1024x512.size inb_S1x1024x1536_S1x1024x512_0_0_0, p0⟩] (ix3 0 r ⟨0 + q.val, hq⟩) = p0 (ix3 0 r q) := by
  refine (View.canon_cons_of_not_mem (⟨Rect.unit ![0, 0, 1024] S1x1024x512.size inb_S1x1024x1536_S1x1024x512_0_0_1024, p2⟩ : View.Piece (Elt Ideal) S1x1024x1536 .f32) _ (not_cols 1024 inb_S1x1024x1536_S1x1024x512_0_0_1024 r ⟨0 + q.val, hq⟩ (by show 0 + q.val < 1024; omega))).trans ?_
  refine (View.canon_cons_of_not_mem (⟨Rect.unit ![0, 0, 512] S1x1024x512.size inb_S1x1024x1536_S1x1024x512_0_0_512, p1⟩ : View.Piece (Elt Ideal) S1x1024x1536 .f32) _ (not_cols 512 inb_S1x1024x1536_S1x1024x512_0_0_512 r ⟨0 + q.val, hq⟩ (by show 0 + q.val < 512; omega))).trans ?_
  rw [← emb_cols 0 inb_S1x1024x1536_S1x1024x512_0_0_0 r q hq]
  exact View.canon_cons_emb _ _ _ _

theorem qkvOf_2 (r : Fin 1024) (q : Fin 512) (hq : 1024 + q.val < 1536) (hw : 1024 + q.val < 2560) :
    qkvOf x2 x3 (ix3 0 r ⟨1024 + q.val, hq⟩) = ∑ d : Fin 1024, x2 (ix3 0 r d) * x3 (ix2 d ⟨1024 + q.val, hw⟩) := by
  refine (cols_2 _ _ _ r q hq).trans ?_
  rw [lx_eq, block2_apply]
  exact Finset.sum_congr rfl fun d _ => congrArg (x2 (ix3 0 r d) * ·) (cols_apply x3 1024 _ d q hw)
theorem qkvOf_1 (r : Fin 1024) (q : Fin 512) (hq : 512 + q.val < 1536) (hw : 512 + q.val < 2560) :
    qkvOf x2 x3 (ix3 0 r ⟨512 + q.val, hq⟩) = ∑ d : Fin 1024, x2 (ix3 0 r d) * x3 (ix2 d ⟨512 + q.val, hw⟩) := by
  refine (cols_1 _ _ _ r q hq).trans ?_
  rw [lx_eq, block1_apply]
  exact Finset.sum_congr rfl fun d _ => congrArg (x2 (ix3 0 r d) * ·) (cols_apply x3 512 _ d q hw)
theorem qkvOf_0 (r : Fin 1024) (q : Fin 512) (hq : 0 + q.val < 1536) (hw : 0 + q.val < 2560) :
    qkvOf x2 x3 (ix3 0 r ⟨0 + q.val, hq⟩) = ∑ d : Fin 1024, x2 (ix3 0 r d) * x3 (ix2 d ⟨0 + q.val, hw⟩) := by
  refine (cols_0 _ _ _ r q hq).trans ?_
  rw [lx_eq, block0_apply]
  exact Finset.sum_congr rfl fun d _ => congrArg (x2 (ix3 0 r d) * ·) (cols_apply x3 0 _ d q hw)

/-- The first result's block is the product with the first 1536 columns. -/
theorem qkvOf_apply (r : Fin 1024) (c : Fin 1536) (hc : c.val < 2560) : qkvOf x2 x3 (ix3 0 r c) = ∑ d : Fin 1024, x2 (ix3 0 r d) * x3 (ix2 d ⟨c.val, hc⟩) := by
  obtain ⟨c, h⟩ := c
  by_cases h2 : 1024 ≤ c
  · obtain ⟨q, rfl⟩ : ∃ q, c = 1024 + q := ⟨c - 1024, by omega⟩
    exact qkvOf_2 x2 x3 r ⟨q, by omega⟩ h hc
  by_cases h1 : 512 ≤ c
  · obtain ⟨q, rfl⟩ : ∃ q, c = 512 + q := ⟨c - 512, by omega⟩
    exact qkvOf_1 x2 x3 r ⟨q, by omega⟩ h hc
  · obtain ⟨q, rfl⟩ : ∃ q, c = 0 + q := ⟨c, by omega⟩
    exact qkvOf_0 x2 x3 r ⟨q, by omega⟩ h hc

end Blocks

variable (x2 : Vec Ideal S1x1024x1024 .f32) (x3 : Vec Ideal S1024x2560 .bf16) (x4 : Vec Ideal S4x512 .f32) (x5 : Vec Ideal S1x512 .f32) (x6 : Vec Ideal S512x1024 .bf16) (x7 : Vec Ideal S1x512 .f32) (x8 : Vec Ideal S1x512 .f32) (x9 : Vec Ideal S1x512 .f32) (x10 : Vec Ideal S1x512 .f32) (T : V8 Ideal) (h : V1 Ideal)
  (x : (⟨3, ![8, 4096, 1024]⟩ : Shape).Idx → EReal) (w : (⟨2, ![1024, 2560]⟩ : Shape).Idx → EReal)
  (cw : (⟨3, ![4, 1, 512]⟩ : Shape).Idx → EReal) (cb : (⟨1, ![512]⟩ : Shape).Idx → EReal)
  (wa : (⟨3, ![8, 64, 64]⟩ : Shape).Idx → EReal) (ba : (⟨1, ![512]⟩ : Shape).Idx → EReal)
  (wx : (⟨3, ![8, 64, 64]⟩ : Shape).Idx → EReal) (bx lam g : (⟨1, ![512]⟩ : Shape).Idx → EReal)
  (W : Weights x3 x4 x5 x6 x7 x8 x9 x10 w cw cb wa ba wx bx lam g) (b : Fin 8) (k : ℕ) (hk : k < 4)
  (hx : ∀ (r d : Fin 1024), x2 (ix3 0 r d) = x (ix3 b (pos k hk r) d))
  (hT : ∀ (r : Fin 8) (c : Fin 512), T (ix2 r c) = if 8 ≤ 1024 * k + r.val then Plain.u x w b (1024 * k + r.val - 8) c else 0)
  (hh : ∀ c : Fin 512, h (ix2 0 c) = Plain.state x w cw cb wa ba wx bx lam b c (1024 * k))

include W hx in
theorem uRows_plain (r : Fin 1024) (c : Fin 512) : uRows x2 x3 (ix2 r c) = Plain.u x w b (1024 * k + r.val) c := by
  rw [uRows_apply, Plain.u, dif_pos (by omega)]
  exact Finset.sum_congr rfl fun d _ => by rw [hx, W.proj]
include W hx in
theorem gRows_plain (r : Fin 1024) (c : Fin 512) : gRows x2 x3 (ix2 r c) = Plain.outer x w b (pos k hk r) c := by
  rw [gRows_apply, Plain.outer]
  exact Finset.sum_congr rfl fun d _ => by rw [hx, W.proj]

include W hx hT in
theorem buf_plain (n : ℕ) (hn : n < 1032) (c : Fin 512) (hn' : n < 1040) :
    canon (uBuf x2 x3 T) (ix2 ⟨n, hn'⟩ c) = if 8 ≤ 1024 * k + n then Plain.u x w b (1024 * k + n - 8) c else 0 := by
  by_cases h8 : 8 ≤ n
  · obtain ⟨r, rfl⟩ : ∃ r, n = 8 + r := ⟨n - 8, by omega⟩
    rw [buf_new x2 x3 T ⟨r, by omega⟩ c, uRows_plain x2 x3 x4 x5 x6 x7 x8 x9 x10 x w cw cb wa ba wx bx lam g W b k hk hx, if_pos (by omega)]
    congr 1
    show 1024 * k + r = _
    omega
  · rw [buf_old x2 x3 T ⟨n, by omega⟩ c, hT]
include W hx hT in
theorem tap_plain (j : ℕ) (hj : j ≤ 8) (hi) (r : Fin 1024) (c : Fin 512) : tap x2 x3 T j hi (ix2 r c) = Plain.past x w b (1024 * k + r.val) (8 - j) c := by
  rw [tap_apply x2 x3 T j hi r c (by omega), buf_plain x2 x3 x4 x5 x6 x7 x8 x9 x10 T x w cw cb wa ba wx bx lam g W b k hk hx hT _ (by omega), Plain.past]
  by_cases hp : 8 ≤ 1024 * k + (j + r.val)
  · rw [if_pos hp, if_pos (by omega)]
    congr 1
    omega
  · rw [if_neg hp, if_neg (by omega)]
include W hx hT in
theorem tailOf_plain (r : Fin 8) (c : Fin 512) : tailOf x2 x3 T (ix2 r c) = if 8 ≤ 1024 * (k + 1) + r.val then Plain.u x w b (1024 * (k + 1) + r.val - 8) c else 0 := by
  rw [tailOf_apply x2 x3 T r c (by omega), buf_plain x2 x3 x4 x5 x6 x7 x8 x9 x10 T x w cw cb wa ba wx bx lam g W b k hk hx hT _ (by omega)]
  have e : 1024 * k + (1024 + r.val) = 1024 * (k + 1) + r.val := by ring
  rw [e]
include W hx hT in
theorem cRows_plain (r : Fin 1024) (c : Fin 512) : cRows x2 x3 x4 x5 T (ix2 r c) = Plain.conv x w cw cb b (1024 * k + r.val) c := by
  have t := fun j hj hi => tap_plain x2 x3 x4 x5 x6 x7 x8 x9 x10 T x w cw cb wa ba wx bx lam g W b k hk hx hT j hj hi r c
  rw [cRows_apply, t 8 (by omega), t 5 (by omega), t 6 (by omega), t 7 (by omega), W.bias, W.taps, W.taps, W.taps, W.taps, Plain.conv]
  simp only [Nat.reduceSub]
  abel

include W hx hT in
theorem rRows_plain (r : Fin 1024) (c : Fin 512) : rRows x2 x3 x4 x5 x6 x7 T (ix2 r c) = Plain.gate x w cw cb wa ba b (1024 * k + r.val) c := by
  have hc := fun i => cRows_plain x2 x3 x4 x5 x6 x7 x8 x9 x10 T x w cw cb wa ba wx bx lam g W b k hk hx hT r i
  rw [rRows_apply, W.biasA]
  simp only [hc, W.left]
  rw [sum_blocks]
  rfl
include W hx hT in
theorem iRows_plain (r : Fin 1024) (c : Fin 512) : iRows x2 x3 x4 x5 x6 x8 T (ix2 r c) = Plain.gate x w cw cb wx bx b (1024 * k + r.val) c := by
  have hc := fun i => cRows_plain x2 x3 x4 x5 x6 x7 x8 x9 x10 T x w cw cb wa ba wx bx lam g W b k hk hx hT r i
  rw [iRows_apply, W.biasX]
  simp only [hc, W.right]
  rw [sum_blocks]
  rfl

theorem la_plain (s : ℕ) (c : Fin 512) : la (Plain.gate x w cw cb wa ba b s c) (lam (ix1 c)) = Plain.logDecay x w cw cb wa ba lam b s c := by
  simp only [la, Plain.logDecay, Plain.soft, zero_sub]

include W hx hT in
theorem decay_plain (n : Fin 128) (i : Fin 8) (c : Fin 512) : k0_pay20 (rRows x2 x3 x4 x5 x6 x7 T) (k0_pay15 (lrow x9)) (k0_pay16 (lrow x9)) (ix3 n i c)
    = Ideal.exp (Plain.logDecay x w cw cb wa ba lam b (1024 * k + 8 * n.val + i.val) c) := by
  have e : 1024 * k + (n.val * 8 + i.val) = 1024 * k + 8 * n.val + i.val := by ring
  rw [decay_apply, rRows_plain x2 x3 x4 x5 x6 x7 x8 x9 x10 T x w cw cb wa ba wx bx lam g W b k hk hx hT, lrow_eq, W.rate, la_plain]
  show Ideal.exp (Plain.logDecay x w cw cb wa ba lam b (1024 * k + (n.val * 8 + i.val)) c) = _
  rw [e]
include W hx hT in
theorem input_plain (n : Fin 128) (i : Fin 8) (c : Fin 512) :
    k0_pay21 (cRows x2 x3 x4 x5 T) (rRows x2 x3 x4 x5 x6 x7 T) (iRows x2 x3 x4 x5 x6 x8 T) (k0_pay15 (lrow x9)) (k0_pay16 (lrow x9)) (ix3 n i c)
    = Plain.input x w cw cb wa ba wx bx lam b (1024 * k + 8 * n.val + i.val) c := by
  have e : 1024 * k + (n.val * 8 + i.val) = 1024 * k + 8 * n.val + i.val := by ring
  rw [input_apply, rRows_plain x2 x3 x4 x5 x6 x7 x8 x9 x10 T x w cw cb wa ba wx bx lam g W b k hk hx hT,
    iRows_plain x2 x3 x4 x5 x6 x7 x8 x9 x10 T x w cw cb wa ba wx bx lam g W b k hk hx hT,
    cRows_plain x2 x3 x4 x5 x6 x7 x8 x9 x10 T x w cw cb wa ba wx bx lam g W b k hk hx hT, lrow_eq, W.rate, la_plain,
    Plain.factor_eq _ (Plain.logDecay_nonpos x w cw cb wa ba lam b _ c)]
  show Plain.input x w cw cb wa ba wx bx lam b (1024 * k + (n.val * 8 + i.val)) c = _
  rw [e]

include W hx hT in
/-- A group's coefficients take the state at its start to the state after each of its rows. -/
theorem coef_plain (n : ℕ) (hn : n < 128) (r : Fin 8) (c : Fin 512) :
    (coefA x2 x3 x4 x5 x6 x7 x9 T (ix3 ⟨n, hn⟩ r c) : EReal) * Plain.state x w cw cb wa ba wx bx lam b c (1024 * k + 8 * n)
      + (coefB x2 x3 x4 x5 x6 x7 x8 x9 T (ix3 ⟨n, hn⟩ r c) : EReal) = Plain.state x w cw cb wa ba wx bx lam b c (1024 * k + (8 * n + r.val + 1)) := by
  have hA := fun i => decay_plain x2 x3 x4 x5 x6 x7 x8 x9 x10 T x w cw cb wa ba wx bx lam g W b k hk hx hT ⟨n, hn⟩ i c
  have hB := fun i => input_plain x2 x3 x4 x5 x6 x7 x8 x9 x10 T x w cw cb wa ba wx bx lam g W b k hk hx hT ⟨n, hn⟩ i c
  have hc := composed (k0_pay20 (rRows x2 x3 x4 x5 x6 x7 T) (k0_pay15 (lrow x9)) (k0_pay16 (lrow x9)))
    (k0_pay21 (cRows x2 x3 x4 x5 T) (rRows x2 x3 x4 x5 x6 x7 T) (iRows x2 x3 x4 x5 x6 x8 T) (k0_pay15 (lrow x9)) (k0_pay16 (lrow x9)))
    (k0_pay23 (rRows x2 x3 x4 x5 x6 x7 T) (k0_pay15 (lrow x9)) (k0_pay16 (lrow x9)))
    (k0_pay24 (cRows x2 x3 x4 x5 T) (rRows x2 x3 x4 x5 x6 x7 T) (iRows x2 x3 x4 x5 x6 x8 T) (k0_pay15 (lrow x9)) (k0_pay16 (lrow x9)))
    c ⟨n, hn⟩ (fun i => Ideal.exp (Plain.logDecay x w cw cb wa ba lam b (1024 * k + 8 * n + i) c)) (fun i => Plain.input x w cw cb wa ba wx bx lam b (1024 * k + 8 * n + i) c)
    (fun i => Plain.exp_nonneg _) (fun i => Plain.exp_ne_top (Plain.logDecay_nonpos x w cw cb wa ba lam b _ c)) hA hB
    (fun i => shifted_apply _ _ _ _ _ _ (fun j => Ideal.exp (Plain.logDecay x w cw cb wa ba lam b (1024 * k + 8 * n + j) c)) hA)
    (fun i => moved_apply _ _ _ _ _ _ _ _ (fun j => Ideal.exp (Plain.logDecay x w cw cb wa ba lam b (1024 * k + 8 * n + j) c)) (fun j => Plain.input x w cw cb wa ba wx bx lam b (1024 * k + 8 * n + j) c) hA hB)
    (Plain.state x w cw cb wa ba wx bx lam b c (1024 * k + 8 * n)) r
  have e : 1024 * k + 8 * n + (r.val + 1) = 1024 * k + (8 * n + r.val + 1) := by ring
  rw [Plain.state_add, e] at hc
  exact hc

include W hx hT hh in
theorem hs_plain (n : ℕ) (hn : n < 128) (r : Fin 8) (c : Fin 512) :
    hs (coefA x2 x3 x4 x5 x6 x7 x9 T) (coefB x2 x3 x4 x5 x6 x7 x8 x9 T) h n (ix2 r c) = Plain.state x w cw cb wa ba wx bx lam b c (1024 * k + (8 * n + r.val + 1)) :=
  hs_apply c _ _ h (fun i => Plain.state x w cw cb wa ba wx bx lam b c (1024 * k + i))
    (fun n hn r => coef_plain x2 x3 x4 x5 x6 x7 x8 x9 x10 T x w cw cb wa ba wx bx lam g W b k hk hx hT n hn r c) (hh c) n hn r

/-! ## The results -/

include W hx hT hh in
theorem ygate_plain (r : Fin 1024) (c : Fin 512) :
    ygate (gRows x2 x3) (coefA x2 x3 x4 x5 x6 x7 x9 T) (coefB x2 x3 x4 x5 x6 x7 x8 x9 T) h (ix2 r c)
      = Plain.rows x w cw cb wa ba wx bx lam b (pos k hk r) c := by
  have e : 1024 * k + (8 * (r.val / 8) + r.val % 8 + 1) = 1024 * k + r.val + 1 := by omega
  rw [ygate_apply, gRows_plain x2 x3 x4 x5 x6 x7 x8 x9 x10 x w cw cb wa ba wx bx lam g W b k hk hx,
    hs_plain x2 x3 x4 x5 x6 x7 x8 x9 x10 T h x w cw cb wa ba wx bx lam g W b k hk hx hT hh _ (by omega)]
  show Plain.gelu _ * Plain.state x w cw cb wa ba wx bx lam b c (1024 * k + (8 * (r.val / 8) + r.val % 8 + 1)) = _
  rw [e]
  rfl

include W hx hT hh in
theorem yOf_plain (r : Fin 1024) (c : Fin 512) :
    yOf x2 x3 x4 x5 x6 x7 x8 x9 x10 T h (ix3 0 r c) = Plain.normed x w cw cb wa ba wx bx lam g b (pos k hk r) c := by
  have hy := fun c => ygate_plain x2 x3 x4 x5 x6 x7 x8 x9 x10 T h x w cw cb wa ba wx bx lam g W b k hk hx hT hh r c
  unfold yOf
  rw [lrow_eq]
  pointwise [k0_pay1]
  rw [yrms_apply, W.scale]
  simp only [hy]
  rfl

include W hx hT hh in
theorem hOf_plain (c : Fin 512) :
    hOf x2 x3 x4 x5 x6 x7 x8 x9 T h (ix2 0 c) = Plain.state x w cw cb wa ba wx bx lam b c (1024 * (k + 1)) := by
  have e : 1024 * k + (8 * 127 + (7 : Fin 8).val + 1) = 1024 * (k + 1) := by show 1024 * k + (8 * 127 + 7 + 1) = _; omega
  rw [hOf, last_apply, hs_plain x2 x3 x4 x5 x6 x7 x8 x9 x10 T h x w cw cb wa ba wx bx lam g W b k hk hx hT hh _ (by omega), e]

include W hx in
theorem qkvOf_plain (r : Fin 1024) (c : Fin 1536) : qkvOf x2 x3 (ix3 0 r c) = Plain.qkv x w b (pos k hk r) c := by
  rw [qkvOf_apply x2 x3 r c (by omega), Plain.qkv]
  exact Finset.sum_congr rfl fun d _ => by rw [hx, W.proj]

end Cert.KernelIdeal.Proj

end
-- ==== Proof.HostVal.lean ====
/- What the host operations before the region leave in the operands they prepare, over the extended reals. -/
module

public import proofs.«01_k».proof.Proof.Gen.KernelIdeal.Frame
public import Idealize.ShloMosaic.Lib.Pointwise
public import Idealize.ShloMosaic.Lib.StableHlo.RunRead

@[expose] public section

set_option maxRecDepth 65536

noncomputable section

namespace Cert.KernelIdeal.Proj

open Idealize.ShloMosaic Idealize.ShloMosaic.TcCoe StableHlo
open Cert.KernelIdeal Cert.KernelIdeal.Gen

variable (m : (ℓ : Loc nD τ sig) → Buf (Elt Ideal) ℓ) (c : Dev nD)

/-- The identity's entries as the host computes them, -/
def eye8 : FVec Ideal S8x8 .f32 :=
  uitofp .f32 (cmpi .eq (addi (iotaInDim S8x8 32 0) (broadcastInDim S8x8 ![] bcast_S_S8x8 (constantI S_ 32 0#32))) (iotaInDim S8x8 32 1))
/-- and a stack of blocks laid out on the diagonal. -/
def diag (v : FVec Ideal S8x64x64 .f32) : FVec Ideal S512x512 .f32 :=
  shapeCast S512x512 (mulf (broadcastInDim S8x64x8x64 ![0, 1, 2, 3] bcast_S8x64x1x64_S8x64x8x64_0_1_2_3 (broadcastInDim S8x64x1x64 ![0, 1, 3] bcast_S8x64x64_S8x64x1x64_0_1_3 v))
    (broadcastInDim S8x64x8x64 ![0, 1, 2, 3] bcast_S8x1x8x1_S8x64x8x64_0_1_2_3 (broadcastInDim S8x1x8x1 ![0, 2] bcast_S8x8_S8x1x8x1_0_2 eye8))) shapeCasts_S8x64x8x64_S512x512

theorem V_proj : V m c main_v26 = (truncf .bf16 (m ((c : Thread nD τ).loc main_arg1) : FVec Ideal S1024x2560 .f32) bitsLt_bf16_f32 : FVec Ideal S1024x2560 .bf16) := by
  after_reads_simp
theorem V_taps : V m c main_v27 = shapeCast S4x512 (m ((c : Thread nD τ).loc main_arg2)) shapeCasts_S4x1x512_S4x512 := by
  after_reads_simp
  rfl
theorem V_bias : V m c main_v28 = shapeCast S1x512 (m ((c : Thread nD τ).loc main_arg3)) shapeCasts_S512_S1x512 := by
  after_reads_simp
  rfl
theorem V_biasA : V m c main_v29 = shapeCast S1x512 (m ((c : Thread nD τ).loc main_arg5)) shapeCasts_S512_S1x512 := by
  after_reads_simp
  rfl
theorem V_biasX : V m c main_v30 = shapeCast S1x512 (m ((c : Thread nD τ).loc main_arg7)) shapeCasts_S512_S1x512 := by
  after_reads_simp
  rfl
theorem V_rate : V m c main_v31 = shapeCast S1x512 (m ((c : Thread nD τ).loc main_arg8)) shapeCasts_S512_S1x512 := by
  after_reads_simp
  rfl
theorem V_scale : V m c main_v32 = shapeCast S1x512 (m ((c : Thread nD τ).loc main_arg9)) shapeCasts_S512_S1x512 := by
  after_reads_simp
  rfl
theorem V_gates : V m c main_v25 = (truncf .bf16 (concatenate S512x1024 1 [⟨S512x512, diag (m ((c : Thread nD τ).loc main_arg4))⟩, ⟨S512x512, diag (m ((c : Thread nD τ).loc main_arg6))⟩] concatenates_S512x512_S512x512_S512x1024_d1 : FVec Ideal S512x1024 .f32) bitsLt_bf16_f32 : FVec Ideal S512x1024 .bf16) := by
  after_reads_simp
  rfl

theorem eye8_apply (i j : Fin 8) : eye8 (ix2 i j) = if i = j then 1 else 0 := by
  pointwise [eye8]
  have e : ∀ i j : Fin 8, IntOp.cmpi CmpIPredicate.eq (IntOp.addi (BitVec.ofNat 32 i.val) 0#32) (BitVec.ofNat 32 j.val) = if i = j then 1#1 else 0#1 := by decide
  rw [e]
  by_cases h : i = j
  · rw [if_pos h, if_pos h]
    show (((1#1 : BitVec 1).toNat : ℝ) : EReal) = 1
    simp
  · rw [if_neg h, if_neg h]
    show (((0#1 : BitVec 1).toNat : ℝ) : EReal) = 0
    simp
theorem diag_apply (v : FVec Ideal S8x64x64 .f32) (i j : Fin 512) :
    diag v (ix2 i j) = if i.val / 64 = j.val / 64 then v (ix3 ⟨i.val / 64, by omega⟩ ⟨i.val % 64, by omega⟩ ⟨j.val % 64, by omega⟩) else 0 := by
  pointwise [diag]
  rw [eye8_apply]
  by_cases h : i.val / 64 = j.val / 64
  · rw [if_pos h, if_pos (Fin.ext h), mul_one]
  · rw [if_neg h, if_neg (fun e => h (congrArg Fin.val e)), mul_zero]
theorem row_apply (v : FVec Ideal S512 .f32) (j : Fin 512) : (shapeCast S1x512 v shapeCasts_S512_S1x512 : FVec Ideal S1x512 .f32) (ix2 0 j) = v (ix1 j) := by
  pointwise []
theorem taps_apply (v : FVec Ideal S4x1x512 .f32) (i : Fin 4) (j : Fin 512) : (shapeCast S4x512 v shapeCasts_S4x1x512_S4x512 : FVec Ideal S4x512 .f32) (ix2 i j) = v (ix3 i 0 j) := by
  pointwise []
theorem left_apply (a b : FVec Ideal S512x512 .f32) (i j : Fin 512) (hj : j.val < 1024) :
    (concatenate S512x1024 1 [⟨S512x512, a⟩, ⟨S512x512, b⟩] concatenates_S512x512_S512x512_S512x1024_d1 : FVec Ideal S512x1024 .f32) (ix2 i ⟨j.val, hj⟩) = a (ix2 i j) := by
  pointwise []
theorem right_apply (a b : FVec Ideal S512x512 .f32) (i j : Fin 512) (hj : 512 + j.val < 1024) :
    (concatenate S512x1024 1 [⟨S512x512, a⟩, ⟨S512x512, b⟩] concatenates_S512x512_S512x512_S512x1024_d1 : FVec Ideal S512x1024 .f32) (ix2 i ⟨512 + j.val, hj⟩) = b (ix2 i j) := by
  pointwise []

end Cert.KernelIdeal.Proj

end
-- ==== Proof.KerRun.lean ====
/- The kernel's run over the extended reals: its two arrays end at the plain formulas of its arguments. -/
module

public import proofs.«01_k».proof.Proof.ChunkPlain
public import proofs.«01_k».proof.Proof.HostVal
public import proofs.«01_k».proof.Proof.Body

@[expose] public section

set_option maxRecDepth 65536

noncomputable section

namespace Cert.KernelIdeal.Proj

open Idealize.ShloMosaic Idealize.ShloMosaic.TcCoe
open Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-! ## The blocks a point reads -/

theorem index_x : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index_1 : ∀ t : Fin cfg0.N, ∀ a : Fin 2, win0_1.index t a = 0 := (by decide +kernel : ∀ t : Fin grid0.N, _)
theorem index_2 : ∀ t : Fin cfg0.N, ∀ a : Fin 2, win0_2.index t a = 0 := (by decide +kernel : ∀ t : Fin grid0.N, _)
theorem index_3 : ∀ t : Fin cfg0.N, ∀ a : Fin 2, win0_3.index t a = 0 := (by decide +kernel : ∀ t : Fin grid0.N, _)
theorem index_4 : ∀ t : Fin cfg0.N, ∀ a : Fin 2, win0_4.index t a = 0 := (by decide +kernel : ∀ t : Fin grid0.N, _)
theorem index_5 : ∀ t : Fin cfg0.N, ∀ a : Fin 2, win0_5.index t a = 0 := (by decide +kernel : ∀ t : Fin grid0.N, _)
theorem index_6 : ∀ t : Fin cfg0.N, ∀ a : Fin 2, win0_6.index t a = 0 := (by decide +kernel : ∀ t : Fin grid0.N, _)
theorem index_7 : ∀ t : Fin cfg0.N, ∀ a : Fin 2, win0_7.index t a = 0 := (by decide +kernel : ∀ t : Fin grid0.N, _)
theorem index_8 : ∀ t : Fin cfg0.N, ∀ a : Fin 2, win0_8.index t a = 0 := (by decide +kernel : ∀ t : Fin grid0.N, _)
theorem points : cfg0.N = 32 := N_0

theorem b2_apply (t : Fin cfg0.N) (r d : Fin 1024) (hb : t.val / 4 < 8) (hs : 1024 * (t.val % 4) + r.val < 4096) :
    b2 m c t (ix3 0 r d) = m ((c : Thread nD τ).loc main_arg0) (ix3 ⟨t.val / 4, hb⟩ ⟨1024 * (t.val % 4) + r.val, hs⟩ d) := by
  obtain ⟨e0, e1, e2⟩ := index_x t
  show V m c main_arg0 (((cfg0.win 0).blk t).view.emb (ix3 0 r d)) = _
  rw [V_main_arg0]
  congr 1
  funext a; apply Fin.ext
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 1024 + 1 * d.val = d.val; omega

theorem b3_eq (t : Fin cfg0.N) : b3 m c t = V m c main_v26 := by
  funext y
  show V m c main_v26 (((cfg0.win 1).blk t).view.emb y) = V m c main_v26 y
  congr 1
  funext a; apply Fin.ext
  match a with
  | ⟨0, _⟩ => show win0_1.index t (0 : Fin 2) * 1024 + 1 * (y 0).val = (y 0).val; rw [index_1]; omega
  | ⟨1, _⟩ => show win0_1.index t (1 : Fin 2) * 2560 + 1 * (y 1).val = (y 1).val; rw [index_1]; omega
theorem b4_eq (t : Fin cfg0.N) : b4 m c t = V m c main_v27 := by
  funext y
  show V m c main_v27 (((cfg0.win 2).blk t).view.emb y) = V m c main_v27 y
  congr 1
  funext a; apply Fin.ext
  match a with
  | ⟨0, _⟩ => show win0_2.index t (0 : Fin 2) * 4 + 1 * (y 0).val = (y 0).val; rw [index_2]; omega
  | ⟨1, _⟩ => show win0_2.index t (1 : Fin 2) * 512 + 1 * (y 1).val = (y 1).val; rw [index_2]; omega
theorem b5_eq (t : Fin cfg0.N) : b5 m c t = V m c main_v28 := by
  funext y
  show V m c main_v28 (((cfg0.win 3).blk t).view.emb y) = V m c main_v28 y
  congr 1
  funext a; apply Fin.ext
  match a with
  | ⟨0, _⟩ => show win0_3.index t (0 : Fin 2) * 1 + 1 * (y 0).val = (y 0).val; rw [index_3]; omega
  | ⟨1, _⟩ => show win0_3.index t (1 : Fin 2) * 512 + 1 * (y 1).val = (y 1).val; rw [index_3]; omega
theorem b6_eq (t : Fin cfg0.N) : b6 m c t = V m c main_v25 := by
  funext y
  show V m c main_v25 (((cfg0.win 4).blk t).view.emb y) = V m c main_v25 y
  congr 1
  funext a; apply Fin.ext
  match a with
  | ⟨0, _⟩ => show win0_4.index t (0 : Fin 2) * 512 + 1 * (y 0).val = (y 0).val; rw [index_4]; omega
  | ⟨1, _⟩ => show win0_4.index t (1 : Fin 2) * 1024 + 1 * (y 1).val = (y 1).val; rw [index_4]; omega
theorem b7_eq (t : Fin cfg0.N) : b7 m c t = V m c main_v29 := by
  funext y
  show V m c main_v29 (((cfg0.win 5).blk t).view.emb y) = V m c main_v29 y
  congr 1
  funext a; apply Fin.ext
  match a with
  | ⟨0, _⟩ => show win0_5.index t (0 : Fin 2) * 1 + 1 * (y 0).val = (y 0).val; rw [index_5]; omega
  | ⟨1, _⟩ => show win0_5.index t (1 : Fin 2) * 512 + 1 * (y 1).val = (y 1).val; rw [index_5]; omega
theorem b8_eq (t : Fin cfg0.N) : b8 m c t = V m c main_v30 := by
  funext y
  show V m c main_v30 (((cfg0.win 6).blk t).view.emb y) = V m c main_v30 y
  congr 1
  funext a; apply Fin.ext
  match a with
  | ⟨0, _⟩ => show win0_6.index t (0 : Fin 2) * 1 + 1 * (y 0).val = (y 0).val; rw [index_6]; omega
  | ⟨1, _⟩ => show win0_6.index t (1 : Fin 2) * 512 + 1 * (y 1).val = (y 1).val; rw [index_6]; omega
theorem b9_eq (t : Fin cfg0.N) : b9 m c t = V m c main_v31 := by
  funext y
  show V m c main_v31 (((cfg0.win 7).blk t).view.emb y) = V m c main_v31 y
  congr 1
  funext a; apply Fin.ext
  match a with
  | ⟨0, _⟩ => show win0_7.index t (0 : Fin 2) * 1 + 1 * (y 0).val = (y 0).val; rw [index_7]; omega
  | ⟨1, _⟩ => show win0_7.index t (1 : Fin 2) * 512 + 1 * (y 1).val = (y 1).val; rw [index_7]; omega
theorem b10_eq (t : Fin cfg0.N) : b10 m c t = V m c main_v32 := by
  funext y
  show V m c main_v32 (((cfg0.win 8).blk t).view.emb y) = V m c main_v32 y
  congr 1
  funext a; apply Fin.ext
  match a with
  | ⟨0, _⟩ => show win0_8.index t (0 : Fin 2) * 1 + 1 * (y 0).val = (y 0).val; rw [index_8]; omega
  | ⟨1, _⟩ => show win0_8.index t (1 : Fin 2) * 512 + 1 * (y 1).val = (y 1).val; rw [index_8]; omega

/-! ## The arguments -/

abbrev aX := m ((c : Thread nD τ).loc main_arg0)
abbrev aW := m ((c : Thread nD τ).loc main_arg1)
abbrev aCW := m ((c : Thread nD τ).loc main_arg2)
abbrev aCB := m ((c : Thread nD τ).loc main_arg3)
abbrev aWA := m ((c : Thread nD τ).loc main_arg4)
abbrev aBA := m ((c : Thread nD τ).loc main_arg5)
abbrev aWX := m ((c : Thread nD τ).loc main_arg6)
abbrev aBX := m ((c : Thread nD τ).loc main_arg7)
abbrev aLam := m ((c : Thread nD τ).loc main_arg8)
abbrev aG := m ((c : Thread nD τ).loc main_arg9)

theorem weights (t : Fin cfg0.N) : Weights (b3 m c t) (b4 m c t) (b5 m c t) (b6 m c t) (b7 m c t) (b8 m c t) (b9 m c t) (b10 m c t)
    (aW m c) (aCW m c) (aCB m c) (aWA m c) (aBA m c) (aWX m c) (aBX m c) (aLam m c) (aG m c) where
  proj d e := by rw [b3_eq, V_proj]; rfl
  taps j k := by rw [b4_eq, V_taps]; exact taps_apply _ j k
  bias k := by rw [b5_eq, V_bias]; exact row_apply _ k
  left i k := by rw [b6_eq, V_gates]; exact (left_apply _ _ i k _).trans (diag_apply _ i k)
  right i k := by rw [b6_eq, V_gates]; exact (right_apply _ _ i k _).trans (diag_apply _ i k)
  biasA k := by rw [b7_eq, V_biasA]; exact row_apply _ k
  biasX k := by rw [b8_eq, V_biasX]; exact row_apply _ k
  rate k := by rw [b9_eq, V_rate]; exact row_apply _ k
  scale k := by rw [b10_eq, V_scale]; exact row_apply _ k

/-! ## What is carried -/

theorem zeros8_apply (r : Fin 8) (k : Fin 512) : (k0_pay3 : V8 Ideal) (ix2 r k) = 0 := by
  pointwise [k0_pay3]
theorem zeros1_apply (k : Fin 512) : (k0_pay4 : V1 Ideal) (ix2 0 k) = 0 := by
  pointwise [k0_pay4]
theorem kept_apply (A : V8 Ideal) (r : Fin 8) (k : Fin 512) : k0_pay5 A (ix2 r k) = A (ix2 r k) := by
  pointwise [k0_pay5]

/-- What a chunk `k` of batch entry `b` needs of what is carried into it. -/
def Carried (b : Fin 8) (k : ℕ) (s : V8 Ideal × V1 Ideal) : Prop :=
  (∀ (r : Fin 8) (e : Fin 512), s.1 (ix2 r e) = if 8 ≤ 1024 * k + r.val then Plain.u (aX m c) (aW m c) b (1024 * k + r.val - 8) e else 0)
  ∧ ∀ e : Fin 512, s.2 (ix2 0 e) = Plain.state (aX m c) (aW m c) (aCW m c) (aCB m c) (aWA m c) (aBA m c) (aWX m c) (aBX m c) (aLam m c) b e (1024 * k)

theorem carried_zero (b : Fin 8) : Carried m c b 0 (k0_pay3, k0_pay4) :=
  ⟨fun r e => (zeros8_apply r e).trans (if_neg (by omega)).symm, fun e => zeros1_apply e⟩

theorem carried_next (b : Fin 8) (k : ℕ) (A : V8 Ideal) (B : V1 Ideal)
    (hA : ∀ (r : Fin 8) (e : Fin 512), A (ix2 r e) = if 8 ≤ 1024 * (k + 1) + r.val then Plain.u (aX m c) (aW m c) b (1024 * (k + 1) + r.val - 8) e else 0)
    (hB : ∀ e : Fin 512, B (ix2 0 e) = Plain.state (aX m c) (aW m c) (aCW m c) (aCB m c) (aWA m c) (aBA m c) (aWX m c) (aBX m c) (aLam m c) b e (1024 * (k + 1))) : Carried m c b (k + 1) (k0_pay5 A, lrow B) :=
  ⟨fun r e => (kept_apply A r e).trans (hA r e), by rw [lrow_eq]; exact hB⟩

theorem block_x (t : Fin cfg0.N) (b : Fin 8) (k : ℕ) (hk : k < 4) (ht : t.val = 4 * b.val + k) (r d : Fin 1024) :
    b2 m c t (ix3 0 r d) = aX m c (ix3 b (pos k hk r) d) := by
  have e1 : t.val / 4 = b.val := by omega
  have e2 : t.val % 4 = k := by omega
  rw [b2_apply m c t r d (by omega) (by omega)]
  refine congrArg (aX m c) ?_
  have f1 : (⟨t.val / 4, by omega⟩ : Fin 8) = b := Fin.ext e1
  have f2 : (⟨1024 * (t.val % 4) + r.val, by omega⟩ : Fin 4096) = pos k hk r := Fin.ext (by show 1024 * (t.val % 4) + r.val = _; rw [e2])
  rw [f1, f2]

theorem leftU_plain (t : Fin cfg0.N) (b : Fin 8) (k : ℕ) (hk : k < 4) (ht : t.val = 4 * b.val + k) (h : Carried m c b k (carry m c t.val t.isLt)) (r : Fin 8) (e : Fin 512) :
    leftU m c t (ix2 r e) = if 8 ≤ 1024 * (k + 1) + r.val then Plain.u (aX m c) (aW m c) b (1024 * (k + 1) + r.val - 8) e else 0 := by
  unfold leftU
  exact tailOf_plain (b2 m c t) (b3 m c t) (b4 m c t) (b5 m c t) (b6 m c t) (b7 m c t) (b8 m c t) (b9 m c t) (b10 m c t) (carryU m c t) (aX m c) (aW m c) (aCW m c) (aCB m c) (aWA m c) (aBA m c) (aWX m c) (aBX m c) (aLam m c) (aG m c) (weights m c t) b k hk (block_x m c t b k hk ht) h.1 r e
theorem leftH_plain (t : Fin cfg0.N) (b : Fin 8) (k : ℕ) (hk : k < 4) (ht : t.val = 4 * b.val + k) (h : Carried m c b k (carry m c t.val t.isLt)) (e : Fin 512) :
    leftH m c t (ix2 0 e) = Plain.state (aX m c) (aW m c) (aCW m c) (aCB m c) (aWA m c) (aBA m c) (aWX m c) (aBX m c) (aLam m c) b e (1024 * (k + 1)) := by
  unfold leftH
  exact hOf_plain (b2 m c t) (b3 m c t) (b4 m c t) (b5 m c t) (b6 m c t) (b7 m c t) (b8 m c t) (b9 m c t) (b10 m c t) (carryU m c t) (carryH m c t) (aX m c) (aW m c) (aCW m c) (aCB m c) (aWA m c) (aBA m c) (aWX m c) (aBX m c) (aLam m c) (aG m c) (weights m c t) b k hk (block_x m c t b k hk ht) h.1 h.2 e
theorem outQ_plain (t : Fin cfg0.N) (b : Fin 8) (k : ℕ) (hk : k < 4) (ht : t.val = 4 * b.val + k) (r : Fin 1024) (e : Fin 1536) :
    outQ m c t (ix3 0 r e) = Plain.qkv (aX m c) (aW m c) b (pos k hk r) e := by
  unfold outQ
  exact qkvOf_plain (b2 m c t) (b3 m c t) (b4 m c t) (b5 m c t) (b6 m c t) (b7 m c t) (b8 m c t) (b9 m c t) (b10 m c t) (aX m c) (aW m c) (aCW m c) (aCB m c) (aWA m c) (aBA m c) (aWX m c) (aBX m c) (aLam m c) (aG m c) (weights m c t) b k hk (block_x m c t b k hk ht) r e
theorem outY_plain (t : Fin cfg0.N) (b : Fin 8) (k : ℕ) (hk : k < 4) (ht : t.val = 4 * b.val + k) (h : Carried m c b k (carry m c t.val t.isLt)) (r : Fin 1024) (e : Fin 512) :
    outY m c t (ix3 0 r e) = Plain.normed (aX m c) (aW m c) (aCW m c) (aCB m c) (aWA m c) (aBA m c) (aWX m c) (aBX m c) (aLam m c) (aG m c) b (pos k hk r) e := by
  unfold outY
  exact yOf_plain (b2 m c t) (b3 m c t) (b4 m c t) (b5 m c t) (b6 m c t) (b7 m c t) (b8 m c t) (b9 m c t) (b10 m c t) (carryU m c t) (carryH m c t) (aX m c) (aW m c) (aCW m c) (aCB m c) (aWA m c) (aBA m c) (aWX m c) (aBX m c) (aLam m c) (aG m c) (weights m c t) b k hk (block_x m c t b k hk ht) h.1 h.2 r e

/-- What is carried into a point: the rows before its chunk and the state there. -/
theorem carry_plain : ∀ (n : ℕ) (hn : n < cfg0.N) (b : Fin 8) (k : ℕ) (hk : k < 4) (ht : n = 4 * b.val + k), Carried m c b k (carry m c n hn) := by
  intro n
  induction n with
  | zero =>
    intro hn b k hk ht
    obtain rfl : k = 0 := by omega
    rw [carry_first m c 0 hn rfl]
    exact carried_zero m c b
  | succ n ih =>
    intro hn b k hk ht
    match k with
    | 0 =>
      rw [carry_first m c (n + 1) hn (by omega)]
      exact carried_zero m c b
    | k + 1 =>
      have h := ih (Nat.lt_of_succ_lt hn) b k (by omega) (by omega)
      rw [carry_next m c n hn (by omega)]
      exact carried_next m c b k _ _ (leftU_plain m c ⟨n, Nat.lt_of_succ_lt hn⟩ b k (by omega) (by show n = _; omega) h)
        (leftH_plain m c ⟨n, Nat.lt_of_succ_lt hn⟩ b k (by omega) (by show n = _; omega) h)

/-! ## The arrays -/

/-- The two results as arrays. -/
def resQ : Buf (Elt Ideal) ((c : Thread nD τ).loc main_v33_0) := fun i => Plain.qkv (aX m c) (aW m c) (i 0) (i 1) (i 2)
def resY : Buf (Elt Ideal) ((c : Thread nD τ).loc main_v33_1) := fun i =>
  Plain.normed (aX m c) (aW m c) (aCW m c) (aCB m c) (aWA m c) (aBA m c) (aWX m c) (aBX m c) (aLam m c) (aG m c) (i 0) (i 1) (i 2)

theorem index_q : ∀ t : Fin cfg0.N, win0_9.index t (0 : Fin 3) = t.val / 4 ∧ win0_9.index t (1 : Fin 3) = t.val % 4 ∧ win0_9.index t (2 : Fin 3) = 0 ∧ win0_9.flush t = true :=
  (by decide +kernel : ∀ t : Fin grid0.N, _)
theorem index_y : ∀ t : Fin cfg0.N, win0_10.index t (0 : Fin 3) = t.val / 4 ∧ win0_10.index t (1 : Fin 3) = t.val % 4 ∧ win0_10.index t (2 : Fin 3) = 0 ∧ win0_10.flush t = true :=
  (by decide +kernel : ∀ t : Fin grid0.N, _)

theorem idx3_eq {a b d : ℕ} (y : (⟨3, ![a, b, d]⟩ : Shape).Idx) : y = ix3 (y 0) (y 1) (y 2) := by
  funext k
  match k with
  | ⟨0, _⟩ => rfl
  | ⟨1, _⟩ => rfl
  | ⟨2, _⟩ => rfl

theorem flushedQ (t : Fin cfg0.N) : (dats m 0 c).flushed 9 t = ((cfg0.win 9).blk t).view.read (Elt Ideal) (resQ m c) := by
  show (cfg0.win 9).cut (grid0.coords t) ((dats m 0 c).after 9 t) = _
  rw [after_11]
  obtain ⟨e0, e1, e2, -⟩ := index_q t
  have ht : t.val < 32 := lt_of_lt_of_eq t.isLt points
  funext (y : S1x1024x1536.Idx)
  have h0 : (y 0).val < 1 := (y 0).isLt
  have h1 : (y 1).val < 1024 := (y 1).isLt
  show outQ m c t y = resQ m c (((cfg0.win 9).blk t).view.emb y)
  have ey : y = ix3 0 (y 1) (y 2) := (idx3_eq y).trans (congrArg (fun z => ix3 z (y 1) (y 2)) (Fin.ext (by show (y 0).val = 0; omega)))
  have hb : ((cfg0.win 9).blk t).view.emb y = (ix3 ⟨t.val / 4, by omega⟩ ⟨1024 * (t.val % 4) + (y 1).val, by omega⟩ (y 2) : S8x4096x1536.Idx) := by
    funext a; apply Fin.ext
    match a with
    | ⟨0, _⟩ => show win0_9.index t (0 : Fin 3) * 1 + 1 * (y 0).val = t.val / 4; omega
    | ⟨1, _⟩ => show win0_9.index t (1 : Fin 3) * 1024 + 1 * (y 1).val = 1024 * (t.val % 4) + (y 1).val; omega
    | ⟨2, _⟩ => show win0_9.index t (2 : Fin 3) * 1536 + 1 * (y 2).val = (y 2).val; omega
  rw [hb]
  refine (congrArg (outQ m c t) ey).trans ?_
  exact outQ_plain m c t ⟨t.val / 4, by omega⟩ (t.val % 4) (by omega) (by show t.val = 4 * (t.val / 4) + _; omega) (y 1) (y 2)
theorem flushedY (t : Fin cfg0.N) : (dats m 0 c).flushed 10 t = ((cfg0.win 10).blk t).view.read (Elt Ideal) (resY m c) := by
  show (cfg0.win 10).cut (grid0.coords t) ((dats m 0 c).after 10 t) = _
  rw [after_12]
  obtain ⟨e0, e1, e2, -⟩ := index_y t
  have ht : t.val < 32 := lt_of_lt_of_eq t.isLt points
  funext (y : S1x1024x512.Idx)
  have h0 : (y 0).val < 1 := (y 0).isLt
  have h1 : (y 1).val < 1024 := (y 1).isLt
  show outY m c t y = resY m c (((cfg0.win 10).blk t).view.emb y)
  have ey : y = ix3 0 (y 1) (y 2) := (idx3_eq y).trans (congrArg (fun z => ix3 z (y 1) (y 2)) (Fin.ext (by show (y 0).val = 0; omega)))
  have hb : ((cfg0.win 10).blk t).view.emb y = (ix3 ⟨t.val / 4, by omega⟩ ⟨1024 * (t.val % 4) + (y 1).val, by omega⟩ (y 2) : S8x4096x512.Idx) := by
    funext a; apply Fin.ext
    match a with
    | ⟨0, _⟩ => show win0_10.index t (0 : Fin 3) * 1 + 1 * (y 0).val = t.val / 4; omega
    | ⟨1, _⟩ => show win0_10.index t (1 : Fin 3) * 1024 + 1 * (y 1).val = 1024 * (t.val % 4) + (y 1).val; omega
    | ⟨2, _⟩ => show win0_10.index t (2 : Fin 3) * 512 + 1 * (y 2).val = (y 2).val; omega
  rw [hb]
  refine (congrArg (outY m c t) ey).trans ?_
  exact outY_plain m c t ⟨t.val / 4, by omega⟩ (t.val % 4) (by omega) (by show t.val = 4 * (t.val / 4) + _; omega)
    (carry_plain m c t.val t.isLt _ _ (by omega) (by show t.val = 4 * (t.val / 4) + _; omega)) (y 1) (y 2)

/-- The point that writes an entry. -/
abbrev ptOf (i0 : Fin 8) (i1 : Fin 4096) : Fin cfg0.N := ⟨4 * i0.val + i1.val / 1024, by rw [points]; omega⟩

theorem coveredQ (i : S8x4096x1536.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 1536 := (i 2).isLt
  obtain ⟨e0, e1, e2, ef⟩ := index_q (ptOf (i 0) (i 1))
  have d0 : (ptOf (i 0) (i 1)).val = 4 * (i 0).val + (i 1).val / 1024 := rfl
  refine ⟨ptOf (i 0) (i 1), ef, ?_⟩
  show i ∈ ((View.whole main_v33_0).slice (win0_9.rect (ptOf (i 0) (i 1)))).set
  rw [View.set_slice_whole, Rect.mem_set_unit]
  intro a
  match a with
  | ⟨0, _⟩ => show win0_9.index (ptOf (i 0) (i 1)) (0 : Fin 3) * 1 ≤ (i 0).val ∧ (i 0).val < win0_9.index (ptOf (i 0) (i 1)) (0 : Fin 3) * 1 + 1; omega
  | ⟨1, _⟩ => show win0_9.index (ptOf (i 0) (i 1)) (1 : Fin 3) * 1024 ≤ (i 1).val ∧ (i 1).val < win0_9.index (ptOf (i 0) (i 1)) (1 : Fin 3) * 1024 + 1024; omega
  | ⟨2, _⟩ => show win0_9.index (ptOf (i 0) (i 1)) (2 : Fin 3) * 1536 ≤ (i 2).val ∧ (i 2).val < win0_9.index (ptOf (i 0) (i 1)) (2 : Fin 3) * 1536 + 1536; omega
theorem coveredY (i : S8x4096x512.Idx) : ∃ t : Fin cfg0.N, (cfg0.win 10).flush t = true ∧ i ∈ ((cfg0.win 10).blk t).view.set := by
  have h0 : (i 0).val < 8 := (i 0).isLt
  have h1 : (i 1).val < 4096 := (i 1).isLt
  have h2 : (i 2).val < 512 := (i 2).isLt
  obtain ⟨e0, e1, e2, ef⟩ := index_y (ptOf (i 0) (i 1))
  have d0 : (ptOf (i 0) (i 1)).val = 4 * (i 0).val + (i 1).val / 1024 := rfl
  refine ⟨ptOf (i 0) (i 1), ef, ?_⟩
  show i ∈ ((View.whole main_v33_1).slice (win0_10.rect (ptOf (i 0) (i 1)))).set
  rw [View.set_slice_whole, Rect.mem_set_unit]
  intro a
  match a with
  | ⟨0, _⟩ => show win0_10.index (ptOf (i 0) (i 1)) (0 : Fin 3) * 1 ≤ (i 0).val ∧ (i 0).val < win0_10.index (ptOf (i 0) (i 1)) (0 : Fin 3) * 1 + 1; omega
  | ⟨1, _⟩ => show win0_10.index (ptOf (i 0) (i 1)) (1 : Fin 3) * 1024 ≤ (i 1).val ∧ (i 1).val < win0_10.index (ptOf (i 0) (i 1)) (1 : Fin 3) * 1024 + 1024; omega
  | ⟨2, _⟩ => show win0_10.index (ptOf (i 0) (i 1)) (2 : Fin 3) * 512 ≤ (i 2).val ∧ (i 2).val < win0_10.index (ptOf (i 0) (i 1)) (2 : Fin 3) * 512 + 512; omega

theorem arrayQ : (dats m 0 c).arrAt 9 cfg0.N = resQ m c :=
  (dats m 0 c).arrAt_eq_of_cover 9 _ (fun t _ => flushedQ m c t) (fun i => coveredQ i)
theorem arrayY : (dats m 0 c).arrAt 10 cfg0.N = resY m c :=
  (dats m 0 c).arrAt_eq_of_cover 10 _ (fun t _ => flushedY m c t) (fun i => coveredY i)

/-- Every execution ends with the two results at the plain formulas of the arguments. -/
theorem run_values : θ_run defs (onTc (τ := τ) (main (F := Ideal))) ⟨m, fun _ => 0, ρ⟩ (fun r => ∀ c : Dev nD,
    r.2.mem ((c : Thread nD τ).loc main_v33_0) = resQ m c ∧ r.2.mem ((c : Thread nD τ).loc main_v33_1) = resY m c) :=
  (θ_run defs _ _).mono (fun r h c => ⟨((h c).1 9).trans (arrayQ m c), ((h c).1 10).trans (arrayY m c)⟩) (run_arrays m ρ)

end Cert.KernelIdeal.Proj

end
-- ==== Proof.XRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the count's table. -/
abbrev countOf (x3 : Vec F S1 .i32) : BitVec 32 := x3 (Shape.Idx.first (s := S1) (numel1_S1.symm ▸ Nat.one_pos))
/-- The body's first branch: a tile that is used, at the first half of the hidden layer. -/
abbrev startAt (i : grid0.Coords) (n : BitVec 32) : Prop :=
  Scalar.cmpi .ne (Scalar.extui (Scalar.andi (Scalar.cmpi .slt (BitVec.ofNat 32 (i 0).val) n) (Scalar.cmpi .eq (BitVec.ofNat 32 (i 1).val) 0#32)) : BitVec 32) 0#32 = 1#1

/-- The count's table read by the body: its one word. -/
theorem wp_count (c : Dev nD) (arg3 : Memref sig .tc .smem S1 .i32) (harg3 : arg3.IsWhole) (q : PosShare TreeShare) (x3 : Vec F S1 .i32) {h1 hp} (E : Set ℕ)
    {k : BitVec 32 → Prog (TpuEff nD τ sig (Elt F) Λ₀ .tc) PUnit.{1}} {K : PUnit.{1} → sProp 𝕄} :
    (arg3.view.loc (c : Thread nD τ) ↦[arg3.view.set]{q} harg3.unread x3)
      ⊢ iprop(((arg3.view.loc (c : Thread nD τ) ↦[arg3.view.set]{q} harg3.unread x3) -∗ wp frame (wpE (defs₀ (F := F)) Variants.none c none) E (k (countOf x3)) K)
        -∗ wp frame (wpE (defs₀ (F := F)) Variants.none c none) E (smemLoad arg3 (Rect.unit ![0] S1.size inb_S1_S1_0) h1 hp >>= k) K) := by
  unfold smemLoad smemLoadElt
  iintro H Hk
  simp only [Prog.bind_op, Prog.bind_ret]
  iapply (wp_load_rect Variants.none (c : Thread nD τ) none E (m := arg3) (r := Rect.unit ![0] S1.size inb_S1_S1_0) (View.set_slice_subset _ _)) $$ H
  iintro H
  have e : (arg3.access (Rect.unit ![0] S1.size inb_S1_S1_0) : View sig .tc _ _ _).read (Elt F) (harg3.unread x3) (Shape.Idx.first (h1.symm ▸ Nat.one_pos)) = countOf x3 := by
    have e1 : (arg3.access (Rect.unit ![0] S1.size inb_S1_S1_0) : View sig .tc _ _ _).read (Elt F) (harg3.unread x3) (Shape.Idx.first (h1.symm ▸ Nat.one_pos))
        = arg3.view.read (Elt F) (harg3.unread x3) ((Rect.unit (s := S1) ![0] S1.size inb_S1_S1_0).emb (Shape.Idx.first (h1.symm ▸ Nat.one_pos))) := rfl
    rw [e1, harg3.read_unread]
    exact congrArg x3 (by funext a; fin_cases a; exact Subsingleton.elim (α := Fin 1) _ _)
  rw [e]
  iapply Hk $$ H

set_option maxHeartbeats 4000000 in
/-- First half of a used tile: the rows are laid out and the sum begins. -/
noncomputable def runA (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x4 : Vec F S4096x128 .f32) (x5 : Vec F S1x1024x1792 .bf16) (x6 : Vec F S1x1024x1792 .bf16) (x7 : Vec F S1x1792x1024 .bf16)
    (hc0 : startAt i (countOf x3)) (hc2 : ¬ k0_cond2 i (countOf x3) = 1#1) (hc3 : ¬ k0_cond3 i (countOf x3) = 1#1) :
    Σ' (L9 : List (View.Piece (Elt F) S512x1024 .f32)), { L10 : List (View.Piece (Elt F) S512x1024 .bf16) //
      ∀ (E : Set ℕ) (K : PUnit → sProp 𝕄),
        iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d)
            ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_ffn_experts i arg2 harg2 arg3 harg3 arg4 harg4 arg5 harg5 arg6 harg6 arg7 harg7 arg8 harg8 arg9 harg9 arg10 harg10) K } := by
  refine ⟨?_, ?_, fun E K => ?run⟩
  case run =>
    simp only [cc0_ffn_experts_eq_skeleton]; unfold cc0_ffn_experts_skel
    simp only [k0_part1_eq_skeleton, k0_part2_eq_skeleton]
    unfold owns
    iintro ⟨⟨%f3, %g3, H3⟩, ⟨%f4, %g4, H4⟩, ⟨%f5, %g5, H5⟩, ⟨%f6, %g6, H6⟩, ⟨%f7, %g7, H7⟩, ⟨%d9, %f9, -, H9⟩, ⟨%d10, %f10, -, H10⟩, Hk⟩
    obtain rfl := harg3.eq_unread g3; obtain rfl := harg4.eq_unread g4; obtain rfl := harg5.eq_unread g5; obtain rfl := harg6.eq_unread g6; obtain rfl := harg7.eq_unread g7
    iapply (wp_count c arg3 harg3 fullShare.right x3 E) $$ H3; iintro H3
    sl_exec (disch := first | sl_exact hc0 | sl_exact hc2 | sl_exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]; · iexists _; iexact H9
    iexists _; iexact H10

set_option maxHeartbeats 4000000 in
/-- Second half of a used tile: the sum ends and its columns are stored. -/
noncomputable def runB (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x5 : Vec F S1x1024x1792 .bf16) (x6 : Vec F S1x1024x1792 .bf16) (x7 : Vec F S1x1792x1024 .bf16) (x9 : Vec F S512x1024 .f32) (x10 : Vec F S512x1024 .bf16)
    (hc0 : ¬ startAt i (countOf x3)) (hc2 : k0_cond2 i (countOf x3) = 1#1) (hc3 : ¬ k0_cond3 i (countOf x3) = 1#1) :
    { L8 : List (View.Piece (Elt F) S4096x128 .f32) //
      ∀ (E : Set ℕ) (K : PUnit → sProp 𝕄),
        iprop(owns (c : Thread nD τ) arg3 fullShare.right x3 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ (∃ d, owns (c : Thread nD τ) arg8 fullShare d)
            ∗ (iprop(owns (c : Thread nD τ) arg3 fullShare.right x3 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ (∃ f, arg8.view.loc (c : Thread nD τ) ↦[arg8.view.set]{fullShare} arg8.view.writes (Elt F) f L8)) -∗ K ⟨⟩))
          ⊢ wp frame (wpE (defs₀ (F := F)) Variants.none c none) E (cc0_ffn_experts i arg2 harg2 arg3 harg3 arg4 harg4 arg5 harg5 arg6 harg6 arg7 harg7 arg8 harg8 arg9 harg9 arg10 harg10) K } := by
  refine ⟨?_, fun E K => ?run⟩
  case run =>
    simp only [cc0_ffn_experts_eq_skeleton]; unfold cc0_ffn_experts_skel
    simp only [k0_part1_eq_skeleton, k0_part2_eq_skeleton]
    unfold owns
    iintro ⟨⟨%f3, %g3, H3⟩, ⟨%f5, %g5, H5⟩, ⟨%f6, %g6, H6⟩, ⟨%f7, %g7, H7⟩, ⟨%f9, %g9, H9⟩, ⟨%f10, %g10, H10⟩, ⟨%d8, %f8, -, H8⟩, Hk⟩
    obtain rfl := harg3.eq_unread g3; obtain rfl := harg5.eq_unread g5; obtain rfl := harg6.eq_unread g6; obtain rfl := harg7.eq_unread g7; obtain rfl := harg9.eq_unread g9; obtain rfl := harg10.eq_unread g10
    iapply (wp_count c arg3 harg3 fullShare.right x3 E) $$ H3; iintro H3
    sl_exec (disch := first | sl_exact hc0 | sl_exact hc2 | sl_exact hc3)
    sl_step
    iapply Hk
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    iexists _; iexact H8

set_option maxHeartbeats 4000000 in
/-- Second half of a tile that is not used: zeros. -/
noncomputable def runC (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32)
    (hc0 : ¬ startAt i (countOf x3)) (hc2 : ¬ k0_cond2 i (countOf x3) = 1#1) (hc3 : k0_cond3 i (countOf x3) = 1#1) :
    { L8 : List (View.Piece (Elt F) S4096x128 .f32) //
      ∀ (E : Set ℕ) (K : PUnit → sProp 𝕄),
        iprop(owns (c : Thread nD τ) arg3 fullShare.right x3 ∗ (∃ d, owns (c : Thread nD τ) arg8 fullShare d)
            ∗ (iprop(owns (c : Thread nD τ) arg3 fullShare.right x3 ∗ (∃ f, arg8.view.loc (c : Thread nD τ) ↦[arg8.view.set]{fullShare} arg8.view.writes (Elt F) f L8)) -∗ K ⟨⟩))
          ⊢ wp frame (wpE (defs₀ (F := F)) Variants.none c none) E (cc0_ffn_experts i arg2 harg2 arg3 harg3 arg4 harg4 arg5 harg5 arg6 harg6 arg7 harg7 arg8 harg8 arg9 harg9 arg10 harg10) K } := by
  refine ⟨?_, fun E K => ?run⟩
  case run =>
    simp only [cc0_ffn_experts_eq_skeleton]; unfold cc0_ffn_experts_skel
    simp only [k0_part1_eq_skeleton, k0_part2_eq_skeleton]
    unfold owns
    iintro ⟨⟨%f3, %g3, H3⟩, ⟨%d8, %f8, -, H8⟩, Hk⟩
    obtain rfl := harg3.eq_unread g3
    iapply (wp_count c arg3 harg3 fullShare.right x3 E) $$ H3; iintro H3
    sl_exec (disch := first | sl_exact hc0 | sl_exact hc2 | sl_exact hc3)
    sl_step
    iapply Hk
    isplitl [H3]
    · iexists _; isplitr; · ipureintro; exact harg3.read_unread _
      iexact H3
    iexists _; iexact H8

set_option maxHeartbeats 4000000 in
/-- First half of a tile that is not used: nothing. -/
theorem runD (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32)
    (hc0 : ¬ startAt i (countOf x3)) (hc2 : ¬ k0_cond2 i (countOf x3) = 1#1) (hc3 : ¬ k0_cond3 i (countOf x3) = 1#1) (E : Set ℕ) (K : PUnit → sProp 𝕄) :
        iprop(owns (c : Thread nD τ) arg3 fullShare.right x3 ∗ (iprop(owns (c : Thread nD τ) arg3 fullShare.right x3) -∗ K ⟨⟩))
          ⊢ wp frame (wpE (defs₀ (F := F)) Variants.none c none) E (cc0_ffn_experts i arg2 harg2 arg3 harg3 arg4 harg4 arg5 harg5 arg6 harg6 arg7 harg7 arg8 harg8 arg9 harg9 arg10 harg10) K := by
  simp only [cc0_ffn_experts_eq_skeleton]; unfold cc0_ffn_experts_skel
  simp only [k0_part1_eq_skeleton, k0_part2_eq_skeleton]
  unfold owns
  iintro ⟨⟨%f3, %g3, H3⟩, Hk⟩
  obtain rfl := harg3.eq_unread g3
  iapply (wp_count c arg3 harg3 fullShare.right x3 E) $$ H3; iintro H3
  sl_exec (disch := first | sl_exact hc0 | sl_exact hc2 | sl_exact hc3)
  sl_step
  iapply Hk
  iexists _; isplitr; · ipureintro; exact harg3.read_unread _
  iexact H3

end Cert.Kernel2Ideal.Ffn
end
-- ==== Proof.XVals.lean ====
module

public import proofs.«01_k».proof.Proof.XRun
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

/-! ## What the body leaves -/

/-- Row `8 r + s` of a tile's lanes, for every `r`: the columns `128 s` and on of the tile's 512 rows. -/
def every (x4 : Vec F S4096x128 .f32) (s : Fin 8) : Vec F S512x128 .f32 := fun j =>
  x4 (fun a => match a with | ⟨0, _⟩ => (⟨8 * (j 0).val + s.val, by have : (j 0).val < 512 := (j 0).isLt; show _ < 4096; omega⟩ : Fin 4096) | ⟨1, _⟩ => (j 1 : Fin 128))

/-- The tile's rows, rounded: what the kernel lays out. -/
abbrev xbOf (x4 : Vec F S4096x128 .f32) : Vec F S512x1024 .bf16 := k0_pay14 (every x4 0) (every x4 1) (every x4 2) (every x4 3) (every x4 4) (every x4 5) (every x4 6) (every x4 7)
/-- The first half's sum. -/
abbrev accOf (x4 : Vec F S4096x128 .f32) (x5 : Vec F S1x1024x1792 .bf16) (x6 : Vec F S1x1024x1792 .bf16) (x7 : Vec F S1x1792x1024 .bf16) : Vec F S512x1024 .f32 :=
  k0_pay1 (k0_pay15 (every x4 0) (every x4 1) (every x4 2) (every x4 3) (every x4 4) (every x4 5) (every x4 6) (every x4 7) x5 x6 x7)
/-- Back to lanes: column `128 s + l` of row `r` goes to lane `l` of row `8 r + s`. -/
def spread (v : FVec F S512x1024 .f32) : Vec F S4096x128 .f32 := fun y =>
  v (fun a => match a with
    | ⟨0, _⟩ => (⟨(y 0).val / 8, by have : (y 0).val < 4096 := (y 0).isLt; show _ < 512; omega⟩ : Fin 512)
    | ⟨1, _⟩ => (⟨128 * ((y 0).val % 8) + (y 1).val, by have : (y 1).val < 128 := (y 1).isLt; show _ < 1024; omega⟩ : Fin 1024))

theorem rdl {S : Shape} {e : EltTy} (m : Memref sig .tc .vmem S e) (h : m.IsWhole) (X : S.Idx → Elt F e) (r : LoadRect S) :
    View.readAt (Elt F) m.view r (h.unread X) = fun j => X (r.idx j) := by
  have e : View.readAt (Elt F) m.view r (h.unread X) = fun j => m.view.read (Elt F) (h.unread X) (r.idx j) := rfl
  rw [e, h.read_unread]

theorem every_0 (x4 : Vec F S4096x128 .f32) : (fun j => x4 ((⟨![0, 0], S512x128.size, ![8, 1], inb_S4096x128_S512x128_0_0_s_8_1⟩ : LoadRect S4096x128).idx j)) = every x4 0 := by
  funext j
  refine congrArg x4 (funext fun a => Fin.ext ?_)
  match a with
  | ⟨0, _⟩ => show 0 + 8 * (j 0).val = 8 * (j 0).val + 0; omega
  | ⟨1, _⟩ => show 0 + 1 * (j 1).val = (j 1).val; omega
theorem every_1 (x4 : Vec F S4096x128 .f32) : (fun j => x4 ((⟨![1, 0], S512x128.size, ![8, 1], inb_S4096x128_S512x128_1_0_s_8_1⟩ : LoadRect S4096x128).idx j)) = every x4 1 := by
  funext j
  refine congrArg x4 (funext fun a => Fin.ext ?_)
  match a with
  | ⟨0, _⟩ => show 1 + 8 * (j 0).val = 8 * (j 0).val + 1; omega
  | ⟨1, _⟩ => show 0 + 1 * (j 1).val = (j 1).val; omega
theorem every_2 (x4 : Vec F S4096x128 .f32) : (fun j => x4 ((⟨![2, 0], S512x128.size, ![8, 1], inb_S4096x128_S512x128_2_0_s_8_1⟩ : LoadRect S4096x128).idx j)) = every x4 2 := by
  funext j
  refine congrArg x4 (funext fun a => Fin.ext ?_)
  match a with
  | ⟨0, _⟩ => show 2 + 8 * (j 0).val = 8 * (j 0).val + 2; omega
  | ⟨1, _⟩ => show 0 + 1 * (j 1).val = (j 1).val; omega
theorem every_3 (x4 : Vec F S4096x128 .f32) : (fun j => x4 ((⟨![3, 0], S512x128.size, ![8, 1], inb_S4096x128_S512x128_3_0_s_8_1⟩ : LoadRect S4096x128).idx j)) = every x4 3 := by
  funext j
  refine congrArg x4 (funext fun a => Fin.ext ?_)
  match a with
  | ⟨0, _⟩ => show 3 + 8 * (j 0).val = 8 * (j 0).val + 3; omega
  | ⟨1, _⟩ => show 0 + 1 * (j 1).val = (j 1).val; omega
theorem every_4 (x4 : Vec F S4096x128 .f32) : (fun j => x4 ((⟨![4, 0], S512x128.size, ![8, 1], inb_S4096x128_S512x128_4_0_s_8_1⟩ : LoadRect S4096x128).idx j)) = every x4 4 := by
  funext j
  refine congrArg x4 (funext fun a => Fin.ext ?_)
  match a with
  | ⟨0, _⟩ => show 4 + 8 * (j 0).val = 8 * (j 0).val + 4; omega
  | ⟨1, _⟩ => show 0 + 1 * (j 1).val = (j 1).val; omega
theorem every_5 (x4 : Vec F S4096x128 .f32) : (fun j => x4 ((⟨![5, 0], S512x128.size, ![8, 1], inb_S4096x128_S512x128_5_0_s_8_1⟩ : LoadRect S4096x128).idx j)) = every x4 5 := by
  funext j
  refine congrArg x4 (funext fun a => Fin.ext ?_)
  match a with
  | ⟨0, _⟩ => show 5 + 8 * (j 0).val = 8 * (j 0).val + 5; omega
  | ⟨1, _⟩ => show 0 + 1 * (j 1).val = (j 1).val; omega
theorem every_6 (x4 : Vec F S4096x128 .f32) : (fun j => x4 ((⟨![6, 0], S512x128.size, ![8, 1], inb_S4096x128_S512x128_6_0_s_8_1⟩ : LoadRect S4096x128).idx j)) = every x4 6 := by
  funext j
  refine congrArg x4 (funext fun a => Fin.ext ?_)
  match a with
  | ⟨0, _⟩ => show 6 + 8 * (j 0).val = 8 * (j 0).val + 6; omega
  | ⟨1, _⟩ => show 0 + 1 * (j 1).val = (j 1).val; omega
theorem every_7 (x4 : Vec F S4096x128 .f32) : (fun j => x4 ((⟨![7, 0], S512x128.size, ![8, 1], inb_S4096x128_S512x128_7_0_s_8_1⟩ : LoadRect S4096x128).idx j)) = every x4 7 := by
  funext j
  refine congrArg x4 (funext fun a => Fin.ext ?_)
  match a with
  | ⟨0, _⟩ => show 7 + 8 * (j 0).val = 8 * (j 0).val + 7; omega
  | ⟨1, _⟩ => show 0 + 1 * (j 1).val = (j 1).val; omega

theorem full {S : Shape} {e : EltTy} (X : S.Idx → Elt F e) (off : Fin S.rank → ℕ) (h0 : off = fun _ => 0) (inb : ∀ a, off a + S.size a ≤ S.size a) :
    (fun j => X ((Rect.unit off S.size inb).toLoadRect.idx j)) = X := by
  subst h0
  funext j
  exact congrArg X (funext fun a => Fin.ext (by show 0 + 1 * (j a).val = (j a).val; omega))
theorem full2 {S : Shape} {e : EltTy} (m : Memref sig .tc .vmem S e) (h : m.IsWhole) (X : S.Idx → Elt F e) (off : Fin S.rank → ℕ) (h0 : off = fun _ => 0) (inb : ∀ a, off a + S.size a ≤ S.size a) :
    View.readAt (Elt F) m.view (Rect.unit off S.size inb).toLoadRect (h.unread X) = X := (rdl m h X _).trans (full X off h0 inb)

/-- A write of the whole buffer leaves its payload. -/
theorem read_all {S : Shape} {e : EltTy} (m : Memref sig .tc .vmem S e) (f : m.view.ty.Contents (Elt F)) (off : Fin S.rank → ℕ) (h0 : off = fun _ => 0) (inb : ∀ a, off a + S.size a ≤ S.size a) (L : List (View.Piece (Elt F) S e)) (X : S.Idx → Elt F e) :
    m.view.read (Elt F) (m.view.writes (Elt F) f (⟨Rect.unit off S.size inb, X⟩ :: L)) = X := by
  subst h0
  funext y
  have hy : (Rect.unit (fun _ => 0) S.size inb).emb y = y := funext fun a => Fin.ext (by show 0 + 1 * (y a).val = (y a).val; omega)
  conv_lhs => rw [← hy]
  rw [View.read_writes_cons_emb]

/-- Writes that agree with contents `X` and cover the shape leave `X`. -/
theorem canon_agree {S : Shape} {e : EltTy} (X : S.Idx → Elt F e) : ∀ (L : List (View.Piece (Elt F) S e)), (∀ p ∈ L, ∀ j, p.2 j = X (p.1.emb j)) →
    ∀ y, (∃ p ∈ L, y ∈ p.1.set) → canon L y = X y
  | [], _, y, h => by obtain ⟨p, hp, _⟩ := h; exact absurd hp List.not_mem_nil
  | p :: L, hL, y, h => by
    by_cases h1 : y ∈ p.1.set
    · obtain ⟨j, rfl⟩ : ∃ j, p.1.emb j = y := p.1.exists_idx_of_mem h1
      have := hL p List.mem_cons_self j
      obtain ⟨r, w⟩ := p
      rw [View.canon_cons_emb]; exact this
    · rw [View.canon_cons_of_not_mem p L h1]
      refine canon_agree X L (fun q hq => hL q (List.mem_cons_of_mem _ hq)) y ?_
      obtain ⟨q, hq, hy⟩ := h
      rcases List.mem_cons.mp hq with rfl | hq
      · exact absurd hy h1
      · exact ⟨q, hq, hy⟩

/-- The eight columns' stores. -/
abbrev stores (v : FVec F S512x1024 .f32) : List (View.Piece (Elt F) S4096x128 .f32) :=
  [⟨(⟨⟨![7, 0], S512x128.size, ![8, 1], inb_S4096x128_S512x128_7_0_s_8_1⟩, spos_8_1⟩ : Rect S4096x128), extractStridedSlice S512x128 ![0, 896] v slices_S512x1024_o0_896_S512x128⟩,
    ⟨(⟨⟨![6, 0], S512x128.size, ![8, 1], inb_S4096x128_S512x128_6_0_s_8_1⟩, spos_8_1⟩ : Rect S4096x128), extractStridedSlice S512x128 ![0, 768] v slices_S512x1024_o0_768_S512x128⟩,
    ⟨(⟨⟨![5, 0], S512x128.size, ![8, 1], inb_S4096x128_S512x128_5_0_s_8_1⟩, spos_8_1⟩ : Rect S4096x128), extractStridedSlice S512x128 ![0, 640] v slices_S512x1024_o0_640_S512x128⟩,
    ⟨(⟨⟨![4, 0], S512x128.size, ![8, 1], inb_S4096x128_S512x128_4_0_s_8_1⟩, spos_8_1⟩ : Rect S4096x128), extractStridedSlice S512x128 ![0, 512] v slices_S512x1024_o0_512_S512x128⟩,
    ⟨(⟨⟨![3, 0], S512x128.size, ![8, 1], inb_S4096x128_S512x128_3_0_s_8_1⟩, spos_8_1⟩ : Rect S4096x128), extractStridedSlice S512x128 ![0, 384] v slices_S512x1024_o0_384_S512x128⟩,
    ⟨(⟨⟨![2, 0], S512x128.size, ![8, 1], inb_S4096x128_S512x128_2_0_s_8_1⟩, spos_8_1⟩ : Rect S4096x128), extractStridedSlice S512x128 ![0, 256] v slices_S512x1024_o0_256_S512x128⟩,
    ⟨(⟨⟨![1, 0], S512x128.size, ![8, 1], inb_S4096x128_S512x128_1_0_s_8_1⟩, spos_8_1⟩ : Rect S4096x128), extractStridedSlice S512x128 ![0, 128] v slices_S512x1024_o0_128_S512x128⟩,
    ⟨(⟨⟨![0, 0], S512x128.size, ![8, 1], inb_S4096x128_S512x128_0_0_s_8_1⟩, spos_8_1⟩ : Rect S4096x128), extractStridedSlice S512x128 ![0, 0] v slices_S512x1024_o0_0_S512x128⟩]

theorem stores_cover (v : FVec F S512x1024 .f32) (y : S4096x128.Idx) : ∃ p ∈ stores v, y ∈ p.1.set := by
  have h0 : (y 0).val < 4096 := (y 0).isLt
  have hj : ∀ (s : ℕ) (r : Rect S4096x128) (hr : ∀ j : S512x128.Idx, ∃ i, (r.emb i 0).val = s + 8 * (j 0).val ∧ (r.emb i 1).val = (j 1).val), (y 0).val % 8 = s → y ∈ r.set := by
    intro s r hr hs
    obtain ⟨i, e0, e1⟩ := hr (fun a => match a with | ⟨0, _⟩ => (⟨(y 0).val / 8, by show _ < 512; omega⟩ : Fin 512) | ⟨1, _⟩ => (y 1 : Fin 128))
    have e : r.emb i = y := funext fun a => match a with
      | ⟨0, _⟩ => Fin.ext (e0.trans (by show s + 8 * ((y 0).val / 8) = (y 0).val; omega))
      | ⟨1, _⟩ => Fin.ext e1
    rw [← e]; rw [← Rect.map_emb_univ]; exact Finset.mem_map_of_mem _ (Finset.mem_univ i)
  have key : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases key with h | h | h | h | h | h | h | h
  · exact ⟨_, .tail _ (.tail _ (.tail _ (.tail _ (.tail _ (.tail _ (.tail _ (.head _))))))), hj 0 _ (fun j => ⟨j, rfl, by show 0 + 1 * (j 1).val = _; omega⟩) h⟩
  · exact ⟨_, .tail _ (.tail _ (.tail _ (.tail _ (.tail _ (.tail _ (.head _)))))), hj 1 _ (fun j => ⟨j, rfl, by show 0 + 1 * (j 1).val = _; omega⟩) h⟩
  · exact ⟨_, .tail _ (.tail _ (.tail _ (.tail _ (.tail _ (.head _))))), hj 2 _ (fun j => ⟨j, rfl, by show 0 + 1 * (j 1).val = _; omega⟩) h⟩
  · exact ⟨_, .tail _ (.tail _ (.tail _ (.tail _ (.head _)))), hj 3 _ (fun j => ⟨j, rfl, by show 0 + 1 * (j 1).val = _; omega⟩) h⟩
  · exact ⟨_, .tail _ (.tail _ (.tail _ (.head _))), hj 4 _ (fun j => ⟨j, rfl, by show 0 + 1 * (j 1).val = _; omega⟩) h⟩
  · exact ⟨_, .tail _ (.tail _ (.head _)), hj 5 _ (fun j => ⟨j, rfl, by show 0 + 1 * (j 1).val = _; omega⟩) h⟩
  · exact ⟨_, .tail _ (.head _), hj 6 _ (fun j => ⟨j, rfl, by show 0 + 1 * (j 1).val = _; omega⟩) h⟩
  · exact ⟨_, .head _, hj 7 _ (fun j => ⟨j, rfl, by show 0 + 1 * (j 1).val = _; omega⟩) h⟩

theorem stores_canon (v : FVec F S512x1024 .f32) : canon (stores v) = spread v := by
  funext y
  refine canon_agree (spread v) (stores v) ?_ y (stores_cover v y)
  intro p hp
  simp only [stores, List.mem_cons, List.not_mem_nil, or_false] at hp
  rcases hp with rfl | rfl | rfl | rfl | rfl | rfl | rfl | rfl
  · intro j
    have h0 : (j 0).val < 512 := (j 0).isLt
    have h1 : (j 1).val < 128 := (j 1).isLt
    refine congrArg v (funext fun a => Fin.ext ?_)
    match a with
    | ⟨0, _⟩ => show 0 + (j 0).val = (7 + 8 * (j 0).val) / 8; omega
    | ⟨1, _⟩ => show 896 + (j 1).val = 128 * ((7 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (6 + 8 * (j 0).val) / 8; omega
    | ⟨1, _⟩ => show 768 + (j 1).val = 128 * ((6 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (5 + 8 * (j 0).val) / 8; omega
    | ⟨1, _⟩ => show 640 + (j 1).val = 128 * ((5 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (4 + 8 * (j 0).val) / 8; omega
    | ⟨1, _⟩ => show 512 + (j 1).val = 128 * ((4 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (3 + 8 * (j 0).val) / 8; omega
    | ⟨1, _⟩ => show 384 + (j 1).val = 128 * ((3 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (2 + 8 * (j 0).val) / 8; omega
    | ⟨1, _⟩ => show 256 + (j 1).val = 128 * ((2 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (1 + 8 * (j 0).val) / 8; omega
    | ⟨1, _⟩ => show 128 + (j 1).val = 128 * ((1 + 8 * (j 0).val) % 8) + (0 + 1 * (j 1).val); omega
  · intro j
    have h0 : (j 0).val < 512 := (j 0).isLt
    have h1 : (j 1).val < 128 := (j 1).isLt
    refine congrArg v (funext fun a => Fin.ext ?_)
    match a with
    | ⟨0, _⟩ => show 0 + (j 0).val = (0 + 8 * (j 0).val) / 8; omega
    | ⟨1, _⟩ => show 0 + (j 1).val = 128 * ((0 + 8 * (j 0).val) % 8) + (0 + 1 * (j 1).val); omega

end Cert.Kernel2Ideal.Ffn
end
-- ==== Proof.XPlain.lean ====
/- The experts' feed-forward layer as plain formulas over the extended reals: what both programs compute, element by element. -/
module

public import Idealize.ShloMosaic.Lib.Pointwise

@[expose] public section

noncomputable section

namespace Cert.Experts

open Idealize.ShloMosaic

variable (x : (⟨2, ![557056, 128]⟩ : Shape).Idx → EReal) (te : (⟨1, ![136]⟩ : Shape).Idx → BitVec 32)
  (w1 w3 : (⟨3, ![8, 1024, 3584]⟩ : Shape).Idx → EReal) (w2 : (⟨3, ![8, 3584, 1024]⟩ : Shape).Idx → EReal)

/-- Feature `d` of row `r` of tile `t`: eight lane rows of the input hold a row's features. -/
def feat (t : Fin 136) (r : Fin 512) (d : Fin 1024) : EReal := x (ix2 ⟨4096 * t.val + 8 * r.val + d.val / 128, by omega⟩ ⟨d.val % 128, by omega⟩)
/-- A row against a column of expert `e`. -/
def dot (w : (⟨3, ![8, 1024, 3584]⟩ : Shape).Idx → EReal) (e : Fin 8) (t : Fin 136) (r : Fin 512) (f : Fin 3584) : EReal :=
  ∑ d : Fin 1024, feat x t r d * w (ix3 e d f)
/-- The gated unit. -/
def glu (g u : EReal) : EReal := g * Ideal.div 1 (1 + Ideal.exp (-g)) * u
/-- Expert `e` on row `r` of tile `t`. -/
def ffn (e : Fin 8) (t : Fin 136) (r : Fin 512) (d : Fin 1024) : EReal :=
  ∑ f : Fin 3584, glu (dot x w1 e t r f) (dot x w3 e t r f) * w2 (ix3 e f d)
/-- The expert of a tile. -/
def expert (t : Fin 136) : Fin 8 := ⟨(te (ix1 t)).toNat % 8, by omega⟩
/-- Is the tile among the first `n`? -/
def inUse (n : BitVec 32) (t : Fin 136) : Prop := (BitVec.ofNat 32 t.val).slt n = true
instance (n : BitVec 32) (t : Fin 136) : Decidable (inUse n t) := inferInstanceAs (Decidable (_ = true))
/-- The layer: a tile in use has its expert's rows, the others zeros. -/
def out (n : BitVec 32) (t : Fin 136) (r : Fin 512) (d : Fin 1024) : EReal :=
  if inUse n t then ffn x w1 w3 w2 (expert te t) t r d else 0

/-- The layer's result laid out as the input is. -/
def flat (n : BitVec 32) (i : (⟨2, ![557056, 128]⟩ : Shape).Idx) : EReal :=
  out x te w1 w3 w2 n ⟨(i 0).val / 4096, by have : (i 0).val < 557056 := (i 0).isLt; omega⟩ ⟨(i 0).val % 4096 / 8, by omega⟩
    ⟨128 * ((i 0).val % 8) + (i 1).val, by have : (i 1).val < 128 := (i 1).isLt; omega⟩

/-- The hidden units in two halves. -/
theorem ffn_halves (e : Fin 8) (t : Fin 136) (r : Fin 512) (d : Fin 1024) :
    ffn x w1 w3 w2 e t r d =
      (∑ f : Fin 1792, glu (dot x w1 e t r ⟨f.val, by omega⟩) (dot x w3 e t r ⟨f.val, by omega⟩) * w2 (ix3 e ⟨f.val, by omega⟩ d))
      + ∑ f : Fin 1792, glu (dot x w1 e t r ⟨1792 + f.val, by omega⟩) (dot x w3 e t r ⟨1792 + f.val, by omega⟩) * w2 (ix3 e ⟨1792 + f.val, by omega⟩ d) :=
  Fin.sum_univ_add (a := 1792) (b := 1792) fun f : Fin 3584 => glu (dot x w1 e t r f) (dot x w3 e t r f) * w2 (ix3 e f d)

end Cert.Experts

end
-- ==== Proof.XVal.lean ====
/- What the experts' kernel computes from its blocks over the extended reals. -/
module

public import proofs.«01_k».proof.Proof.XVals
public import proofs.«01_k».proof.Proof.XPlain
public import Idealize.ShloMosaic.Lib.Pointwise
public import Idealize.ShloMosaic.Lib.Pipeline.ValueKit.Geometry

@[expose] public section

set_option maxRecDepth 65536

noncomputable section

namespace Cert.Kernel2Ideal.Ffn

open Idealize.ShloMosaic
open Cert.Kernel2Ideal Cert.Kernel2Ideal.Gen

theorem every_apply (x4 : Vec Ideal S4096x128 .f32) (s : Fin 8) (r : Fin 512) (l : Fin 128) (h : 8 * r.val + s.val < 4096) :
    every x4 s (ix2 r l) = x4 (ix2 ⟨8 * r.val + s.val, h⟩ l) := by
  unfold every
  refine congrArg x4 ?_
  funext a
  match a with
  | ⟨0, _⟩ => rfl
  | ⟨1, _⟩ => rfl

theorem every_at (x4 : Vec Ideal S4096x128 .f32) (s : Fin 8) (r : Fin 512) (l : Fin 128) (d : Fin 1024) (k : ℕ) (hs : s.val = k) (hd : d.val = 128 * k + l.val) :
    every x4 s (ix2 r l) = x4 (ix2 ⟨8 * r.val + d.val / 128, by omega⟩ ⟨d.val % 128, by omega⟩) := by
  rw [every_apply x4 s r l (by omega)]
  have e0 : (⟨8 * r.val + s.val, by omega⟩ : Fin 4096) = ⟨8 * r.val + d.val / 128, by omega⟩ := Fin.ext (by show 8 * r.val + s.val = 8 * r.val + d.val / 128; omega)
  have e1 : l = ⟨d.val % 128, by omega⟩ := Fin.ext (by show l.val = d.val % 128; omega)
  rw [e0, ← e1]

/-- A row's eight lane rows, laid side by side. -/
theorem lay_apply (x4 : Vec Ideal S4096x128 .f32) (r : Fin 512) (d : Fin 1024) :
    k0_pay13 (F := Ideal) (every x4 0) (every x4 1) (every x4 2) (every x4 3) (every x4 4) (every x4 5) (every x4 6) (every x4 7) (ix2 r d)
      = x4 (ix2 ⟨8 * r.val + d.val / 128, by omega⟩ ⟨d.val % 128, by omega⟩) := by
  pointwise [k0_pay13]
  split
  · exact every_at x4 0 r _ d 0 rfl (by show d.val = 128 * 0 + _; simp only []; omega)
  split
  · exact every_at x4 1 r _ d 1 rfl (by show d.val = 128 * 1 + (d.val - 128); omega)
  split
  · exact every_at x4 2 r _ d 2 rfl (by show d.val = 128 * 2 + (d.val - 128 - 128); omega)
  split
  · exact every_at x4 3 r _ d 3 rfl (by show d.val = 128 * 3 + (d.val - 128 - 128 - 128); omega)
  split
  · exact every_at x4 4 r _ d 4 rfl (by show d.val = 128 * 4 + (d.val - 128 - 128 - 128 - 128); omega)
  split
  · exact every_at x4 5 r _ d 5 rfl (by show d.val = 128 * 5 + (d.val - 128 - 128 - 128 - 128 - 128); omega)
  split
  · exact every_at x4 6 r _ d 6 rfl (by show d.val = 128 * 6 + (d.val - 128 - 128 - 128 - 128 - 128 - 128); omega)
  · exact every_at x4 7 r _ d 7 rfl (by show d.val = 128 * 7 + (d.val - 128 - 128 - 128 - 128 - 128 - 128 - 128); omega)

section Ffn
variable (x9 : FVec Ideal S512x1024 .f32) (X : FVec Ideal S512x1024 .bf16) (x5 x6 : Vec Ideal S1x1024x1792 .bf16) (x7 : Vec Ideal S1x1792x1024 .bf16)
  (r : Fin 512) (d : Fin 1024)
theorem pay16_apply : k0_pay16 (F := Ideal) x9 X x5 x6 x7 (ix2 r d) =
    x9 (ix2 r d) + ∑ f : Fin 1792, Experts.glu (∑ k : Fin 1024, X (ix2 r k) * x5 (ix3 0 k f)) (∑ k : Fin 1024, X (ix2 r k) * x6 (ix3 0 k f)) * x7 (ix3 0 f d) := by
  pointwise [k0_pay16]
  try rfl
variable (y0 y1 y2 y3 y4 y5 y6 y7 : Vec Ideal S512x128 .f32)
theorem pay15_apply : k0_pay1 (k0_pay15 (F := Ideal) y0 y1 y2 y3 y4 y5 y6 y7 x5 x6 x7) (ix2 r d) =
    ∑ f : Fin 1792, Experts.glu (∑ k : Fin 1024, k0_pay13 (F := Ideal) y0 y1 y2 y3 y4 y5 y6 y7 (ix2 r k) * x5 (ix3 0 k f))
      (∑ k : Fin 1024, k0_pay13 (F := Ideal) y0 y1 y2 y3 y4 y5 y6 y7 (ix2 r k) * x6 (ix3 0 k f)) * x7 (ix3 0 f d) := by
  pointwise [k0_pay1, k0_pay15]
  try rfl
theorem pay14_apply : k0_pay14 (F := Ideal) y0 y1 y2 y3 y4 y5 y6 y7 (ix2 r d) = k0_pay13 (F := Ideal) y0 y1 y2 y3 y4 y5 y6 y7 (ix2 r d) := by
  pointwise [k0_pay14]
theorem pay4_apply : k0_pay4 (F := Ideal) (ix2 r d) = 0 := by
  pointwise [k0_pay4]
end Ffn

/-- A tile's result from its two halves' blocks. -/
theorem both_apply (x4 : Vec Ideal S4096x128 .f32) (x5 x6 z5 z6 : Vec Ideal S1x1024x1792 .bf16) (x7 z7 : Vec Ideal S1x1792x1024 .bf16)
    (x : S557056x128.Idx → EReal) (w1 w3 : S8x1024x3584.Idx → EReal) (w2 : S8x3584x1024.Idx → EReal) (e : Fin 8) (t : Fin 136)
    (hx : ∀ (i : Fin 4096) (l : Fin 128), x4 (ix2 i l) = x (ix2 ⟨4096 * t.val + i.val, by omega⟩ l))
    (h5 : ∀ (k : Fin 1024) (f : Fin 1792), x5 (ix3 0 k f) = w1 (ix3 e k ⟨f.val, by omega⟩))
    (h6 : ∀ (k : Fin 1024) (f : Fin 1792), x6 (ix3 0 k f) = w3 (ix3 e k ⟨f.val, by omega⟩))
    (h7 : ∀ (f : Fin 1792) (d : Fin 1024), x7 (ix3 0 f d) = w2 (ix3 e ⟨f.val, by omega⟩ d))
    (g5 : ∀ (k : Fin 1024) (f : Fin 1792), z5 (ix3 0 k f) = w1 (ix3 e k ⟨1792 + f.val, by omega⟩))
    (g6 : ∀ (k : Fin 1024) (f : Fin 1792), z6 (ix3 0 k f) = w3 (ix3 e k ⟨1792 + f.val, by omega⟩))
    (g7 : ∀ (f : Fin 1792) (d : Fin 1024), z7 (ix3 0 f d) = w2 (ix3 e ⟨1792 + f.val, by omega⟩ d))
    (r : Fin 512) (d : Fin 1024) :
    k0_pay16 (accOf x4 x5 x6 x7) (xbOf x4) z5 z6 z7 (ix2 r d) = Experts.ffn x w1 w3 w2 e t r d := by
  have hf : ∀ k : Fin 1024, k0_pay13 (F := Ideal) (every x4 0) (every x4 1) (every x4 2) (every x4 3) (every x4 4) (every x4 5) (every x4 6) (every x4 7) (ix2 r k) = Experts.feat x t r k := fun k => by
    rw [lay_apply, hx]
    refine congrArg (fun i => x (ix2 i _)) (Fin.ext ?_)
    show 4096 * t.val + (8 * r.val + k.val / 128) = 4096 * t.val + 8 * r.val + k.val / 128
    omega
  unfold accOf xbOf
  rw [Experts.ffn_halves, pay16_apply, pay15_apply]
  simp only [pay14_apply, hf, h5, h6, h7, g5, g6, g7]
  rfl

end Cert.Kernel2Ideal.Ffn

end
-- ==== Proof.XTrip.lean ====
module

public import proofs.«01_k».proof.Proof.XVals
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

/-! ## The body at a point, by its contents -/

theorem z2 : (![0, 0] : Fin 2 → ℕ) = fun _ => 0 := by funext a; fin_cases a <;> rfl
theorem z3 : (![0, 0, 0] : Fin 3 → ℕ) = fun _ => 0 := by funext a; fin_cases a <;> rfl

theorem runA_acc (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x4 : Vec F S4096x128 .f32) (x5 : Vec F S1x1024x1792 .bf16) (x6 : Vec F S1x1024x1792 .bf16) (x7 : Vec F S1x1792x1024 .bf16)
    (hc0 : startAt i (countOf x3)) (hc2 : ¬ k0_cond2 i (countOf x3) = 1#1) (hc3 : ¬ k0_cond3 i (countOf x3) = 1#1) :
    (runA c i arg2 harg2 arg3 harg3 arg4 harg4 arg5 harg5 arg6 harg6 arg7 harg7 arg8 harg8 arg9 harg9 arg10 harg10 x3 x4 x5 x6 x7 hc0 hc2 hc3).1 = [⟨Rect.unit (s := S512x1024) ![0, 0] S512x1024.size inb_S512x1024_S512x1024_0_0, accOf x4 x5 x6 x7⟩] := by
  unfold runA
  dsimp only
  unfold runA.sl.r
  rw [full2 arg5 harg5 x5 _ z3, full2 arg6 harg6 x6 _ z3, full2 arg7 harg7 x7 _ z3]
  simp only [rdl, every_0, every_1, every_2, every_3, every_4, every_5, every_6, every_7]

theorem runA_xb (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x4 : Vec F S4096x128 .f32) (x5 : Vec F S1x1024x1792 .bf16) (x6 : Vec F S1x1024x1792 .bf16) (x7 : Vec F S1x1792x1024 .bf16)
    (hc0 : startAt i (countOf x3)) (hc2 : ¬ k0_cond2 i (countOf x3) = 1#1) (hc3 : ¬ k0_cond3 i (countOf x3) = 1#1) :
    (runA c i arg2 harg2 arg3 harg3 arg4 harg4 arg5 harg5 arg6 harg6 arg7 harg7 arg8 harg8 arg9 harg9 arg10 harg10 x3 x4 x5 x6 x7 hc0 hc2 hc3).2.1 = [⟨Rect.unit (s := S512x1024) ![0, 0] S512x1024.size inb_S512x1024_S512x1024_0_0, xbOf x4⟩] := by
  unfold runA
  dsimp only
  simp only [rdl, every_0, every_1, every_2, every_3, every_4, every_5, every_6, every_7]

theorem runB_out (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x5 : Vec F S1x1024x1792 .bf16) (x6 : Vec F S1x1024x1792 .bf16) (x7 : Vec F S1x1792x1024 .bf16) (x9 : Vec F S512x1024 .f32) (x10 : Vec F S512x1024 .bf16)
    (hc0 : ¬ startAt i (countOf x3)) (hc2 : k0_cond2 i (countOf x3) = 1#1) (hc3 : ¬ k0_cond3 i (countOf x3) = 1#1) :
    (runB c i arg2 harg2 arg3 harg3 arg4 harg4 arg5 harg5 arg6 harg6 arg7 harg7 arg8 harg8 arg9 harg9 arg10 harg10 x3 x5 x6 x7 x9 x10 hc0 hc2 hc3).1 = stores (k0_pay16 x9 x10 x5 x6 x7) := by
  unfold runB
  dsimp only
  unfold runB.sl.r_1 runB.sl.r
  rw [full2 arg5 harg5 x5 _ z3, full2 arg6 harg6 x6 _ z3, full2 arg7 harg7 x7 _ z3, full2 arg9 harg9 x9 _ z2, full2 arg10 harg10 x10 _ z2]
  rfl

theorem runC_out (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32)
    (hc0 : ¬ startAt i (countOf x3)) (hc2 : ¬ k0_cond2 i (countOf x3) = 1#1) (hc3 : k0_cond3 i (countOf x3) = 1#1) :
    (runC c i arg2 harg2 arg3 harg3 arg4 harg4 arg5 harg5 arg6 harg6 arg7 harg7 arg8 harg8 arg9 harg9 arg10 harg10 x3 hc0 hc2 hc3).1 = stores (k0_pay4 (F := F)) := by
  unfold runC
  rfl

set_option maxHeartbeats 1000000 in
/-- First half of a used tile. -/
theorem bodyA (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x4 : Vec F S4096x128 .f32) (x5 : Vec F S1x1024x1792 .bf16) (x6 : Vec F S1x1024x1792 .bf16) (x7 : Vec F S1x1792x1024 .bf16)
    (hc0 : startAt i (countOf x3)) (hc2 : ¬ k0_cond2 i (countOf x3) = 1#1) (hc3 : ¬ k0_cond3 i (countOf x3) = 1#1) (E : Set ℕ) (K : PUnit → sProp 𝕄) :
    iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d)
        ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare (accOf x4 x5 x6 x7) ∗ owns (c : Thread nD τ) arg10 fullShare (xbOf x4)) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10) K := by
  iintro ⟨H3, H4, H5, H6, H7, H9, H10, Hk⟩
  iapply (runA c i arg2 harg2 arg3 harg3 arg4 harg4 arg5 harg5 arg6 harg6 arg7 harg7 arg8 harg8 arg9 harg9 arg10 harg10 x3 x4 x5 x6 x7 hc0 hc2 hc3).2.2 E K
  isplitl [H3]; · iexact H3
  isplitl [H4]; · iexact H4
  isplitl [H5]; · iexact H5
  isplitl [H6]; · iexact H6
  isplitl [H7]; · iexact H7
  isplitl [H9]; · iexact H9
  isplitl [H10]; · iexact H10
  iintro ⟨H3, H4, H5, H6, H7, ⟨%f9, H9⟩, ⟨%f10, H10⟩⟩
  iapply Hk
  isplitl [H3]; · iexact H3
  isplitl [H4]; · iexact H4
  isplitl [H5]; · iexact H5
  isplitl [H6]; · iexact H6
  isplitl [H7]; · iexact H7
  isplitl [H9]
  · unfold owns; iexists (arg9.view.writes (Elt F) f9 (runA c i arg2 harg2 arg3 harg3 arg4 harg4 arg5 harg5 arg6 harg6 arg7 harg7 arg8 harg8 arg9 harg9 arg10 harg10 x3 x4 x5 x6 x7 hc0 hc2 hc3).1); isplitr; · ipureintro; rw [runA_acc]; exact read_all arg9 _ _ z2 _ _ _
    iexact H9
  unfold owns; iexists (arg10.view.writes (Elt F) f10 (runA c i arg2 harg2 arg3 harg3 arg4 harg4 arg5 harg5 arg6 harg6 arg7 harg7 arg8 harg8 arg9 harg9 arg10 harg10 x3 x4 x5 x6 x7 hc0 hc2 hc3).2.1); isplitr; · ipureintro; rw [runA_xb]; exact read_all arg10 _ _ z2 _ _ _
  iexact H10

set_option maxHeartbeats 1000000 in
/-- Second half of a used tile. -/
theorem bodyB (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32) (x5 : Vec F S1x1024x1792 .bf16) (x6 : Vec F S1x1024x1792 .bf16) (x7 : Vec F S1x1792x1024 .bf16) (x9 : Vec F S512x1024 .f32) (x10 : Vec F S512x1024 .bf16)
    (hc0 : ¬ startAt i (countOf x3)) (hc2 : k0_cond2 i (countOf x3) = 1#1) (hc3 : ¬ k0_cond3 i (countOf x3) = 1#1) (E : Set ℕ) (K : PUnit → sProp 𝕄) :
    iprop(owns (c : Thread nD τ) arg3 fullShare.right x3 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ (∃ d, owns (c : Thread nD τ) arg8 fullShare d)
        ∗ (iprop(owns (c : Thread nD τ) arg3 fullShare.right x3 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg8 fullShare (spread (k0_pay16 x9 x10 x5 x6 x7))) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10) K := by
  iintro ⟨H3, H5, H6, H7, H9, H10, H8, Hk⟩
  iapply (runB c i arg2 harg2 arg3 harg3 arg4 harg4 arg5 harg5 arg6 harg6 arg7 harg7 arg8 harg8 arg9 harg9 arg10 harg10 x3 x5 x6 x7 x9 x10 hc0 hc2 hc3).2 E K
  isplitl [H3]; · iexact H3
  isplitl [H5]; · iexact H5
  isplitl [H6]; · iexact H6
  isplitl [H7]; · iexact H7
  isplitl [H9]; · iexact H9
  isplitl [H10]; · iexact H10
  isplitl [H8]; · iexact H8
  iintro ⟨H3, H5, H6, H7, H9, H10, ⟨%f8, H8⟩⟩
  iapply Hk
  isplitl [H3]; · iexact H3
  isplitl [H5]; · iexact H5
  isplitl [H6]; · iexact H6
  isplitl [H7]; · iexact H7
  isplitl [H9]; · iexact H9
  isplitl [H10]; · iexact H10
  unfold owns; iexists (arg8.view.writes (Elt F) f8 (runB c i arg2 harg2 arg3 harg3 arg4 harg4 arg5 harg5 arg6 harg6 arg7 harg7 arg8 harg8 arg9 harg9 arg10 harg10 x3 x5 x6 x7 x9 x10 hc0 hc2 hc3).1); isplitr; · ipureintro; rw [runB_out]; exact (View.read_writes_eq_canon _ _ _ (stores_cover _)).trans (stores_canon _)
  iexact H8

set_option maxHeartbeats 1000000 in
/-- Second half of a tile that is not used. -/
theorem bodyC (c : Dev nD) (i : grid0.Coords) (arg2 : Memref sig .tc .smem S136 .i32) (harg2 : arg2.IsWhole) (arg3 : Memref sig .tc .smem S1 .i32) (harg3 : arg3.IsWhole) (arg4 : Memref sig .tc .vmem S4096x128 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S4096x128 .f32) (harg8 : arg8.IsWhole) (arg9 : Memref sig .tc .vmem S512x1024 .f32) (harg9 : arg9.IsWhole) (arg10 : Memref sig .tc .vmem S512x1024 .bf16) (harg10 : arg10.IsWhole) (x3 : Vec F S1 .i32)
    (hc0 : ¬ startAt i (countOf x3)) (hc2 : ¬ k0_cond2 i (countOf x3) = 1#1) (hc3 : k0_cond3 i (countOf x3) = 1#1) (E : Set ℕ) (K : PUnit → sProp 𝕄) :
    iprop(owns (c : Thread nD τ) arg3 fullShare.right x3 ∗ (∃ d, owns (c : Thread nD τ) arg8 fullShare d)
        ∗ (iprop(owns (c : Thread nD τ) arg3 fullShare.right x3 ∗ owns (c : Thread nD τ) arg8 fullShare (spread (k0_pay4 (F := F)))) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10) K := by
  iintro ⟨H3, H8, Hk⟩
  iapply (runC c i arg2 harg2 arg3 harg3 arg4 harg4 arg5 harg5 arg6 harg6 arg7 harg7 arg8 harg8 arg9 harg9 arg10 harg10 x3 hc0 hc2 hc3).2 E K
  isplitl [H3]; · iexact H3
  isplitl [H8]; · iexact H8
  iintro ⟨H3, ⟨%f8, H8⟩⟩
  iapply Hk
  isplitl [H3]; · iexact H3
  unfold owns; iexists (arg8.view.writes (Elt F) f8 (runC c i arg2 harg2 arg3 harg3 arg4 harg4 arg5 harg5 arg6 harg6 arg7 harg7 arg8 harg8 arg9 harg9 arg10 harg10 x3 hc0 hc2 hc3).1); isplitr; · ipureintro; rw [runC_out]; exact (View.read_writes_eq_canon _ _ _ (stores_cover _)).trans (stores_canon _)
  iexact H8

end Cert.Kernel2Ideal.Ffn
end
-- ==== Proof.XDat.lean ====
module

public import proofs.«01_k».proof.Proof.XTrip
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 65536

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

/-! ## Which branch a grid point takes -/

/-- The tile's block of rows is used: its number is below the count. -/
abbrev usedAt (i : grid0.Coords) (n : BitVec 32) : Prop := Scalar.cmpi .slt (BitVec.ofNat 32 (i 0).val) n = 1#1

theorem half_cases (i : grid0.Coords) : (i 1).val = 0 ∨ (i 1).val = 1 := by
  have h : (i 1).val < 2 := (i 1).isLt
  omega

theorem startAt_iff (i : grid0.Coords) (n : BitVec 32) : startAt i n ↔ usedAt i n ∧ (i 1).val = 0 := by
  unfold startAt usedAt
  generalize Scalar.cmpi .slt (BitVec.ofNat 32 (i 0).val) n = b
  rcases half_cases i with h | h <;> rw [h] <;> rcases BitVec.eq_zero_or_eq_one b with e | e <;> rw [e] <;> decide

theorem cond2_iff (i : grid0.Coords) (n : BitVec 32) : k0_cond2 i n = 1#1 ↔ usedAt i n ∧ (i 1).val = 1 := by
  unfold k0_cond2 usedAt
  dsimp only
  generalize Scalar.cmpi .slt (BitVec.ofNat 32 (i 0).val) n = b
  rcases half_cases i with h | h <;> rw [h] <;> rcases BitVec.eq_zero_or_eq_one b with e | e <;> rw [e] <;> decide

theorem cond3_iff (i : grid0.Coords) (n : BitVec 32) : k0_cond3 i n = 1#1 ↔ ¬ usedAt i n ∧ (i 1).val = 1 := by
  unfold k0_cond3 usedAt
  dsimp only
  generalize Scalar.cmpi .slt (BitVec.ofNat 32 (i 0).val) n = b
  rcases half_cases i with h | h <;> rw [h] <;> rcases BitVec.eq_zero_or_eq_one b with e | e <;> rw [e] <;> decide

theorem coord_tile : ∀ t : Fin grid0.N, (grid0.coords t 0).val = t.val / 2 := by decide +kernel
theorem coord_half : ∀ t : Fin grid0.N, (grid0.coords t 1).val = t.val % 2 := by decide +kernel

/-- At a tile's first half the result's block is not yet written back. -/
theorem same_block : ∀ t : Fin grid0.N, t.val % 2 = 0 → ¬ (t.val + 1 = grid0.N) ∧ ¬ ∃ h : t.val + 1 < grid0.N, cc0_transform_4 (grid0.coords ⟨t.val + 1, h⟩) ≠ cc0_transform_4 (grid0.coords t) := by
  decide +kernel

variable (m : (ℓ : Loc nD τ sig) → Buf (Elt F) ℓ) (ρ : Dev nD → PrngReg) (ad : (pcfg0 (F := F)).Adm)

/-! ## What the call finds -/

/-- The host operations before the call: the routing's look-ups and the three weight tables cast. -/
abbrev host : List (List (HloOp τ sig (Elt F))) := [hostOps0, hostOps0_1, hostOps0_2, hostOps0_3, hostOps0_4, hostOps0_5, hostOps0_6, hostOps0_7, hostOps0_8, hostOps0_9, hostOps0_10]

/-- A core's buffers when the call is reached. -/
abbrev V (c : Dev nD) (b : Ref sig .tc) : Buf (Elt F) ((c : Thread nD τ).loc b) := StableHlo.after (host (F := F)).flatten (fun b => m (c, b)) b

theorem host_sub : (host (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem host_fresh : (host (F := F)).Forall fun ops => ops.Forall fun op => op.fresh = ∅ := by
  refine ⟨?_, ?_, ?_, ?_, ?_, ?_, ?_, ?_, ?_, ?_, ?_⟩ <;> exact StableHlo.forall_fresh_of_map rfl

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main host host_sub host_fresh main_chain

/-- What the host operations write, in order. -/
def wrote : List (Ref sig .tc) :=
  [main_v0, main_v1, main_v2, main_c, main_v3, main_v4, main_c_0, main_v5, main_v6, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v7, main_c_2, main_v8, main_v9, main_call1_call0_c, main_call1_call0_v0, main_v10, main_v11, main_v12, main_c_3, main_call2_v0, main_call2_v1, main_call2_v2, main_call2_v3, main_call2_v4, main_call2_v5, main_call2_c, main_call2_v6, main_call2_v7, main_call2_c_0, main_call2_v8, main_v13, main_v14, main_v15, main_v16, main_c_4, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v17, main_v18, main_v19, main_v20, main_v21, main_v22, main_c_5, main_v23, main_c_6, main_v24, main_v25, main_v26, main_c_7, main_call4_v0, main_call4_v1, main_v27, main_c_8, main_v28, main_v29, main_v30, main_v31, main_v32, main_v33]

theorem wrote_all : (host (F := F)).flatten.Forall fun op => op.writes ⊆ (wrote.map (Proc.devRef (τ := τ) .tc)).toFinset :=
  StableHlo.forall_writes_sub_of_map rfl

theorem V_kept (c : Dev nD) (r : Ref sig .tc) (h : r ∉ wrote) : V m c r = m ((c : Thread nD τ).loc r) :=
  StableHlo.after_of_writes_sub _ _ wrote_all h

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)

/-- The tables' contents, as the one pipeline's. -/
abbrev tabs : (p : Fin 1) → (pcfgs (F := F) p).Adm := fun _ => ad

/-- How many tiles are used. -/
abbrev cnt : BitVec 32 := countOf (F := F) (ad.1 1)

/-- A window's block at a point, read from the array as found. -/
abbrev iblk (c : Dev nD) (w : Fin 5) (t : Fin grid0.N) := (((cfg0 ad).win w).blk t).view.read (Elt F) (V m c (Pipeline.arrRef spec0 w))

abbrev b4 (c : Dev nD) (t : Fin grid0.N) : Vec F S4096x128 .f32 := iblk m ad c 0 t
abbrev b5 (c : Dev nD) (t : Fin grid0.N) : Vec F S1x1024x1792 .bf16 := iblk m ad c 1 t
abbrev b6 (c : Dev nD) (t : Fin grid0.N) : Vec F S1x1024x1792 .bf16 := iblk m ad c 2 t
abbrev b7 (c : Dev nD) (t : Fin grid0.N) : Vec F S1x1792x1024 .bf16 := iblk m ad c 3 t
abbrev s4 (t : Fin grid0.N) : Memref sig .tc .vmem S4096x128 .f32 := ((cfg0 ad).win 0).stage ((cfg0 ad).slots t 0)
theorem hs4 (t : Fin grid0.N) : (s4 ad t).IsWhole := hstage0_0 (((cfg0 ad).slots t 0).cast nbuf0_0)
abbrev s5 (t : Fin grid0.N) : Memref sig .tc .vmem S1x1024x1792 .bf16 := ((cfg0 ad).win 1).stage ((cfg0 ad).slots t 1)
theorem hs5 (t : Fin grid0.N) : (s5 ad t).IsWhole := hstage0_1 (((cfg0 ad).slots t 1).cast nbuf0_1)
abbrev s6 (t : Fin grid0.N) : Memref sig .tc .vmem S1x1024x1792 .bf16 := ((cfg0 ad).win 2).stage ((cfg0 ad).slots t 2)
theorem hs6 (t : Fin grid0.N) : (s6 ad t).IsWhole := hstage0_2 (((cfg0 ad).slots t 2).cast nbuf0_2)
abbrev s7 (t : Fin grid0.N) : Memref sig .tc .vmem S1x1792x1024 .bf16 := ((cfg0 ad).win 3).stage ((cfg0 ad).slots t 3)
theorem hs7 (t : Fin grid0.N) : (s7 ad t).IsWhole := hstage0_3 (((cfg0 ad).slots t 3).cast nbuf0_3)
abbrev s8 (t : Fin grid0.N) : Memref sig .tc .vmem S4096x128 .f32 := ((cfg0 ad).win 4).stage ((cfg0 ad).slots t 4)
theorem hs8 (t : Fin grid0.N) : (s8 ad t).IsWhole := hstage0_4 (((cfg0 ad).slots t 4).cast nbuf0_4)

abbrev tabE : Memref sig .tc .smem S136 .i32 := Memref.whole main_v30
abbrev tabN : Memref sig .tc .smem S1 .i32 := Memref.whole main_v14
abbrev bufAcc : Memref sig .tc .vmem S512x1024 .f32 := Memref.whole cc0_scratch0
abbrev bufXb : Memref sig .tc .vmem S512x1024 .bf16 := Memref.whole cc0_scratch1

/-- The body at a point. -/
abbrev bodyAt (t : Fin grid0.N) : Prog (TpuEff nD τ sig (Elt F) Λ₀ .tc) PUnit :=
  cc0_ffn_experts (grid0.coords t) tabE (Memref.isWhole_whole _) tabN (Memref.isWhole_whole _) (s4 ad t) (hs4 ad t) (s5 ad t) (hs5 ad t) (s6 ad t) (hs6 ad t) (s7 ad t) (hs7 ad t) (s8 ad t) (hs8 ad t) bufAcc (Memref.isWhole_whole _) bufXb (Memref.isWhole_whole _)

theorem row_body (t : Fin grid0.N) : defs₀ (F := F) .tc (cfg0 ad).body ((cfg0 ad).bodyArgs t ((cfg0 ad).slots t)) = bodyAt ad t := by
  unfold defs₀; rw [Defs.onTc_tc]; rfl

/-! ## The proof data -/

/-- What the first half leaves in the two scratch buffers. -/
abbrev accAt (c : Dev nD) (t : Fin grid0.N) : Vec F S512x1024 .f32 := accOf (b4 m ad c t) (b5 m ad c t) (b6 m ad c t) (b7 m ad c t)
abbrev xbAt (c : Dev nD) (t : Fin grid0.N) : Vec F S512x1024 .bf16 := xbOf (b4 m ad c t)

/-- The point before. -/
def prev (t : Fin grid0.N) : Fin grid0.N := ⟨t.val - 1, by omega⟩

/-- A used tile's result at its second half, zeros in a tile that is not used. -/
def outAt (c : Dev nD) (t : Fin grid0.N) : Vec F S4096x128 .f32 :=
  if usedAt (grid0.coords t) (cnt ad) then spread (k0_pay16 (accAt m ad c (prev t)) (xbAt m ad c (prev t)) (b5 m ad c t) (b6 m ad c t) (b7 m ad c t))
  else spread (k0_pay4 (F := F))

/-- The scratch buffers before point `n`: after a used tile's first half at what it left. -/
def scr (c : Dev nD) (n : ℕ) : sProp 𝕄 :=
  iprop(∃ d9 : Vec F S512x1024 .f32, ∃ d10 : Vec F S512x1024 .bf16,
    ⌜∀ t : Fin grid0.N, t.val + 1 = n → t.val % 2 = 0 → usedAt (grid0.coords t) (cnt ad) → d9 = accAt m ad c t ∧ d10 = xbAt m ad c t⌝
      ∗ owns (c : Thread nD τ) bufAcc fullShare d9 ∗ owns (c : Thread nD τ) bufXb fullShare d10)

/-- The tables, the half the body reads. -/
abbrev tabsHeld (c : Dev nD) : sProp 𝕄 := Pipeline.ΦT pre0 ad.1 c

def inv (c : Dev nD) (n : ℕ) : sProp 𝕄 := iprop(scr m ad c n ∗ (∃ r, prngReg c r) ∗ tabsHeld ad c)

def dats (p : Fin 1) (c : Dev nD) : Dat τ (Elt F) Unit ℕ (UR sig nD τ) ℕ (Pipeline.pin pcfgs (tabs ad) p) c where
  A w := V m c (Pipeline.arrRef spec0 w)
  after w t := match w with
    | ⟨0, _⟩ => iblk m ad c 0 t
    | ⟨1, _⟩ => iblk m ad c 1 t
    | ⟨2, _⟩ => iblk m ad c 2 t
    | ⟨3, _⟩ => iblk m ad c 3 t
    | ⟨4, _⟩ => outAt m ad c t
  Φ t := inv m ad c t.val
  q _ := fullShare
  owed _ := 0

theorem A_eq (c : Dev nD) (w : Fin 5) : (dats m ad 0 c).A w = V m c (Pipeline.arrRef spec0 w) := by
  dsimp only [dats]
theorem Φ_castSucc (c : Dev nD) (t : Fin grid0.N) : (dats m ad 0 c).Φ t.castSucc = inv m ad c t.val := by
  dsimp only [dats]; rfl
theorem Φ_succ (c : Dev nD) (t : Fin grid0.N) : (dats m ad 0 c).Φ t.succ = inv m ad c (t.val + 1) := by
  dsimp only [dats]; rfl
theorem after_4 (c : Dev nD) (t : Fin grid0.N) : (dats m ad 0 c).after 0 t = iblk m ad c 0 t := by dsimp only [dats]; rfl
theorem after_5 (c : Dev nD) (t : Fin grid0.N) : (dats m ad 0 c).after 1 t = iblk m ad c 1 t := by dsimp only [dats]; rfl
theorem after_6 (c : Dev nD) (t : Fin grid0.N) : (dats m ad 0 c).after 2 t = iblk m ad c 2 t := by dsimp only [dats]; rfl
theorem after_7 (c : Dev nD) (t : Fin grid0.N) : (dats m ad 0 c).after 3 t = iblk m ad c 3 t := by dsimp only [dats]; rfl
theorem after_8 (c : Dev nD) (t : Fin grid0.N) : (dats m ad 0 c).after 4 t = outAt m ad c t := by dsimp only [dats]; rfl
theorem before_4 (c : Dev nD) (t : Fin grid0.N) (d) : (dats m ad 0 c).before 0 t d = b4 m ad c t :=
  ((dats m ad 0 c).before_in_eq_fetched 0 rfl (fun _ => rfl) (fun _ _ _ => rfl) (fun t => by rw [after_4]; unfold Dat.blockOf iblk; rw [A_eq]; try rfl) t d).trans (by unfold Dat.fetched Dat.blockOf b4 iblk; rw [A_eq]; try rfl)
theorem before_5 (c : Dev nD) (t : Fin grid0.N) (d) : (dats m ad 0 c).before 1 t d = b5 m ad c t :=
  ((dats m ad 0 c).before_in_eq_fetched 1 rfl (fun _ => rfl) (fun _ _ _ => rfl) (fun t => by rw [after_5]; unfold Dat.blockOf iblk; rw [A_eq]; try rfl) t d).trans (by unfold Dat.fetched Dat.blockOf b5 iblk; rw [A_eq]; try rfl)
theorem before_6 (c : Dev nD) (t : Fin grid0.N) (d) : (dats m ad 0 c).before 2 t d = b6 m ad c t :=
  ((dats m ad 0 c).before_in_eq_fetched 2 rfl (fun _ => rfl) (fun _ _ _ => rfl) (fun t => by rw [after_6]; unfold Dat.blockOf iblk; rw [A_eq]; try rfl) t d).trans (by unfold Dat.fetched Dat.blockOf b6 iblk; rw [A_eq]; try rfl)
theorem before_7 (c : Dev nD) (t : Fin grid0.N) (d) : (dats m ad 0 c).before 3 t d = b7 m ad c t :=
  ((dats m ad 0 c).before_in_eq_fetched 3 rfl (fun _ => rfl) (fun _ _ _ => rfl) (fun t => by rw [after_7]; unfold Dat.blockOf iblk; rw [A_eq]; try rfl) t d).trans (by unfold Dat.fetched Dat.blockOf b7 iblk; rw [A_eq]; try rfl)

theorem idle_first (t : Fin grid0.N) (h : t.val % 2 = 0) : (cfg0 ad).idle 4 ((cfg0 ad).grid.coords t) = true := by
  have h2 : ¬ k0_cond2 (grid0.coords t) (ad.1.atD 1 ![0]) = 1#1 := fun e => by have := ((cond2_iff _ _).mp e).2; rw [coord_half] at this; omega
  have h3 : ¬ k0_cond3 (grid0.coords t) (ad.1.atD 1 ![0]) = 1#1 := fun e => by have := ((cond3_iff _ _).mp e).2; rw [coord_half] at this; omega
  show (!(k0_cond2 (grid0.coords t) (ad.1.atD 1 ![0]) == 1#1) && !(k0_cond3 (grid0.coords t) (ad.1.atD 1 ![0]) == 1#1)) = true
  rw [beq_eq_false_iff_ne.mpr h2, beq_eq_false_iff_ne.mpr h3]; rfl

theorem idle_second (t : Fin grid0.N) (h : t.val % 2 = 1) : (cfg0 ad).idle 4 ((cfg0 ad).grid.coords t) = false := by
  have e1 : (grid0.coords t 1).val = 1 := by rw [coord_half]; exact h
  show (!(k0_cond2 (grid0.coords t) (ad.1.atD 1 ![0]) == 1#1) && !(k0_cond3 (grid0.coords t) (ad.1.atD 1 ![0]) == 1#1)) = false
  by_cases u : usedAt (grid0.coords t) (ad.1.atD 1 ![0])
  · rw [(cond2_iff _ _).mpr ⟨u, e1⟩]; rfl
  · rw [(cond3_iff _ _).mpr ⟨u, e1⟩]; simp

theorem flush_first (t : Fin grid0.N) (h : t.val % 2 = 0) : ((cfg0 ad).win 4).flush t = false := by
  have hs := same_block t h
  show (true && (decide (t.val + 1 = grid0.N) || decide (∃ h : t.val + 1 < grid0.N, cc0_transform_4 (grid0.coords ⟨t.val + 1, h⟩) ≠ cc0_transform_4 (grid0.coords t)))) = false
  rw [decide_eq_false hs.1, decide_eq_false hs.2]; rfl

end Cert.Kernel2Ideal.Ffn
end
-- ==== Proof.XBody.lean ====
module

public import proofs.«01_k».proof.Proof.XDat
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 65536

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.View (ld canon)

variable (m : (ℓ : Loc nD τ sig) → Buf (Elt F) ℓ) (ρ : Dev nD → PrngReg) (ad : (pcfg0 (F := F)).Adm)

/-! ## The body at a point -/

theorem tabs_split (c : Dev nD) : tabsHeld ad c = iprop(((c : Thread nD τ).loc main_v30 ↦{fullShare.right} ad.1 0) ∗ owns (c : Thread nD τ) tabN fullShare.right (ad.1 1)) := by
  unfold tabsHeld Pipeline.ΦT Pipeline.prefHeld
  rw [show (Finset.univ : Finset (Fin 2)) = insert 0 {1} from by decide, bigSep_insert (by decide), bigSep_singleton]
  exact congrArg (fun X : sProp 𝕄 => iprop(((c : Thread nD τ).loc main_v30 ↦{fullShare.right} ad.1 0) ∗ X)) (owns_whole (c : Thread nD τ) main_v14 fullShare.right (ad.1 1)).symm

/-- Scratch at anything known of it, where nothing need be known. -/
theorem scr_intro (c : Dev nD) (n : ℕ) (d9 : Vec F S512x1024 .f32) (d10 : Vec F S512x1024 .bf16)
    (h : ∀ t : Fin grid0.N, t.val + 1 = n → t.val % 2 = 0 → usedAt (grid0.coords t) (cnt ad) → d9 = accAt m ad c t ∧ d10 = xbAt m ad c t) :
    iprop(owns (c : Thread nD τ) bufAcc fullShare d9 ∗ owns (c : Thread nD τ) bufXb fullShare d10) ⊢ scr m ad c n := by
  unfold scr
  iintro ⟨H9, H10⟩
  iexists d9, d10
  isplitr; · ipureintro; exact h
  isplitl [H9]; · iexact H9
  iexact H10

def bodyPre (c : Dev nD) (t : Fin grid0.N) : sProp 𝕄 :=
  iprop((dats m ad 0 c).Φ t.castSucc ∗ (dats m ad 0 c).owesAt () t.castSucc ∗ (∃ d, owns (c : Thread nD τ) (s4 ad t) fullShare ((dats m ad 0 c).before 0 t d)) ∗ (∃ d, owns (c : Thread nD τ) (s5 ad t) fullShare ((dats m ad 0 c).before 1 t d)) ∗ (∃ d, owns (c : Thread nD τ) (s6 ad t) fullShare ((dats m ad 0 c).before 2 t d)) ∗ (∃ d, owns (c : Thread nD τ) (s7 ad t) fullShare ((dats m ad 0 c).before 3 t d)) ∗ (∃ d, owns (c : Thread nD τ) (s8 ad t) fullShare ((dats m ad 0 c).before 4 t d)))

def bodyPost (c : Dev nD) (t : Fin grid0.N) (R : sProp 𝕄) : sProp 𝕄 :=
  iprop((dats m ad 0 c).Φ t.succ ∗ (dats m ad 0 c).owesAt () t.succ ∗ owns (c : Thread nD τ) (s4 ad t) fullShare ((dats m ad 0 c).after 0 t) ∗ owns (c : Thread nD τ) (s5 ad t) fullShare ((dats m ad 0 c).after 1 t) ∗ owns (c : Thread nD τ) (s6 ad t) fullShare ((dats m ad 0 c).after 2 t) ∗ owns (c : Thread nD τ) (s7 ad t) fullShare ((dats m ad 0 c).after 3 t) ∗ R)

theorem body_first (c : Dev nD) (t : Fin grid0.N) (h : t.val % 2 = 0) (u : usedAt (grid0.coords t) (cnt ad)) :
    bodyPre m ad c t ⊢ wp frame (wpE (defs₀ (F := F)) Variants.none c none) Set.univ (bodyAt ad t) (fun _ => bodyPost m ad c t iprop(∃ d, owns (c : Thread nD τ) (s8 ad t) fullShare ((dats m ad 0 c).before 4 t d))) := by
  have e1 : (grid0.coords t 1).val = 0 := by rw [coord_half]; exact h
  have hc0 : startAt (grid0.coords t) (cnt ad) := (startAt_iff _ _).mpr ⟨u, e1⟩
  have hc2 : ¬ k0_cond2 (grid0.coords t) (cnt ad) = 1#1 := fun e => by have := (cond2_iff _ _).mp e; first | exact u this.1 | exact this.1 u | (have := this.2; omega)
  have hc3 : ¬ k0_cond3 (grid0.coords t) (cnt ad) = 1#1 := fun e => by have := (cond3_iff _ _).mp e; first | exact u this.1 | exact this.1 u | (have := this.2; omega)
  unfold bodyPre bodyPost
  rw [Φ_castSucc, Φ_succ, show (dats m ad 0 c).owesAt () t.succ = (dats m ad 0 c).owesAt () t.castSucc from rfl, after_4, after_5, after_6, after_7]
  simp only [before_4, before_5, before_6, before_7]
  unfold inv
  rw [tabs_split]
  iintro ⟨⟨HS, Hg, HE, HN⟩, Ho, ⟨%d4, H4⟩, ⟨%d5, H5⟩, ⟨%d6, H6⟩, ⟨%d7, H7⟩, ⟨%d8, H8⟩⟩
  unfold scr
  icases HS with ⟨%d9, %d10, %hS, H9, H10⟩
  iapply (bodyA c (grid0.coords t) tabE (Memref.isWhole_whole _) tabN (Memref.isWhole_whole _) (s4 ad t) (hs4 ad t) (s5 ad t) (hs5 ad t) (s6 ad t) (hs6 ad t) (s7 ad t) (hs7 ad t) (s8 ad t) (hs8 ad t) bufAcc (Memref.isWhole_whole _) bufXb (Memref.isWhole_whole _) (ad.1 1) (b4 m ad c t) (b5 m ad c t) (b6 m ad c t) (b7 m ad c t) hc0 hc2 hc3 Set.univ _)
  isplitl [HN]; · iexact HN
  isplitl [H4]; · iexact H4
  isplitl [H5]; · iexact H5
  isplitl [H6]; · iexact H6
  isplitl [H7]; · iexact H7
  isplitl [H9]; · iexists _; iexact H9
  isplitl [H10]; · iexists _; iexact H10
  iintro ⟨HN, H4, H5, H6, H7, H9, H10⟩
  isplitl [H9 H10 Hg HE HN]
  · isplitl [H9 H10]
    · iexists (accAt m ad c t), (xbAt m ad c t)
      isplitr; · ipureintro; exact (fun t' e _ _ => by obtain rfl : t' = t := Fin.ext (by omega); exact ⟨rfl, rfl⟩)
      isplitl [H9]; · iexact H9
      iexact H10
    isplitl [Hg]; · iexact Hg
    isplitl [HE]; · iexact HE
    iexact HN
  isplitl [Ho]; · iexact Ho
  isplitl [H4]; · iexact H4
  isplitl [H5]; · iexact H5
  isplitl [H6]; · iexact H6
  isplitl [H7]; · iexact H7
  iexists d8; iexact H8

theorem body_skip (c : Dev nD) (t : Fin grid0.N) (h : t.val % 2 = 0) (u : ¬ usedAt (grid0.coords t) (cnt ad)) :
    bodyPre m ad c t ⊢ wp frame (wpE (defs₀ (F := F)) Variants.none c none) Set.univ (bodyAt ad t) (fun _ => bodyPost m ad c t iprop(∃ d, owns (c : Thread nD τ) (s8 ad t) fullShare ((dats m ad 0 c).before 4 t d))) := by
  have e1 : (grid0.coords t 1).val = 0 := by rw [coord_half]; exact h
  have hc0 : ¬ startAt (grid0.coords t) (cnt ad) := fun e => by have := (startAt_iff _ _).mp e; first | exact u this.1 | (have := this.2; omega)
  have hc2 : ¬ k0_cond2 (grid0.coords t) (cnt ad) = 1#1 := fun e => by have := (cond2_iff _ _).mp e; first | exact u this.1 | exact this.1 u | (have := this.2; omega)
  have hc3 : ¬ k0_cond3 (grid0.coords t) (cnt ad) = 1#1 := fun e => by have := (cond3_iff _ _).mp e; first | exact u this.1 | exact this.1 u | (have := this.2; omega)
  unfold bodyPre bodyPost
  rw [Φ_castSucc, Φ_succ, show (dats m ad 0 c).owesAt () t.succ = (dats m ad 0 c).owesAt () t.castSucc from rfl, after_4, after_5, after_6, after_7]
  simp only [before_4, before_5, before_6, before_7]
  unfold inv
  rw [tabs_split]
  iintro ⟨⟨HS, Hg, HE, HN⟩, Ho, ⟨%d4, H4⟩, ⟨%d5, H5⟩, ⟨%d6, H6⟩, ⟨%d7, H7⟩, ⟨%d8, H8⟩⟩
  unfold scr
  icases HS with ⟨%d9, %d10, %hS, H9, H10⟩
  iapply (runD c (grid0.coords t) tabE (Memref.isWhole_whole _) tabN (Memref.isWhole_whole _) (s4 ad t) (hs4 ad t) (s5 ad t) (hs5 ad t) (s6 ad t) (hs6 ad t) (s7 ad t) (hs7 ad t) (s8 ad t) (hs8 ad t) bufAcc (Memref.isWhole_whole _) bufXb (Memref.isWhole_whole _) (ad.1 1) hc0 hc2 hc3 Set.univ _)
  isplitl [HN]; · iexact HN
  iintro HN
  isplitl [H9 H10 Hg HE HN]
  · isplitl [H9 H10]
    · iexists d9, d10
      isplitr; · ipureintro; exact (fun t' e _ u' => by obtain rfl : t' = t := Fin.ext (by omega); exact absurd u' u)
      isplitl [H9]; · iexact H9
      iexact H10
    isplitl [Hg]; · iexact Hg
    isplitl [HE]; · iexact HE
    iexact HN
  isplitl [Ho]; · iexact Ho
  isplitl [H4]; · iexact H4
  isplitl [H5]; · iexact H5
  isplitl [H6]; · iexact H6
  isplitl [H7]; · iexact H7
  iexists d8; iexact H8

theorem body_second (c : Dev nD) (t : Fin grid0.N) (h : t.val % 2 = 1) (u : usedAt (grid0.coords t) (cnt ad)) :
    bodyPre m ad c t ⊢ wp frame (wpE (defs₀ (F := F)) Variants.none c none) Set.univ (bodyAt ad t) (fun _ => bodyPost m ad c t (owns (c : Thread nD τ) (s8 ad t) fullShare ((dats m ad 0 c).after 4 t))) := by
  have e1 : (grid0.coords t 1).val = 1 := by rw [coord_half]; exact h
  have hc0 : ¬ startAt (grid0.coords t) (cnt ad) := fun e => by have := (startAt_iff _ _).mp e; first | exact u this.1 | (have := this.2; omega)
  have hc2 : k0_cond2 (grid0.coords t) (cnt ad) = 1#1 := (cond2_iff _ _).mpr ⟨u, e1⟩
  have hc3 : ¬ k0_cond3 (grid0.coords t) (cnt ad) = 1#1 := fun e => by have := (cond3_iff _ _).mp e; first | exact u this.1 | exact this.1 u | (have := this.2; omega)
  unfold bodyPre bodyPost
  rw [Φ_castSucc, Φ_succ, show (dats m ad 0 c).owesAt () t.succ = (dats m ad 0 c).owesAt () t.castSucc from rfl, after_4, after_5, after_6, after_7]
  simp only [before_4, before_5, before_6, before_7]
  unfold inv
  rw [tabs_split]
  iintro ⟨⟨HS, Hg, HE, HN⟩, Ho, ⟨%d4, H4⟩, ⟨%d5, H5⟩, ⟨%d6, H6⟩, ⟨%d7, H7⟩, ⟨%d8, H8⟩⟩
  unfold scr
  icases HS with ⟨%d9, %d10, %hS, H9, H10⟩
  have hp : (prev t).val + 1 = t.val := by show t.val - 1 + 1 = t.val; omega
  have hu : usedAt (grid0.coords (prev t)) (cnt ad) := by
    unfold usedAt at u ⊢
    rw [show (grid0.coords (prev t) 0).val = (grid0.coords t 0).val from by rw [coord_tile, coord_tile]; omega]
    exact u
  obtain ⟨r9, r10⟩ := hS (prev t) hp (by omega) hu
  subst r9; subst r10
  rw [after_8, show outAt m ad c t = spread (k0_pay16 (accAt m ad c (prev t)) (xbAt m ad c (prev t)) (b5 m ad c t) (b6 m ad c t) (b7 m ad c t)) from if_pos u]
  iapply (bodyB c (grid0.coords t) tabE (Memref.isWhole_whole _) tabN (Memref.isWhole_whole _) (s4 ad t) (hs4 ad t) (s5 ad t) (hs5 ad t) (s6 ad t) (hs6 ad t) (s7 ad t) (hs7 ad t) (s8 ad t) (hs8 ad t) bufAcc (Memref.isWhole_whole _) bufXb (Memref.isWhole_whole _) (ad.1 1) (b5 m ad c t) (b6 m ad c t) (b7 m ad c t) (accAt m ad c (prev t)) (xbAt m ad c (prev t)) hc0 hc2 hc3 Set.univ _)
  isplitl [HN]; · iexact HN
  isplitl [H5]; · iexact H5
  isplitl [H6]; · iexact H6
  isplitl [H7]; · iexact H7
  isplitl [H9]; · iexact H9
  isplitl [H10]; · iexact H10
  isplitl [H8]; · iexists _; iexact H8
  iintro ⟨HN, H5, H6, H7, H9, H10, H8⟩
  isplitl [H9 H10 Hg HE HN]
  · isplitl [H9 H10]
    · iexists (accAt m ad c (prev t)), (xbAt m ad c (prev t))
      isplitr; · ipureintro; exact (fun t' e e' _ => by exfalso; omega)
      isplitl [H9]; · iexact H9
      iexact H10
    isplitl [Hg]; · iexact Hg
    isplitl [HE]; · iexact HE
    iexact HN
  isplitl [Ho]; · iexact Ho
  isplitl [H4]; · iexact H4
  isplitl [H5]; · iexact H5
  isplitl [H6]; · iexact H6
  isplitl [H7]; · iexact H7
  iexact H8

theorem body_zero (c : Dev nD) (t : Fin grid0.N) (h : t.val % 2 = 1) (u : ¬ usedAt (grid0.coords t) (cnt ad)) :
    bodyPre m ad c t ⊢ wp frame (wpE (defs₀ (F := F)) Variants.none c none) Set.univ (bodyAt ad t) (fun _ => bodyPost m ad c t (owns (c : Thread nD τ) (s8 ad t) fullShare ((dats m ad 0 c).after 4 t))) := by
  have e1 : (grid0.coords t 1).val = 1 := by rw [coord_half]; exact h
  have hc0 : ¬ startAt (grid0.coords t) (cnt ad) := fun e => by have := (startAt_iff _ _).mp e; first | exact u this.1 | (have := this.2; omega)
  have hc2 : ¬ k0_cond2 (grid0.coords t) (cnt ad) = 1#1 := fun e => by have := (cond2_iff _ _).mp e; first | exact u this.1 | exact this.1 u | (have := this.2; omega)
  have hc3 : k0_cond3 (grid0.coords t) (cnt ad) = 1#1 := (cond3_iff _ _).mpr ⟨u, e1⟩
  unfold bodyPre bodyPost
  rw [Φ_castSucc, Φ_succ, show (dats m ad 0 c).owesAt () t.succ = (dats m ad 0 c).owesAt () t.castSucc from rfl, after_4, after_5, after_6, after_7]
  simp only [before_4, before_5, before_6, before_7]
  unfold inv
  rw [tabs_split]
  iintro ⟨⟨HS, Hg, HE, HN⟩, Ho, ⟨%d4, H4⟩, ⟨%d5, H5⟩, ⟨%d6, H6⟩, ⟨%d7, H7⟩, ⟨%d8, H8⟩⟩
  unfold scr
  icases HS with ⟨%d9, %d10, %hS, H9, H10⟩
  rw [after_8, show outAt m ad c t = spread (k0_pay4 (F := F)) from if_neg u]
  iapply (bodyC c (grid0.coords t) tabE (Memref.isWhole_whole _) tabN (Memref.isWhole_whole _) (s4 ad t) (hs4 ad t) (s5 ad t) (hs5 ad t) (s6 ad t) (hs6 ad t) (s7 ad t) (hs7 ad t) (s8 ad t) (hs8 ad t) bufAcc (Memref.isWhole_whole _) bufXb (Memref.isWhole_whole _) (ad.1 1) hc0 hc2 hc3 Set.univ _)
  isplitl [HN]; · iexact HN
  isplitl [H8]; · iexists _; iexact H8
  iintro ⟨HN, H8⟩
  isplitl [H9 H10 Hg HE HN]
  · isplitl [H9 H10]
    · iexists d9, d10
      isplitr; · ipureintro; exact (fun t' e e' _ => by exfalso; omega)
      isplitl [H9]; · iexact H9
      iexact H10
    isplitl [Hg]; · iexact Hg
    isplitl [HE]; · iexact HE
    iexact HN
  isplitl [Ho]; · iexact Ho
  isplitl [H4]; · iexact H4
  isplitl [H5]; · iexact H5
  isplitl [H6]; · iexact H6
  isplitl [H7]; · iexact H7
  iexact H8

/-- The result's buffer after the body: as found where nothing is stored into it, else the tile's block. -/
def left8 (c : Dev nD) (t : Fin grid0.N) : sProp 𝕄 :=
  match (Pipeline.pin pcfgs (tabs ad) 0).idle 4 ((Pipeline.pin pcfgs (tabs ad) 0).grid.coords t) with
  | true =>
    match ((Pipeline.pin pcfgs (tabs ad) 0).win 4).flush t with
    | false => iprop(∃ d, owns (c : Thread nD τ) (s8 ad t) fullShare ((dats m ad 0 c).before 4 t d))
    | true => owns (c : Thread nD τ) (s8 ad t) fullShare ((dats m ad 0 c).after 4 t)
  | false => owns (c : Thread nD τ) (s8 ad t) fullShare ((dats m ad 0 c).after 4 t)

theorem left8_first (c : Dev nD) (t : Fin grid0.N) (h : t.val % 2 = 0) : left8 m ad c t = iprop(∃ d, owns (c : Thread nD τ) (s8 ad t) fullShare ((dats m ad 0 c).before 4 t d)) := by
  have i4 : (Pipeline.pin pcfgs (tabs ad) 0).idle 4 ((Pipeline.pin pcfgs (tabs ad) 0).grid.coords t) = true := idle_first ad t h
  have f4 : ((Pipeline.pin pcfgs (tabs ad) 0).win 4).flush t = false := flush_first ad t h
  unfold left8
  rw [i4, f4]

theorem left8_second (c : Dev nD) (t : Fin grid0.N) (h : t.val % 2 = 1) : left8 m ad c t = owns (c : Thread nD τ) (s8 ad t) fullShare ((dats m ad 0 c).after 4 t) := by
  have i4 : (Pipeline.pin pcfgs (tabs ad) 0).idle 4 ((Pipeline.pin pcfgs (tabs ad) 0).grid.coords t) = false := idle_second ad t h
  unfold left8
  rw [i4]

theorem sound_body (c : Dev nD) (t : Fin grid0.N) :
    bodyPre m ad c t ⊢ wp frame (wpE (defs₀ (F := F)) Variants.none c none) Set.univ (bodyAt ad t) (fun _ => bodyPost m ad c t (left8 m ad c t)) := by
  rcases (show t.val % 2 = 0 ∨ t.val % 2 = 1 by omega) with h | h
  · rw [left8_first m ad c t h]
    by_cases u : usedAt (grid0.coords t) (cnt ad)
    · exact body_first m ad c t h u
    · exact body_skip m ad c t h u
  · rw [left8_second m ad c t h]
    by_cases u : usedAt (grid0.coords t) (cnt ad)
    · exact body_second m ad c t h u
    · exact body_zero m ad c t h u

theorem wp_restated (c : Dev nD) {p q : Prog (TpuEff nD τ sig (Elt F) Λ₀ .tc) PUnit} (e : p = q) :
    wp (M := 𝕄) frame (wpE (defs₀ (F := F)) Variants.none c none) Set.univ p = wp frame (wpE (defs₀ (F := F)) Variants.none c none) Set.univ q := by rw [e]

theorem obligation (c : Dev nD) : BodyObligation (dats m ad 0 c) (defs₀ (F := F)) Variants.none () Set.univ := fun t => by
  rw [bigSep_W0, bigSep_W0]
  exact triple_restated (sound_body m ad c t) (wp_restated c (row_body ad t).symm) .rfl fun _ => .rfl

theorem start_eq (c : Dev nD) :
    (Pipeline.ΦA spec0 c : sProp 𝕄) = iprop(((∃ d, owns (c : Thread nD τ) bufAcc fullShare d) ∗ (∃ d, owns (c : Thread nD τ) bufXb fullShare d)) ∗ (∃ r, prngReg c r)) := by
  unfold Pipeline.ΦA
  rw [scopedRest0_eq]
  simp only [bufAcc, bufXb, owns_whole]
  try rfl

theorem enter (c : Dev nD) : iprop(Pipeline.ΦA spec0 c ∗ Pipeline.ΦT pre0 ad.1 c) ⊢ (dats m ad 0 c).Φ 0 := by
  rw [show (dats m ad 0 c).Φ 0 = inv m ad c 0 from rfl, start_eq]
  unfold inv scr
  iintro ⟨⟨⟨⟨%d9, H9⟩, ⟨%d10, H10⟩⟩, Hg⟩, HT⟩
  isplitl [H9 H10]
  · iexists d9, d10
    isplitr; · ipureintro; exact (fun t e _ _ => absurd e (Nat.succ_ne_zero _))
    isplitl [H9]; · iexact H9
    iexact H10
  isplitl [Hg]; · iexact Hg
  iexact HT

theorem leave (c : Dev nD) : (dats m ad 0 c).Φ (Fin.last grid0.N) ⊢ Pipeline.ΦA spec0 c := by
  rw [show (dats m ad 0 c).Φ (Fin.last grid0.N) = inv m ad c grid0.N from rfl, start_eq]
  unfold inv scr
  iintro ⟨⟨%d9, %d10, %hS, H9, H10⟩, Hg, HT⟩
  isplitl [H9 H10]
  · isplitl [H9]
    · iexists d9; iexact H9
    iexists d10; iexact H10
  iexact Hg

/-! ## The run -/

set_option backward.isDefEq.respectTransparency.types false in
/-- Every execution terminates with the arrays at what the proof data says and every counter at zero. -/
theorem run_quiescent (htab : ∀ (c : Dev nD) k, V m c (pre0.ref k) = ad.1 k) :
    θ_run defs (onTc (τ := τ) (main (F := F))) (s₀ m ρ) (fun r => (Pipeline.FramePost (Pipeline.pin pcfgs (tabs ad)) (dats m ad) 0 (V m)) r ∧ r.2.sem = fun _ => 0) :=
  Pipeline.θ_run_frameP_track (Q' := _) pcfgs (tabs ad) (dats m ad) (0 : Fin 1) launch0 defs₀ Variants.none m ρ main
    (hbody := fun c => (obligation m ad c).loose) (hshare := fun c => (dats m ad 0 c).share_full fun _ => rfl)
    (howed := fun _ _ => rfl) (V := V m) (hmain := hmain m Variants.none) (hA := A_eq m ad) (hpf := htab) (hin := enter m ad) (hout := leave m ad)

end Cert.Kernel2Ideal.Ffn
end
-- ==== Proof.XTab.lean ====
/- The routing's look-ups as the host computes them before the experts' call: which expert's weights a tile takes, and how many tiles hold rows. -/
module

public import proofs.«01_k».proof.Proof.XDat
public import Idealize.ShloMosaic.Lib.StableHlo.RunRead
public import Idealize.ShloMosaic.Lib.Routing.Words
public import Idealize.ShloMosaic.Lib.Routing.Ops
public import Idealize.ShloMosaic.Lib.Routing.OpsSearch

@[expose] public section

set_option maxRecDepth 65536

noncomputable section

namespace Cert.Kernel2Ideal.Ffn

open Idealize.ShloMosaic Idealize.ShloMosaic.TcCoe
open Cert.Kernel2Ideal Cert.Kernel2Ideal.Gen
open Idealize.ShloMosaic.Routing (pyDiv pyDiv0)

variable {F : FTy → Type} [FloatOps F]

/-! ## What the host computes, of the eight counts as words -/

/-- The eight counts as words. -/
def counted (x : FVec F S1x128 .f32) : IVec S8 32 :=
  fptosi 32 (shapeCast S8 (extractStridedSlice S1x8 ![0, 0] x slices_S1x128_S1x8_0_0) shapeCasts_S1x8_S8)

/-- Each expert's tiles. -/
def tilesW (k : IVec S8 32) : IVec S8 32 :=
  pyDiv bcast_S_S8 (subi (addi k (broadcastInDim S8 ![] bcast_S_S8 (constantI S_ 32 512#32))) (broadcastInDim S8 ![] bcast_S_S8 (constantI S_ 32 1#32))) (constantI S_ 32 512#32)

/-- The row after each expert's last. -/
def endsW (k : IVec S8 32) : IVec S8 32 :=
  Host.reduceWindow IntOp.addi ![8] ![1] ![7] ![0] (muli (tilesW k) (broadcastInDim S8 ![] bcast_S_S8 (constantI S_ 32 512#32)))
    (broadcastInDim S_ ![] bcast_S_S_ (constantI S_ 32 0#32)) reduceWindows_S8_S8_w8s1p7_0 h_S_

/-- The number of tiles that hold rows. -/
def usedW (k : IVec S8 32) : IVec S1 32 :=
  shapeCast S1 (pyDiv0 (shapeCast S_ (extractStridedSlice S1 ![7] (endsW k) slices_S8_S1_7) shapeCasts_S1_S_) (constantI S_ 32 512#32)) shapeCasts_S_S1

/-- A tile at or past an expert's end. -/
def pastW (k : IVec S8 32) : IVec S136x8 1 :=
  cmpi .sge (broadcastInDim S136x8 ![0, 1] bcast_S136x1_S136x8_0_1 (broadcastInDim S136x1 ![0] bcast_S136_S136x1_0 (iotaInDim S136 32 0)))
    (broadcastInDim S136x8 ![0, 1] bcast_S1x8_S136x8_0_1 (broadcastInDim S1x8 ![1] bcast_S8_S1x8_1 (pyDiv bcast_S_S8 (endsW k) (constantI S_ 32 512#32))))

/-- The last expert that has rows. -/
def lastW (k : IVec S8 32) : IVec S_ 32 :=
  Host.reduce IntOp.maxsi (select (cmpi .sgt k (broadcastInDim S8 ![] bcast_S_S8 (constantI S_ 32 0#32))) (iotaInDim S8 32 0) (broadcastInDim S8 ![] bcast_S_S8 (constantI S_ 32 0#32)))
    (constantI S_ 32 2147483648#32) reducesTo_S8_S_d0 h_S_

/-- Each tile's expert. -/
def expertW (k : IVec S8 32) : IVec S136 32 :=
  minsi (Host.reduce IntOp.addi (extui 32 (pastW k) natLt_1_32) (constantI S_ 32 0#32) reducesTo_S136x8_S136_d1 h_S_) (broadcastInDim S136 ![] bcast_S_S136 (lastW k))

variable (m : (ℓ : Loc nD τ sig) → Buf (Elt F) ℓ) (c : Dev nD)

/-- The buffers after the counts' ends are summed. -/
def mid : Valuation τ sig (Elt F) := StableHlo.after (hostOps0 ++ hostOps0_1 ++ hostOps0_2 ++ hostOps0_3) fun b => m (c, b)

/-- The operations between the ends and the call. -/
abbrev late : List (HloOp τ sig (Elt F)) := hostOps0_4 ++ hostOps0_5 ++ hostOps0_6 ++ hostOps0_7 ++ hostOps0_8 ++ hostOps0_9 ++ hostOps0_10

theorem V_late (r : Ref sig .tc) : V m c r = StableHlo.after late (mid m c) (Proc.devRef .tc r) := by
  have e : (host (F := F)).flatten = (hostOps0 ++ hostOps0_1 ++ hostOps0_2 ++ hostOps0_3) ++ late := rfl
  show StableHlo.after (host (F := F)).flatten _ _ = _
  rw [e, StableHlo.after_append]
  rfl

theorem mid_counted : mid m c (Proc.devRef .tc main_v2) = counted (F := F) (m ((c : Thread nD τ).loc main_arg1)) := by
  simp only [mid, List.cons_append, List.nil_append]
  after_reads_simp
  rfl

theorem mid_ends : mid m c (Proc.devRef .tc main_v10) = endsW (counted (F := F) (m ((c : Thread nD τ).loc main_arg1))) := by
  simp only [mid, List.cons_append, List.nil_append]
  after_reads_simp
  simp only [StableHlo.TRef.toBuf, StableHlo.TRef.ofBuf, cast_eq, id]
  rfl

theorem V_used : V m c main_v14 = usedW (counted (F := F) (m ((c : Thread nD τ).loc main_arg1))) := by
  rw [V_late]
  unfold usedW
  rw [← mid_ends m c]
  generalize mid m c = W
  simp only [late, List.cons_append, List.nil_append]
  after_reads_simp
  simp only [StableHlo.TRef.toBuf, StableHlo.TRef.ofBuf, cast_eq, id]
  rfl

theorem V_expert : V m c main_v30 = expertW (counted (F := F) (m ((c : Thread nD τ).loc main_arg1))) := by
  rw [V_late]
  unfold expertW pastW lastW
  rw [← mid_ends m c, ← mid_counted m c]
  generalize mid m c = W
  simp only [late, List.cons_append, List.nil_append]
  after_reads_simp
  simp only [StableHlo.TRef.toBuf, StableHlo.TRef.ofBuf, cast_eq, id]
  rfl

end Cert.Kernel2Ideal.Ffn
end
-- ==== Proof.XLook.lean ====
/- The look-ups' words: what the host's tables hold when the counts are the words of naturals. -/
module

public import proofs.«01_k».proof.Proof.XTab

@[expose] public section

set_option maxRecDepth 65536

noncomputable section

namespace Cert.Kernel2Ideal.Ffn

open Idealize.ShloMosaic Idealize.ShloMosaic.TcCoe
open Cert.Kernel2Ideal Cert.Kernel2Ideal.Gen
open Idealize.ShloMosaic.Routing Idealize.ShloMosaic.ValueIdx Idealize.ShloMosaic.WordCmp

/-! ## The last expert that has rows -/

theorem max_small : ∀ a b : Fin 8, IntOp.maxsi (BitVec.ofNat 32 a.val) (BitVec.ofNat 32 b.val) = BitVec.ofNat 32 (max a.val b.val) := by decide
theorem max_first : ∀ a : Fin 8, IntOp.maxsi 2147483648#32 (BitVec.ofNat 32 a.val) = BitVec.ofNat 32 a.val := by decide
theorem min_small : ∀ (a : Fin 9) (b : Fin 8), IntOp.minsi (BitVec.ofNat 32 a.val) (BitVec.ofNat 32 b.val) = BitVec.ofNat 32 (min a.val b.val) := by decide

/-- The greatest of some small words and one more. -/
theorem greatest {α : Type} (f : α → BitVec 32) (g : α → Fin 8) (hf : ∀ a, f a = BitVec.ofNat 32 (g a).val) :
    ∀ (l : List α) (r : Fin 8), ∃ L : Fin 8, l.foldl (fun r n => IntOp.maxsi r (f n)) (BitVec.ofNat 32 r.val) = BitVec.ofNat 32 L.val ∧ r ≤ L ∧ ∀ a ∈ l, g a ≤ L
  | [], r => ⟨r, rfl, le_refl r, fun a h => absurd h (List.not_mem_nil)⟩
  | a :: l, r => by
    obtain ⟨L, h1, h2, h3⟩ := greatest f g hf l (max r (g a))
    refine ⟨L, ?_, le_trans (le_max_left r (g a)) h2, fun b hb => ?_⟩
    · rw [List.foldl_cons, hf, max_small, ← h1]
      congr 2
    · rcases List.mem_cons.mp hb with rfl | hb
      · exact le_trans (le_max_right r (g b)) h2
      · exact h3 b hb

/-- The greatest of some small words, at least one. -/
theorem greatest_of {α : Type} (f : α → BitVec 32) (g : α → Fin 8) (hf : ∀ a, f a = BitVec.ofNat 32 (g a).val) (l : List α) (hl : l ≠ []) :
    ∃ L : Fin 8, l.foldl (fun r n => IntOp.maxsi r (f n)) 2147483648#32 = BitVec.ofNat 32 L.val ∧ ∀ a ∈ l, g a ≤ L := by
  cases l with
  | nil => exact absurd rfl hl
  | cons a l =>
    obtain ⟨L, h1, h2, h3⟩ := greatest f g hf l (g a)
    refine ⟨L, ?_, fun b hb => ?_⟩
    · rw [List.foldl_cons, hf, max_first, h1]
    · rcases List.mem_cons.mp hb with rfl | hb
      · exact h2
      · exact h3 b hb

/-- The number an expert offers: its own if it has rows. -/
def offer (k : IVec S8 32) (e : Fin 8) : Fin 8 := if (0#32).slt (k (ix1 e)) then e else 0

theorem offer_apply (k : IVec S8 32) (e : Fin 8) :
    select (cmpi .sgt k (broadcastInDim S8 ![] bcast_S_S8 (constantI S_ 32 0#32))) (iotaInDim S8 32 0) (broadcastInDim S8 ![] bcast_S_S8 (constantI S_ 32 0#32)) (ix1 e)
      = BitVec.ofNat 32 (offer k e).val := by
  show Scalar.select (BitVec.ofBool ((0#32).slt (k (ix1 e)))) (BitVec.ofNat 32 e.val) 0#32 = _
  unfold offer
  cases (0#32).slt (k (ix1 e)) <;> rfl

theorem last_small (k : IVec S8 32) : ∃ L : Fin 8, lastW k ValueIdx.ix0 = BitVec.ofNat 32 L.val ∧ ∀ e : Fin 8, offer k e ≤ L := by
  unfold lastW Host.reduce
  rw [List.filter_eq_self.2 fun n _ => decide_eq_true (funext fun a => a.elim0)]
  have hx : ∀ n : Fin S8.numel, select (cmpi .sgt k (broadcastInDim S8 ![] bcast_S_S8 (constantI S_ 32 0#32))) (iotaInDim S8 32 0) (broadcastInDim S8 ![] bcast_S_S8 (constantI S_ 32 0#32)) (S8.rowMajor.symm n)
      = BitVec.ofNat 32 (offer k (n.cast (numel1 8))).val := fun n => by
    rw [symm1]; exact offer_apply k _
  obtain ⟨L, h1, h2⟩ := greatest_of (fun n : Fin S8.numel => select (cmpi .sgt k (broadcastInDim S8 ![] bcast_S_S8 (constantI S_ 32 0#32))) (iotaInDim S8 32 0) (broadcastInDim S8 ![] bcast_S_S8 (constantI S_ 32 0#32)) (S8.rowMajor.symm n))
    (fun n => offer k (n.cast (numel1 8))) hx (List.finRange S8.numel) (fun h => absurd (congrArg List.length h) (by rw [List.length_finRange, numel1]; decide))
  exact ⟨L, h1, fun e => h2 (e.cast (numel1 8).symm) (List.mem_finRange _)⟩

/-! ## The table names the eight experts, whatever the counts -/

theorem table_min (k : IVec S8 32) (t : Fin 136) (Q : ℕ → Prop) [DecidablePred Q] (hQ : ∀ q : Fin 8, pastW k (ix2 t q) = 1#1 ↔ Q q.val) (L : Fin 8) (hL : lastW k ValueIdx.ix0 = BitVec.ofNat 32 L.val) :
    expertW k (ix1 t) = BitVec.ofNat 32 (min (Nat.count Q 8) L.val) := by
  have h := reduce_count (n := 136) (m := 8) (by decide) (pastW k) natLt_1_32 reducesTo_S136x8_S136_d1 h_S_ t Q hQ
  show IntOp.minsi (Host.reduce IntOp.addi (extui 32 (pastW k) natLt_1_32) (constantI S_ 32 0#32) reducesTo_S136x8_S136_d1 h_S_ (ix1 t)) (broadcastInDim S136 ![] bcast_S_S136 (lastW k) (ix1 t)) = _
  have e : broadcastInDim S136 ![] bcast_S_S136 (lastW k) (ix1 t) = lastW k ValueIdx.ix0 := congrArg (lastW k) (eq_ix0 _)
  rw [e, hL]
  refine (congrArg (fun z => IntOp.minsi z (BitVec.ofNat 32 L.val)) h).trans ?_
  exact min_small ⟨Nat.count Q 8, Nat.lt_succ_of_le (Nat.count_le _)⟩ L

theorem table_small (k : IVec S8 32) (i : S136.Idx) : (expertW k i).toNat < 8 := by
  classical
  obtain ⟨L, hL, -⟩ := last_small k
  obtain ⟨t, rfl⟩ : ∃ t : Fin 136, i = ix1 t := ⟨i 0, by funext a; obtain rfl : a = 0 := Subsingleton.elim _ _; rfl⟩
  rw [table_min k t (fun q => ∃ h : q < 8, pastW k (ix2 t ⟨q, h⟩) = 1#1) (fun q => ⟨fun h => ⟨q.isLt, h⟩, fun ⟨_, h⟩ => h⟩) L hL, BitVec.toNat_ofNat]
  have := L.isLt
  exact lt_of_le_of_lt (Nat.mod_le _ _) (lt_of_le_of_lt (min_le_right _ _) this)

/-! ## The tables of counts that are naturals -/

/-- An expert's tiles. -/
def tiles (n : ℕ → ℕ) (e : ℕ) : ℕ := (n e + 511) / 512
/-- The tiles of the experts before one. -/
def upTo (n : ℕ → ℕ) (e : ℕ) : ℕ := ((List.range e).map (tiles n)).sum

theorem upTo_succ (n : ℕ → ℕ) (e : ℕ) : upTo n (e + 1) = upTo n e + tiles n e := by
  unfold upTo; rw [List.range_succ, List.map_append, List.sum_append]; simp

theorem upTo_mono (n : ℕ → ℕ) : Monotone (upTo n) := monotone_nat_of_le_succ fun e => by rw [upTo_succ]; omega

theorem rows_sum (n : ℕ → ℕ) : ∀ e, ((List.range e).map fun i => tiles n i * 512).sum = upTo n e * 512
  | 0 => rfl
  | e + 1 => by rw [List.range_succ, List.map_append, List.sum_append, rows_sum n e, upTo_succ]; simp; ring

variable (k : IVec S8 32) (n : ℕ → ℕ) (hk : ∀ e : Fin 8, k (ix1 e) = BitVec.ofNat 32 (n e.val)) (hn : ∀ e, n e ≤ 65536)

include hn in
theorem tiles_le (e : ℕ) : tiles n e ≤ 128 := by have := hn e; unfold tiles; omega

include hn in
theorem upTo_le : ∀ e, upTo n e ≤ 128 * e
  | 0 => Nat.le_refl 0
  | e + 1 => by have := upTo_le e; have := tiles_le n hn e; rw [upTo_succ]; omega

include hk hn in
theorem tiles_apply (e : Fin 8) : tilesW k (ix1 e) = BitVec.ofNat 32 (tiles n e.val) := by
  have := hn e.val
  refine (pyDiv_ap bcast_S_S8 _ (constantI S_ 32 512#32) (ix1 e) (a := n e.val + 511) (b := 512) ?_ rfl (by omega) (by decide) (by decide)).trans rfl
  show (k (ix1 e) + 512#32) - 1#32 = _
  rw [hk, show (512#32 : BitVec 32) = BitVec.ofNat 32 512 from rfl, ← BitVec.ofNat_add, show (1#32 : BitVec 32) = BitVec.ofNat 32 1 from rfl, ofNat32_sub (by omega)]
  congr 1

include hk hn in
theorem ends_apply (e : Fin 8) : endsW k (ix1 e) = BitVec.ofNat 32 (upTo n (e.val + 1) * 512) := by
  rw [← rows_sum]
  refine cumsum1 (N := 8) (Nm1 := 7) rfl _ (fun i => tiles n i * 512) (fun i => ?_) _ rfl _ _ e
  show tilesW k (ix1 i) * 512#32 = _
  rw [tiles_apply k n hk hn, show (512#32 : BitVec 32) = BitVec.ofNat 32 512 from rfl, ← BitVec.ofNat_mul]

/-- The last of eight words, taken out and divided. -/
theorem seventh (v : IVec S8 32) : shapeCast S_ (extractStridedSlice S1 ![7] v slices_S8_S1_7) shapeCasts_S1_S_ ValueIdx.ix0 = v (ix1 7) := by
  refine congrArg v ?_
  funext a; obtain rfl : a = 0 := Subsingleton.elim _ _; rfl

theorem single (v : IVec S_ 32) : shapeCast S1 v shapeCasts_S_S1 (ix1 0) = v ValueIdx.ix0 := congrArg v (eq_ix0 _)

include hk hn in
theorem used_apply : usedW k (ix1 0) = BitVec.ofNat 32 (upTo n 8) := by
  have h8 := upTo_le n hn 8
  have e : endsW k (ix1 7) = BitVec.ofNat 32 (upTo n 8 * 512) := ends_apply k n hk hn 7
  unfold usedW
  rw [single]
  generalize endsW k = v at e
  have h := pyDiv0_ap (shapeCast S_ (extractStridedSlice S1 ![7] v slices_S8_S1_7) shapeCasts_S1_S_) (constantI S_ 32 512#32) (a := upTo n 8 * 512) (b := 512)
    ((seventh v).trans e) rfl (by omega) (by decide) (by decide)
  rw [Nat.mul_div_cancel _ (by decide)] at h
  exact h

include hk hn in
theorem past_apply (t : Fin 136) (e : Fin 8) : pastW k (ix2 t e) = 1#1 ↔ upTo n (e.val + 1) ≤ t.val := by
  have h8 := upTo_le n hn (e.val + 1)
  have ht := t.isLt
  have he := e.isLt
  have h : pyDiv bcast_S_S8 (endsW k) (constantI S_ 32 512#32) (ix1 e) = BitVec.ofNat 32 (upTo n (e.val + 1)) := by
    refine (pyDiv_ap bcast_S_S8 (endsW k) (constantI S_ 32 512#32) (ix1 e) (a := upTo n (e.val + 1) * 512) (b := 512) (ends_apply k n hk hn e) rfl (by omega) (by decide) (by decide)).trans ?_
    rw [Nat.mul_div_cancel _ (by decide)]
  have e1 : pastW k (ix2 t e) = IntOp.cmpi .sge (BitVec.ofNat 32 t.val) (pyDiv bcast_S_S8 (endsW k) (constantI S_ 32 512#32) (ix1 e)) := by
    unfold pastW
    refine congrArg₂ (IntOp.cmpi .sge) rfl (congrArg (pyDiv bcast_S_S8 (endsW k) (constantI S_ 32 512#32)) ?_)
    funext a; obtain rfl : a = 0 := Subsingleton.elim _ _; rfl
  rw [e1, h, cmpi_sge_ofNat (w := 32) (by omega) (by omega)]
  by_cases hh : upTo n (e.val + 1) ≤ t.val <;> simp [hh]

include hk hn in
/-- A tile between an expert's first and the next expert's is that expert's. -/
theorem owner (t : Fin 136) (e : Fin 8) (h1 : upTo n e.val ≤ t.val) (h2 : t.val < upTo n (e.val + 1)) : expertW k (ix1 t) = BitVec.ofNat 32 e.val := by
  obtain ⟨L, hL, ho⟩ := last_small k
  rw [table_min k t (fun q => upTo n (q + 1) ≤ t.val) (past_apply k n hk hn t) L hL]
  have hc : Nat.count (fun q => upTo n (q + 1) ≤ t.val) 8 = e.val := by
    rw [Nat.count_eq_card_filter_range]
    have : (Finset.range 8).filter (fun q => upTo n (q + 1) ≤ t.val) = Finset.range e.val := by
      ext q
      rw [Finset.mem_filter, Finset.mem_range, Finset.mem_range]
      have he := e.isLt
      constructor
      · rintro ⟨-, h⟩
        by_contra hq
        have := upTo_mono n (show e.val + 1 ≤ q + 1 by omega)
        omega
      · intro hq
        have := upTo_mono n (show q + 1 ≤ e.val by omega)
        exact ⟨by omega, by omega⟩
    rw [this, Finset.card_range]
  have hpos : 0 < n e.val := by
    rw [upTo_succ] at h2
    unfold tiles at h2
    by_contra h
    have : n e.val = 0 := by omega
    rw [this] at h2
    omega
  have hle : e ≤ L := by
    have := ho e
    unfold offer at this
    rw [hk, show (0#32 : BitVec 32) = BitVec.ofNat 32 0 from rfl, slt_ofNat32 (by decide) (by have := hn e.val; omega), if_pos (by simpa using hpos)] at this
    exact this
  rw [hc, min_eq_left (show e.val ≤ L.val from hle)]

end Cert.Kernel2Ideal.Ffn
end
-- ==== Proof.XFrame.lean ====
module

public import proofs.«01_k».proof.Proof.XBody
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.XLook
public import Idealize.ShloMosaic.Lib.StableHlo.Predicate

@[expose] public section

set_option maxRecDepth 65536

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables a call may be given -/

theorem inside_in : ∀ (e : ℕ) (k : ℕ), e < 8 → k < 2 → ∃ h : (∀ a, ((![e, 0, k] : Fin 3 → ℕ) a + 1) * S1x1024x1792.size a ≤ S8x1024x3584.size a), EltTy.bits .bf16 = 32 ∨ (Rect.block (s := S8x1024x3584) S1x1024x1792.size ![e, 0, k] h).WholeWords (EltTy.packing .bf16) := by
  intro e k he hk
  rcases (show e = 0 ∨ e = 1 ∨ e = 2 ∨ e = 3 ∨ e = 4 ∨ e = 5 ∨ e = 6 ∨ e = 7 by omega) with rfl | rfl | rfl | rfl | rfl | rfl | rfl | rfl <;>
    rcases (show k = 0 ∨ k = 1 by omega) with rfl | rfl <;> exact ⟨by decide, by decide⟩

theorem inside_out : ∀ (e : ℕ) (k : ℕ), e < 8 → k < 2 → ∃ h : (∀ a, ((![e, k, 0] : Fin 3 → ℕ) a + 1) * S1x1792x1024.size a ≤ S8x3584x1024.size a), EltTy.bits .bf16 = 32 ∨ (Rect.block (s := S8x3584x1024) S1x1792x1024.size ![e, k, 0] h).WholeWords (EltTy.packing .bf16) := by
  intro e k he hk
  rcases (show e = 0 ∨ e = 1 ∨ e = 2 ∨ e = 3 ∨ e = 4 ∨ e = 5 ∨ e = 6 ∨ e = 7 by omega) with rfl | rfl | rfl | rfl | rfl | rfl | rfl | rfl <;>
    rcases (show k = 0 ∨ k = 1 by omega) with rfl | rfl <;> exact ⟨by decide, by decide⟩

/-- The half of the hidden layer a point takes is 0 or 1. -/
theorem half_lt (b : BitVec 1) (i : grid0.Coords) : (Scalar.select b (BitVec.ofNat 32 (i 1).val) 1#32 : BitVec 32).toNat < 2 := by
  rcases half_cases i with h | h <;> rw [h] <;> rcases BitVec.eq_zero_or_eq_one b with e | e <;> rw [e] <;> decide

/-- Every tile names one of the eight experts: the blocks the call moves lie in their arrays. -/
theorem ok_of_named (pf : pre0.Contents (Elt F)) (h : ∀ e : S136.Idx, (show BitVec 32 from pf 0 e).toNat < 8) : (pcfg0 (F := F)).ok pf :=
  ⟨fun i => inside_in _ _ (h _) (half_lt _ i), fun i => inside_in _ _ (h _) (half_lt _ i), fun i => inside_out _ _ (h _) (half_lt _ i)⟩

variable (m : (ℓ : Loc nD τ sig) → Buf (Elt F) ℓ) (ρ : Dev nD → PrngReg)

/-- The tables as the call finds them. -/
def tabsOf : pre0.Contents (Elt F) := fun k => V m 0 (pre0.ref k)

/-- Every tile names one of the eight experts. -/
structure Named : Prop where
  small : ∀ (c : Dev nD) (e : S136.Idx), (show BitVec 32 from V m c main_v30 e).toNat < 8

/-- It does so whatever the counts. -/
theorem named : Named m := ⟨fun c e => by
  rw [V_expert m c]
  exact table_small _ e⟩

def adOf (hn : Named m) : (pcfg0 (F := F)).Adm := ⟨tabsOf m, ok_of_named (tabsOf m) fun e => hn.small 0 e⟩

theorem tabs_found (hn : Named m) (c : Dev nD) (k : Fin 2) : V m c (pre0.ref k) = (adOf m hn).1 k := by
  obtain rfl : c = 0 := Subsingleton.elim _ _
  rfl

/-- The arguments end unchanged and no counter is left raised. -/
theorem framed : θ_run defs (onTc (τ := τ) (main (F := F))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hq => ⟨fun c => ⟨((hq.1 c).1 0).trans (((dats m (adOf m (named m)) 0 c).arrAt_in 0 rfl _).trans ((A_eq m (adOf m (named m)) c 0).trans (V_main_arg0 m c))),
      ((hq.1 c).2 main_arg1 (Pipeline.mem_restRefs_of main_arg1 (by decide) (by exact (by decide : ∀ w : Fin 5, (spec0 w).arr.view.ref ≠ main_arg1)))).trans (V_main_arg1 m c),
      ((hq.1 c).2 main_arg2 (Pipeline.mem_restRefs_of main_arg2 (by decide) (by exact (by decide : ∀ w : Fin 5, (spec0 w).arr.view.ref ≠ main_arg2)))).trans (V_main_arg2 m c),
      ((hq.1 c).2 main_arg3 (Pipeline.mem_restRefs_of main_arg3 (by decide) (by exact (by decide : ∀ w : Fin 5, (spec0 w).arr.view.ref ≠ main_arg3)))).trans (V_main_arg3 m c),
      ((hq.1 c).2 main_arg4 (Pipeline.mem_restRefs_of main_arg4 (by decide) (by exact (by decide : ∀ w : Fin 5, (spec0 w).arr.view.ref ≠ main_arg4)))).trans (V_main_arg4 m c)⟩, hq.2⟩)
    (run_quiescent m ρ (adOf m (named m)) (tabs_found m (named m)))

end Cert.Kernel2Ideal.Ffn
end
-- ==== Proof.XKer.lean ====
/- The experts' run over the extended reals: its array ends at the plain formulas of its arguments. -/
module

public import proofs.«01_k».proof.Proof.XVal
public import proofs.«01_k».proof.Proof.XFrame
public import Idealize.ShloMosaic.Lib.StableHlo.RunRead

@[expose] public section

set_option maxRecDepth 65536

noncomputable section

namespace Cert.Kernel2Ideal.Ffn

open Idealize.ShloMosaic Idealize.ShloMosaic.TcCoe
open Idealize.SL.Sem
open Cert.Kernel2Ideal Cert.Kernel2Ideal.Gen
open Idealize.ShloMosaic.Pipeline (Dat Cfg Window)

variable (m : (ℓ : Loc nD τ sig) → Buf (Elt Ideal) ℓ) (ρ : Dev nD → PrngReg) (c : Dev nD)

abbrev aX : S557056x128.Idx → EReal := m ((c : Thread nD τ).loc main_arg0)
/-- Each tile's expert, as the host looks it up. -/
@[irreducible] def aT : S136.Idx → BitVec 32 := expertW (counted (F := Ideal) (m ((c : Thread nD τ).loc main_arg1)))
/-- How many tiles hold rows, as the host looks it up. -/
@[irreducible] def aN : S1.Idx → BitVec 32 := usedW (counted (F := Ideal) (m ((c : Thread nD τ).loc main_arg1)))
theorem aT_eq : aT m c = expertW (counted (F := Ideal) (m ((c : Thread nD τ).loc main_arg1))) := by unfold aT; rfl
theorem aN_eq : aN m c = usedW (counted (F := Ideal) (m ((c : Thread nD τ).loc main_arg1))) := by unfold aN; rfl
theorem aT_small (e : S136.Idx) : (aT m c e).toNat < 8 := by rw [aT_eq]; exact table_small _ e
abbrev aW1 : S8x1024x3584.Idx → EReal := m ((c : Thread nD τ).loc main_arg2)
abbrev aW3 : S8x1024x3584.Idx → EReal := m ((c : Thread nD τ).loc main_arg3)
abbrev aW2 : S8x3584x1024.Idx → EReal := m ((c : Thread nD τ).loc main_arg4)

theorem V_w1 : V m c main_v31 = (truncf .bf16 (m ((c : Thread nD τ).loc main_arg2) : FVec Ideal S8x1024x3584 .f32) bitsLt_bf16_f32 : FVec Ideal S8x1024x3584 .bf16) := by
  simp only [V, host, List.flatten_cons, List.flatten_nil, List.cons_append, List.nil_append, List.append_nil]
  after_reads_simp
theorem V_w3 : V m c main_v32 = (truncf .bf16 (m ((c : Thread nD τ).loc main_arg3) : FVec Ideal S8x1024x3584 .f32) bitsLt_bf16_f32 : FVec Ideal S8x1024x3584 .bf16) := by
  simp only [V, host, List.flatten_cons, List.flatten_nil, List.cons_append, List.nil_append, List.append_nil]
  after_reads_simp
theorem V_w2 : V m c main_v33 = (truncf .bf16 (m ((c : Thread nD τ).loc main_arg4) : FVec Ideal S8x3584x1024 .f32) bitsLt_bf16_f32 : FVec Ideal S8x3584x1024 .bf16) := by
  simp only [V, host, List.flatten_cons, List.flatten_nil, List.cons_append, List.nil_append, List.append_nil]
  after_reads_simp

/-! ## The tables -/

/-- A pipeline's tables are the ones the host looks up. -/
def Tabs (ad : (pcfg0 (F := Ideal)).Adm) : Prop :=
  (∀ (c : Dev nD) (e : S136.Idx), (show BitVec 32 from ad.1 0 e) = aT m c e) ∧ ∀ (c : Dev nD) (e : S1.Idx), (show BitVec 32 from ad.1 1 e) = aN m c e

theorem experts_eq (e : S136.Idx) : (show BitVec 32 from tabsOf m 0 e) = aT m 0 e := by
  have h : V m 0 main_v30 e = aT m 0 e := (congrFun (V_expert m 0) e).trans (congrFun (aT_eq m 0).symm e)
  unfold tabsOf
  exact h
theorem counts_eq (e : S1.Idx) : (show BitVec 32 from tabsOf m 1 e) = aN m 0 e := by
  have h : V m 0 main_v14 e = aN m 0 e := (congrFun (V_used m 0) e).trans (congrFun (aN_eq m 0).symm e)
  unfold tabsOf
  exact h
theorem adOf_val : (adOf m (named m)).1 = tabsOf m := rfl
theorem tabs_of : Tabs m (adOf m (named m)) := by
  unfold Tabs
  rw [adOf_val m]
  generalize hT : tabsOf m = T
  refine ⟨fun c e => ?_, fun c e => ?_⟩
  · obtain rfl : c = 0 := Subsingleton.elim _ _
    exact hT ▸ experts_eq m e
  · obtain rfl : c = 0 := Subsingleton.elim _ _
    exact hT ▸ counts_eq m e

variable {ad : (pcfg0 (F := Ideal)).Adm} (hn : Tabs m ad)

include hn

theorem tab_expert (t : Fin grid0.N) (h : t.val / 2 < 136) (a b) : ad.1.at 0 (Rect.unit (s := S136) (k0_off1 (grid0.coords t)) S1.size a) b = aT m c (ix1 ⟨t.val / 2, h⟩) := by
  refine (hn.1 c _).trans (congrArg (aT m c) ?_)
  funext k
  apply Fin.ext
  match k with
  | ⟨0, _⟩ =>
    show (BitVec.ofNat 32 (grid0.coords t 0).val).toNat + 1 * 0 = t.val / 2
    rw [coord_tile, BitVec.toNat_ofNat]
    omega
theorem tab_count (a b) : ad.1.at 1 (Rect.unit (s := S1) ![0] S1.size a) b = aN m c (ix1 0) := by
  refine (hn.2 c _).trans (congrArg (aN m c) ?_)
  funext k
  apply Fin.ext
  match k with
  | ⟨0, _⟩ => rfl
theorem cnt_eq : cnt ad = aN m c (ix1 0) := by
  refine (hn.2 c _).trans (congrArg (aN m c) ?_)
  funext k
  apply Fin.ext
  match k with
  | ⟨0, _⟩ => rfl

/-- A point's tile. -/
def tile (t : Fin grid0.N) : Fin 136 := ⟨t.val / 2, by have : t.val < 272 := t.isLt; omega⟩

theorem used_iff (t : Fin grid0.N) : usedAt (grid0.coords t) (cnt ad) ↔ Experts.inUse (aN m c (ix1 0)) (tile t) := by
  rw [cnt_eq m c hn]
  unfold usedAt Experts.inUse
  rw [coord_tile]
  show BitVec.ofBool ((BitVec.ofNat 32 (t.val / 2)).slt (aN m c (ix1 0))) = 1#1 ↔ (BitVec.ofNat 32 (t.val / 2)).slt (aN m c (ix1 0)) = true
  generalize (BitVec.ofNat 32 (t.val / 2)).slt (aN m c (ix1 0)) = b
  cases b <;> decide

theorem index_x (t : Fin grid0.N) : ((cfg0 ad).win 0).index t (0 : Fin 2) = t.val / 2 ∧ ((cfg0 ad).win 0).index t (1 : Fin 2) = 0 := by
  refine ⟨?_, rfl⟩
  show (BitVec.ofNat 32 (grid0.coords t 0).val).toNat = t.val / 2
  have : t.val < 272 := t.isLt
  rw [coord_tile, BitVec.toNat_ofNat]
  omega
theorem index_out (t : Fin grid0.N) : ((cfg0 ad).win 4).index t (0 : Fin 2) = t.val / 2 ∧ ((cfg0 ad).win 4).index t (1 : Fin 2) = 0 := by
  refine ⟨?_, rfl⟩
  show (BitVec.ofNat 32 (grid0.coords t 0).val).toNat = t.val / 2
  have : t.val < 272 := t.isLt
  rw [coord_tile, BitVec.toNat_ofNat]
  omega

theorem half_word (t : Fin grid0.N) (a b) (hu : usedAt (grid0.coords t) (cnt ad)) :
    (Scalar.select (Scalar.cmpi .slt (BitVec.ofNat 32 (grid0.coords t 0).val) (ad.1.at 1 (Rect.unit (s := S1) ![0] S1.size a) b)) (BitVec.ofNat 32 (grid0.coords t 1).val) 1#32 : BitVec 32).toNat = t.val % 2 := by
  rw [tab_count m 0 hn, ← cnt_eq m 0 hn, show Scalar.cmpi .slt (BitVec.ofNat 32 (grid0.coords t 0).val) (cnt ad) = 1#1 from hu]
  show (BitVec.ofNat 32 (grid0.coords t 1).val).toNat = t.val % 2
  rw [coord_half, BitVec.toNat_ofNat]
  omega
theorem expert_word (t : Fin grid0.N) (a b) : (ad.1.at 0 (Rect.unit (s := S136) (k0_off1 (grid0.coords t)) S1.size a) b : BitVec 32).toNat = (Experts.expert (aT m c) (tile t)).val := by
  rw [tab_expert m c hn t (tile t).isLt]
  show _ = (aT m c (ix1 (tile t))).toNat % 8
  rw [Nat.mod_eq_of_lt (aT_small m c _)]
  rfl

theorem gate_map (t : Fin grid0.N) (hu : usedAt (grid0.coords t) (cnt ad)) (a b d) : cc0_transform_1 a b d ad.1 (grid0.coords t) = ![(Experts.expert (aT m c) (tile t)).val, 0, t.val % 2] := by
  unfold cc0_transform_1
  dsimp only
  funext k
  match k with
  | ⟨0, _⟩ => exact expert_word m c hn t _ _
  | ⟨1, _⟩ => rfl
  | ⟨2, _⟩ => exact half_word m hn t _ _ hu
theorem up_map (t : Fin grid0.N) (hu : usedAt (grid0.coords t) (cnt ad)) (a b d) : cc0_transform_2 a b d ad.1 (grid0.coords t) = ![(Experts.expert (aT m c) (tile t)).val, 0, t.val % 2] := by
  unfold cc0_transform_2
  dsimp only
  funext k
  match k with
  | ⟨0, _⟩ => exact expert_word m c hn t _ _
  | ⟨1, _⟩ => rfl
  | ⟨2, _⟩ => exact half_word m hn t _ _ hu
theorem down_map (t : Fin grid0.N) (hu : usedAt (grid0.coords t) (cnt ad)) (a b d) : cc0_transform_3 a b d ad.1 (grid0.coords t) = ![(Experts.expert (aT m c) (tile t)).val, t.val % 2, 0] := by
  unfold cc0_transform_3
  dsimp only
  funext k
  match k with
  | ⟨0, _⟩ => exact expert_word m c hn t _ _
  | ⟨1, _⟩ => exact half_word m hn t _ _ hu
  | ⟨2, _⟩ => rfl

/-! ## The blocks a point reads -/

theorem b4_apply (t : Fin grid0.N) (i : Fin 4096) (l : Fin 128) : b4 m ad c t (ix2 i l) = aX m c (ix2 ⟨4096 * (tile t).val + i.val, by omega⟩ l) := by
  obtain ⟨e0, e1⟩ := index_x m hn t
  show V m c main_arg0 ((((cfg0 ad).win 0).blk t).view.emb (ix2 i l)) = _
  rw [V_main_arg0]
  congr 1
  funext a; apply Fin.ext
  match a with
  | ⟨0, _⟩ => show ((cfg0 ad).win 0).index t (0 : Fin 2) * 4096 + 1 * i.val = 4096 * (t.val / 2) + i.val; omega
  | ⟨1, _⟩ => show ((cfg0 ad).win 0).index t (1 : Fin 2) * 128 + 1 * l.val = l.val; omega
section Blocks
omit hn in
theorem b5_at (t : Fin grid0.N) (e j : ℕ) (he : e < 8) (hj : j < 2) (h : cc0_transform_1 k0_off1_inb numel1_S1 inb_S1_S1_0 ad.1 (grid0.coords t) = ![e, 0, j]) (k : Fin 1024) (f : Fin 1792) :
    b5 m ad c t (ix3 0 k f) = aW1 m c (ix3 ⟨e, he⟩ k ⟨1792 * j + f.val, by omega⟩) := by
  have h0 : cc0_transform_1 k0_off1_inb numel1_S1 inb_S1_S1_0 ad.1 (grid0.coords t) (0 : Fin 3) = e := congrFun h 0
  have h1 : cc0_transform_1 k0_off1_inb numel1_S1 inb_S1_S1_0 ad.1 (grid0.coords t) (1 : Fin 3) = 0 := congrFun h 1
  have h2 : cc0_transform_1 k0_off1_inb numel1_S1 inb_S1_S1_0 ad.1 (grid0.coords t) (2 : Fin 3) = j := congrFun h 2
  show V m c main_v31 ((((cfg0 ad).win 1).blk t).view.emb (ix3 0 k f)) = _
  rw [V_w1]
  show aW1 m c ((((cfg0 ad).win 1).blk t).view.emb (ix3 0 k f)) = _
  congr 1
  funext a; apply Fin.ext
  match a with
  | ⟨0, _⟩ => show cc0_transform_1 k0_off1_inb numel1_S1 inb_S1_S1_0 ad.1 (grid0.coords t) (0 : Fin 3) * 1 + 1 * 0 = e; rw [h0]; omega
  | ⟨1, _⟩ => show cc0_transform_1 k0_off1_inb numel1_S1 inb_S1_S1_0 ad.1 (grid0.coords t) (1 : Fin 3) * 1024 + 1 * k.val = k.val; rw [h1]; omega
  | ⟨2, _⟩ => show cc0_transform_1 k0_off1_inb numel1_S1 inb_S1_S1_0 ad.1 (grid0.coords t) (2 : Fin 3) * 1792 + 1 * f.val = 1792 * j + f.val; rw [h2]; omega
omit hn in
theorem b6_at (t : Fin grid0.N) (e j : ℕ) (he : e < 8) (hj : j < 2) (h : cc0_transform_2 k0_off1_inb numel1_S1 inb_S1_S1_0 ad.1 (grid0.coords t) = ![e, 0, j]) (k : Fin 1024) (f : Fin 1792) :
    b6 m ad c t (ix3 0 k f) = aW3 m c (ix3 ⟨e, he⟩ k ⟨1792 * j + f.val, by omega⟩) := by
  have h0 : cc0_transform_2 k0_off1_inb numel1_S1 inb_S1_S1_0 ad.1 (grid0.coords t) (0 : Fin 3) = e := congrFun h 0
  have h1 : cc0_transform_2 k0_off1_inb numel1_S1 inb_S1_S1_0 ad.1 (grid0.coords t) (1 : Fin 3) = 0 := congrFun h 1
  have h2 : cc0_transform_2 k0_off1_inb numel1_S1 inb_S1_S1_0 ad.1 (grid0.coords t) (2 : Fin 3) = j := congrFun h 2
  show V m c main_v32 ((((cfg0 ad).win 2).blk t).view.emb (ix3 0 k f)) = _
  rw [V_w3]
  show aW3 m c ((((cfg0 ad).win 2).blk t).view.emb (ix3 0 k f)) = _
  congr 1
  funext a; apply Fin.ext
  match a with
  | ⟨0, _⟩ => show cc0_transform_2 k0_off1_inb numel1_S1 inb_S1_S1_0 ad.1 (grid0.coords t) (0 : Fin 3) * 1 + 1 * 0 = e; rw [h0]; omega
  | ⟨1, _⟩ => show cc0_transform_2 k0_off1_inb numel1_S1 inb_S1_S1_0 ad.1 (grid0.coords t) (1 : Fin 3) * 1024 + 1 * k.val = k.val; rw [h1]; omega
  | ⟨2, _⟩ => show cc0_transform_2 k0_off1_inb numel1_S1 inb_S1_S1_0 ad.1 (grid0.coords t) (2 : Fin 3) * 1792 + 1 * f.val = 1792 * j + f.val; rw [h2]; omega
omit hn in
theorem b7_at (t : Fin grid0.N) (e j : ℕ) (he : e < 8) (hj : j < 2) (h : cc0_transform_3 k0_off1_inb numel1_S1 inb_S1_S1_0 ad.1 (grid0.coords t) = ![e, j, 0]) (f : Fin 1792) (d : Fin 1024) :
    b7 m ad c t (ix3 0 f d) = aW2 m c (ix3 ⟨e, he⟩ ⟨1792 * j + f.val, by omega⟩ d) := by
  have h0 : cc0_transform_3 k0_off1_inb numel1_S1 inb_S1_S1_0 ad.1 (grid0.coords t) (0 : Fin 3) = e := congrFun h 0
  have h1 : cc0_transform_3 k0_off1_inb numel1_S1 inb_S1_S1_0 ad.1 (grid0.coords t) (1 : Fin 3) = j := congrFun h 1
  have h2 : cc0_transform_3 k0_off1_inb numel1_S1 inb_S1_S1_0 ad.1 (grid0.coords t) (2 : Fin 3) = 0 := congrFun h 2
  show V m c main_v33 ((((cfg0 ad).win 3).blk t).view.emb (ix3 0 f d)) = _
  rw [V_w2]
  show aW2 m c ((((cfg0 ad).win 3).blk t).view.emb (ix3 0 f d)) = _
  congr 1
  funext a; apply Fin.ext
  match a with
  | ⟨0, _⟩ => show cc0_transform_3 k0_off1_inb numel1_S1 inb_S1_S1_0 ad.1 (grid0.coords t) (0 : Fin 3) * 1 + 1 * 0 = e; rw [h0]; omega
  | ⟨1, _⟩ => show cc0_transform_3 k0_off1_inb numel1_S1 inb_S1_S1_0 ad.1 (grid0.coords t) (1 : Fin 3) * 1792 + 1 * f.val = 1792 * j + f.val; rw [h1]; omega
  | ⟨2, _⟩ => show cc0_transform_3 k0_off1_inb numel1_S1 inb_S1_S1_0 ad.1 (grid0.coords t) (2 : Fin 3) * 1024 + 1 * d.val = d.val; rw [h2]; omega
end Blocks

theorem b5_apply (t : Fin grid0.N) (hu : usedAt (grid0.coords t) (cnt ad)) (k : Fin 1024) (f : Fin 1792) :
    b5 m ad c t (ix3 0 k f) = aW1 m c (ix3 (Experts.expert (aT m c) (tile t)) k ⟨1792 * (t.val % 2) + f.val, by omega⟩) :=
  b5_at m c t _ (t.val % 2) (Experts.expert (aT m c) (tile t)).isLt (by omega) (gate_map m c hn t hu _ _ _) k f
theorem b6_apply (t : Fin grid0.N) (hu : usedAt (grid0.coords t) (cnt ad)) (k : Fin 1024) (f : Fin 1792) :
    b6 m ad c t (ix3 0 k f) = aW3 m c (ix3 (Experts.expert (aT m c) (tile t)) k ⟨1792 * (t.val % 2) + f.val, by omega⟩) :=
  b6_at m c t _ (t.val % 2) (Experts.expert (aT m c) (tile t)).isLt (by omega) (up_map m c hn t hu _ _ _) k f
theorem b7_apply (t : Fin grid0.N) (hu : usedAt (grid0.coords t) (cnt ad)) (f : Fin 1792) (d : Fin 1024) :
    b7 m ad c t (ix3 0 f d) = aW2 m c (ix3 (Experts.expert (aT m c) (tile t)) ⟨1792 * (t.val % 2) + f.val, by omega⟩ d) :=
  b7_at m c t _ (t.val % 2) (Experts.expert (aT m c) (tile t)).isLt (by omega) (down_map m c hn t hu _ _ _) f d

/-! ## The array -/

/-- The result as an array. -/
def res : Buf (Elt Ideal) ((c : Thread nD τ).loc main_v34) := Experts.flat (aX m c) (aT m c) (aW1 m c) (aW3 m c) (aW2 m c) (aN m c (ix1 0))

omit hn in
theorem spread_apply (v : FVec Ideal S512x1024 .f32) (i : Fin 4096) (l : Fin 128) : spread v (ix2 i l) = v (ix2 ⟨i.val / 8, by omega⟩ ⟨128 * (i.val % 8) + l.val, by omega⟩) := by
  unfold spread
  refine congrArg v ?_
  funext a
  match a with
  | ⟨0, _⟩ => rfl
  | ⟨1, _⟩ => rfl

/-- A tile's second point leaves the layer's rows of that tile. -/
theorem out_plain (t : Fin grid0.N) (h : t.val % 2 = 1) (i : Fin 4096) (l : Fin 128) :
    outAt m ad c t (ix2 i l) = Experts.out (aX m c) (aT m c) (aW1 m c) (aW3 m c) (aW2 m c) (aN m c (ix1 0)) (tile t) ⟨i.val / 8, by omega⟩ ⟨128 * (i.val % 8) + l.val, by omega⟩ := by
  have ht : tile (prev t) = tile t := Fin.ext (by show (t.val - 1) / 2 = t.val / 2; omega)
  have hp : (prev t).val % 2 = 0 := by show (t.val - 1) % 2 = 0; omega
  unfold outAt Experts.out
  by_cases hu : usedAt (grid0.coords t) (cnt ad)
  · have hi := (used_iff m c hn t).mp hu
    have hv : usedAt (grid0.coords (prev t)) (cnt ad) := (used_iff m c hn (prev t)).mpr (ht ▸ hi)
    rw [if_pos hu, if_pos hi]
    rw [spread_apply]
    exact both_apply (b4 m ad c (prev t)) (b5 m ad c (prev t)) (b6 m ad c (prev t)) (b5 m ad c t) (b6 m ad c t) (b7 m ad c (prev t)) (b7 m ad c t)
      (aX m c) (aW1 m c) (aW3 m c) (aW2 m c) (Experts.expert (aT m c) (tile t)) (tile t)
      (fun i l => by rw [b4_apply m c hn (prev t) i l]; congr 2; exact Fin.ext (by show 4096 * (tile (prev t)).val + i.val = _; rw [ht]))
      (fun k f => by rw [b5_apply m c hn (prev t) hv k f, ht]; congr 2; apply Fin.ext; show 1792 * ((prev t).val % 2) + f.val = f.val; omega)
      (fun k f => by rw [b6_apply m c hn (prev t) hv k f, ht]; congr 2; apply Fin.ext; show 1792 * ((prev t).val % 2) + f.val = f.val; omega)
      (fun f d => by rw [b7_apply m c hn (prev t) hv f d, ht]; congr 2; apply Fin.ext; show 1792 * ((prev t).val % 2) + f.val = f.val; omega)
      (fun k f => by rw [b5_apply m c hn t hu k f]; congr 2; apply Fin.ext; show 1792 * (t.val % 2) + f.val = 1792 + f.val; omega)
      (fun k f => by rw [b6_apply m c hn t hu k f]; congr 2; apply Fin.ext; show 1792 * (t.val % 2) + f.val = 1792 + f.val; omega)
      (fun f d => by rw [b7_apply m c hn t hu f d]; congr 2; apply Fin.ext; show 1792 * (t.val % 2) + f.val = 1792 + f.val; omega)
      ⟨i.val / 8, by omega⟩ ⟨128 * (i.val % 8) + l.val, by omega⟩
  · rw [if_neg hu, if_neg (fun e => hu ((used_iff m c hn t).mpr e))]
    rw [spread_apply]
    exact pay4_apply ⟨i.val / 8, by omega⟩ ⟨128 * (i.val % 8) + l.val, by omega⟩

omit hn in
/-- At a tile's second half the result's block is written back. -/
theorem next_block : ∀ t : Fin grid0.N, t.val % 2 = 1 → (t.val + 1 = grid0.N) ∨ ∃ h : t.val + 1 < grid0.N, cc0_transform_4 (grid0.coords ⟨t.val + 1, h⟩) ≠ cc0_transform_4 (grid0.coords t) := by
  decide +kernel
theorem flush_second (t : Fin grid0.N) (h : t.val % 2 = 1) : ((cfg0 ad).win 4).flush t = true := by
  show (true && (decide (t.val + 1 = grid0.N) || decide (∃ h : t.val + 1 < grid0.N, cc0_transform_4 (grid0.coords ⟨t.val + 1, h⟩) ≠ cc0_transform_4 (grid0.coords t)))) = true
  rcases next_block t h with e | e
  · rw [decide_eq_true e]; rfl
  · rw [decide_eq_true e, Bool.or_true]; rfl

omit hn in
theorem idx2_eq {a b : ℕ} (y : (⟨2, ![a, b]⟩ : Shape).Idx) : y = ix2 (y 0) (y 1) := by
  funext k
  match k with
  | ⟨0, _⟩ => rfl
  | ⟨1, _⟩ => rfl

theorem flushed_eq (t : Fin grid0.N) (hf : ((cfg0 ad).win 4).flush t = true) :
    (dats m ad 0 c).flushed 4 t = (((cfg0 ad).win 4).blk t).view.read (Elt Ideal) (res m c) := by
  have h : t.val % 2 = 1 := by
    by_contra h0
    rw [flush_first ad t (by omega)] at hf
    exact absurd hf (by decide)
  show ((cfg0 ad).win 4).cut (grid0.coords t) ((dats m ad 0 c).after 4 t) = _
  rw [after_8]
  obtain ⟨e0, e1⟩ := index_out m hn t
  have ht : t.val < 272 := t.isLt
  funext (y : S4096x128.Idx)
  have h0 : (y 0).val < 4096 := (y 0).isLt
  have h1 : (y 1).val < 128 := (y 1).isLt
  show outAt m ad c t y = res m c ((((cfg0 ad).win 4).blk t).view.emb y)
  have hb : (((cfg0 ad).win 4).blk t).view.emb y = (ix2 ⟨4096 * (t.val / 2) + (y 0).val, by omega⟩ (y 1) : S557056x128.Idx) := by
    funext a; apply Fin.ext
    match a with
    | ⟨0, _⟩ => show ((cfg0 ad).win 4).index t (0 : Fin 2) * 4096 + 1 * (y 0).val = 4096 * (t.val / 2) + (y 0).val; omega
    | ⟨1, _⟩ => show ((cfg0 ad).win 4).index t (1 : Fin 2) * 128 + 1 * (y 1).val = (y 1).val; omega
  rw [hb]
  refine (congrArg (outAt m ad c t) (idx2_eq y)).trans ((out_plain m c hn t h (y 0) (y 1)).trans ?_)
  unfold res Experts.flat
  have g0 : tile t = ⟨(4096 * (t.val / 2) + (y 0).val) / 4096, by omega⟩ := Fin.ext (by show t.val / 2 = (4096 * (t.val / 2) + (y 0).val) / 4096; omega)
  have g1 : (⟨(y 0).val / 8, by omega⟩ : Fin 512) = ⟨(4096 * (t.val / 2) + (y 0).val) % 4096 / 8, by omega⟩ := Fin.ext (by show (y 0).val / 8 = (4096 * (t.val / 2) + (y 0).val) % 4096 / 8; omega)
  have g2 : (⟨128 * ((y 0).val % 8) + (y 1).val, by omega⟩ : Fin 1024) = ⟨128 * ((4096 * (t.val / 2) + (y 0).val) % 8) + (y 1).val, by omega⟩ :=
    Fin.ext (by show 128 * ((y 0).val % 8) + (y 1).val = 128 * ((4096 * (t.val / 2) + (y 0).val) % 8) + (y 1).val; omega)
  rw [g0, g1, g2]
  rfl

/-- The point that writes a row. -/
abbrev ptOf (i0 : Fin 557056) : Fin grid0.N := ⟨2 * (i0.val / 4096) + 1, by show _ < 272; omega⟩

/-- Where the result's block lies. -/
abbrev at4 (t : Fin grid0.N) : Fin 2 → ℕ := cc0_transform_4 (grid0.coords t)
omit hn in
theorem at4_eq (t : Fin grid0.N) : at4 t (0 : Fin 2) = t.val / 2 ∧ at4 t (1 : Fin 2) = 0 := by
  refine ⟨?_, rfl⟩
  show (BitVec.ofNat 32 (grid0.coords t 0).val).toNat = t.val / 2
  have : t.val < 272 := t.isLt
  rw [coord_tile, BitVec.toNat_ofNat]
  omega

theorem covered (i : S557056x128.Idx) : ∃ t : Fin grid0.N, ((cfg0 ad).win 4).flush t = true ∧ i ∈ (((cfg0 ad).win 4).blk t).view.set := by
  obtain ⟨a0, a1, rfl⟩ : ∃ (a0 : Fin 557056) (a1 : Fin 128), i = ix2 a0 a1 := ⟨_, _, idx2_eq i⟩
  have d0 : (ptOf a0).val = 2 * (a0.val / 4096) + 1 := rfl
  obtain ⟨e0, e1⟩ := at4_eq (ptOf a0)
  have inb : ∀ a, at4 (ptOf a0) a * S4096x128.size a + S4096x128.size a ≤ S557056x128.size a := fun a => by
    match a with
    | ⟨0, _⟩ => show at4 (ptOf a0) (0 : Fin 2) * 4096 + 4096 ≤ 557056; omega
    | ⟨1, _⟩ => show at4 (ptOf a0) (1 : Fin 2) * 128 + 128 ≤ 128; omega
  have key : (ix2 a0 a1 : S557056x128.Idx) ∈ ((View.whole main_v34).slice (Rect.unit (s := S557056x128) (fun a => at4 (ptOf a0) a * S4096x128.size a) S4096x128.size inb)).set := by
    rw [View.set_slice_whole, Rect.mem_set_unit]
    intro a
    match a with
    | ⟨0, _⟩ => show at4 (ptOf a0) (0 : Fin 2) * 4096 ≤ a0.val ∧ a0.val < at4 (ptOf a0) (0 : Fin 2) * 4096 + 4096; omega
    | ⟨1, _⟩ => show at4 (ptOf a0) (1 : Fin 2) * 128 ≤ a1.val ∧ a1.val < at4 (ptOf a0) (1 : Fin 2) * 128 + 128; omega
  exact ⟨ptOf a0, flush_second m hn (ptOf a0) (by omega), key⟩

theorem array : (dats m ad 0 c).arrAt 4 (cfg0 ad).N = res m c :=
  (dats m ad 0 c).arrAt_eq_of_cover 4 _ (fun t hf => flushed_eq m c hn t hf) (fun i => covered m hn i)

omit hn in
/-- Every execution ends with the result at the plain formulas of the arguments. -/
theorem run_values : θ_run defs (onTc (τ := τ) (main (F := Ideal))) ⟨m, fun _ => 0, ρ⟩ (fun r => ∀ c : Dev nD,
    r.2.mem ((c : Thread nD τ).loc main_v34) = res m c) :=
  (θ_run defs _ _).mono (fun _ hq c => ((hq.1 c).1 4).trans (array m c (tabs_of m))) (run_quiescent m ρ (adOf m (named m)) (tabs_found m (named m)))

end Cert.Kernel2Ideal.Ffn

end
-- ==== Proof.XRef.lean ====
/- The experts' reference computes the plain formulas. -/
module

public import proofs.«01_k».proof.Proof.Gen.Reference2Ideal.Run
public import proofs.«01_k».proof.Proof.XPlain
public import proofs.«01_k».proof.Proof.XLook
public import Idealize.ShloMosaic.Lib.Pointwise
public import Idealize.ShloMosaic.Lib.Pipeline.ValueKit.Geometry

@[expose] public section

set_option maxRecDepth 65536

noncomputable section

namespace Cert.Reference2Ideal.Experts

open Idealize.ShloMosaic Idealize.ShloMosaic.TcCoe Idealize.ShloMosaic.StableHlo
open Cert.Reference2Ideal Cert.Reference2Ideal.Gen Cert.Reference2Ideal.Value

variable (W : Valuation τ sig (Elt Ideal))

abbrev rX : S557056x128.Idx → EReal := W (Proc.devRef .tc main_arg0)
abbrev rW1 : S8x1024x3584.Idx → EReal := W (Proc.devRef .tc main_arg2)
abbrev rW3 : S8x1024x3584.Idx → EReal := W (Proc.devRef .tc main_arg3)
abbrev rW2 : S8x3584x1024.Idx → EReal := W (Proc.devRef .tc main_arg4)
/-- The eight counts as words. -/
abbrev rK : IVec S8 32 := Cert.Kernel2Ideal.Ffn.counted (F := Ideal) (W (Proc.devRef .tc main_arg1))

theorem feat_eq (t : Fin 136) (r : Fin 512) (d : Fin 1024) : res_main_v0 (F := Ideal) W (ix3 t r d) = Cert.Experts.feat (rX W) t r d := by
  pointwise [res_main_v0, Cert.Experts.feat]
  refine congrArg (fun i => rX W (ix2 i _)) (Fin.ext ?_)
  show t.val * 4096 + r.val * 8 + d.val / 128 = 4096 * t.val + 8 * r.val + d.val / 128
  omega
theorem zero_eq : (id (constant (F := Ideal) S_ FTy.f32 0#32) ix0 : EReal) = 0 := by
  show constant (F := Ideal) S_ FTy.f32 0#32 ix0 = (0 : EReal)
  pointwise []

section Dots
variable (t : Fin 136) (r : Fin 512) (f : Fin 3584)
theorem dot0_eq : res_main_v11 (F := Ideal) W (ix3 t r f) = Cert.Experts.dot (rX W) (rW1 W) 0 t r f := by
  pointwise [res_main_v11]
  simp only [feat_eq]
  rfl
theorem dot1_eq : res_main_v42 (F := Ideal) W (ix3 t r f) = Cert.Experts.dot (rX W) (rW1 W) 1 t r f := by
  pointwise [res_main_v42]
  simp only [feat_eq]
  rfl
theorem dot2_eq : res_main_v73 (F := Ideal) W (ix3 t r f) = Cert.Experts.dot (rX W) (rW1 W) 2 t r f := by
  pointwise [res_main_v73]
  simp only [feat_eq]
  rfl
theorem dot3_eq : res_main_v104 (F := Ideal) W (ix3 t r f) = Cert.Experts.dot (rX W) (rW1 W) 3 t r f := by
  pointwise [res_main_v104]
  simp only [feat_eq]
  rfl
theorem dot4_eq : res_main_v135 (F := Ideal) W (ix3 t r f) = Cert.Experts.dot (rX W) (rW1 W) 4 t r f := by
  pointwise [res_main_v135]
  simp only [feat_eq]
  rfl
theorem dot5_eq : res_main_v166 (F := Ideal) W (ix3 t r f) = Cert.Experts.dot (rX W) (rW1 W) 5 t r f := by
  pointwise [res_main_v166]
  simp only [feat_eq]
  rfl
theorem dot6_eq : res_main_v197 (F := Ideal) W (ix3 t r f) = Cert.Experts.dot (rX W) (rW1 W) 6 t r f := by
  pointwise [res_main_v197]
  simp only [feat_eq]
  rfl
theorem dot7_eq : res_main_v228 (F := Ideal) W (ix3 t r f) = Cert.Experts.dot (rX W) (rW1 W) 7 t r f := by
  pointwise [res_main_v228]
  simp only [feat_eq]
  rfl
end Dots

/-! ## Each expert's tiles -/

open Cert.Kernel2Ideal.Ffn (tiles upTo upTo_succ upTo_mono tiles_le upTo_le expertW usedW owner used_apply)
open Idealize.ShloMosaic.Routing Idealize.ShloMosaic.WordCmp

theorem piece0 (v : IVec S8 32) : (shapeCast S_ (extractStridedSlice S1 ![0] v slices_S8_S1_0) shapeCasts_S1_S_ : IVec S_ 32) ix0 = v (ix1 0) := by
  refine congrArg v ?_
  funext a; obtain rfl : a = 0 := Subsingleton.elim _ _; rfl
theorem piece1 (v : IVec S8 32) : (shapeCast S_ (extractStridedSlice S1 ![1] v slices_S8_S1_1) shapeCasts_S1_S_ : IVec S_ 32) ix0 = v (ix1 1) := by
  refine congrArg v ?_
  funext a; obtain rfl : a = 0 := Subsingleton.elim _ _; rfl
theorem piece2 (v : IVec S8 32) : (shapeCast S_ (extractStridedSlice S1 ![2] v slices_S8_S1_2) shapeCasts_S1_S_ : IVec S_ 32) ix0 = v (ix1 2) := by
  refine congrArg v ?_
  funext a; obtain rfl : a = 0 := Subsingleton.elim _ _; rfl
theorem piece3 (v : IVec S8 32) : (shapeCast S_ (extractStridedSlice S1 ![3] v slices_S8_S1_3) shapeCasts_S1_S_ : IVec S_ 32) ix0 = v (ix1 3) := by
  refine congrArg v ?_
  funext a; obtain rfl : a = 0 := Subsingleton.elim _ _; rfl
theorem piece4 (v : IVec S8 32) : (shapeCast S_ (extractStridedSlice S1 ![4] v slices_S8_S1_4) shapeCasts_S1_S_ : IVec S_ 32) ix0 = v (ix1 4) := by
  refine congrArg v ?_
  funext a; obtain rfl : a = 0 := Subsingleton.elim _ _; rfl
theorem piece5 (v : IVec S8 32) : (shapeCast S_ (extractStridedSlice S1 ![5] v slices_S8_S1_5) shapeCasts_S1_S_ : IVec S_ 32) ix0 = v (ix1 5) := by
  refine congrArg v ?_
  funext a; obtain rfl : a = 0 := Subsingleton.elim _ _; rfl
theorem piece6 (v : IVec S8 32) : (shapeCast S_ (extractStridedSlice S1 ![6] v slices_S8_S1_6) shapeCasts_S1_S_ : IVec S_ 32) ix0 = v (ix1 6) := by
  refine congrArg v ?_
  funext a; obtain rfl : a = 0 := Subsingleton.elim _ _; rfl
theorem piece7 (v : IVec S8 32) : (shapeCast S_ (extractStridedSlice S1 ![7] v slices_S8_S1_7) shapeCasts_S1_S_ : IVec S_ 32) ix0 = v (ix1 7) := by
  refine congrArg v ?_
  funext a; obtain rfl : a = 0 := Subsingleton.elim _ _; rfl

section Tiles
variable (n : ℕ → ℕ) (hk : ∀ e : Fin 8, rK W (ix1 e) = BitVec.ofNat 32 (n e.val)) (hn : ∀ e, n e ≤ 65536)

include hk hn in
theorem tiles_eq (e : Fin 8) : (res_main_v6 (F := Ideal) W : IVec S8 32) (ix1 e) = BitVec.ofNat 32 (tiles n e.val) := by
  have := hn e.val
  refine (pyDiv_ap bcast_S_S8 (res_main_v5 (F := Ideal) W) (constantI S_ 32 512#32) (ix1 e) (a := n e.val + 511) (b := 512) ?_ rfl (by omega) (by decide) (by decide)).trans rfl
  show rK W (ix1 e) + 511#32 = _
  rw [hk, show (511#32 : BitVec 32) = BitVec.ofNat 32 511 from rfl, ← BitVec.ofNat_add]

include hk hn in
theorem add_tiles (a b : IVec S_ 32) (e : Fin 8) (ha : a ix0 = BitVec.ofNat 32 (upTo n e.val)) (hb : b ix0 = (res_main_v6 (F := Ideal) W : IVec S8 32) (ix1 e)) :
    addi a b ix0 = BitVec.ofNat 32 (upTo n (e.val + 1)) := by
  show a ix0 + b ix0 = _
  rw [ha, hb, tiles_eq W n hk hn, upTo_succ, BitVec.ofNat_add]

include hk hn in
theorem first1_eq : (res_main_v33 (F := Ideal) W) ix0 = BitVec.ofNat 32 (upTo n 1) := add_tiles W n hk hn (constantI S_ 32 0#32) _ 0 (rfl) (piece0 _)
include hk hn in
theorem first2_eq : (res_main_v64 (F := Ideal) W) ix0 = BitVec.ofNat 32 (upTo n 2) := add_tiles W n hk hn (res_main_v33 (F := Ideal) W) _ 1 (first1_eq W n hk hn) (piece1 _)
include hk hn in
theorem first3_eq : (res_main_v95 (F := Ideal) W) ix0 = BitVec.ofNat 32 (upTo n 3) := add_tiles W n hk hn (res_main_v64 (F := Ideal) W) _ 2 (first2_eq W n hk hn) (piece2 _)
include hk hn in
theorem first4_eq : (res_main_v126 (F := Ideal) W) ix0 = BitVec.ofNat 32 (upTo n 4) := add_tiles W n hk hn (res_main_v95 (F := Ideal) W) _ 3 (first3_eq W n hk hn) (piece3 _)
include hk hn in
theorem first5_eq : (res_main_v157 (F := Ideal) W) ix0 = BitVec.ofNat 32 (upTo n 5) := add_tiles W n hk hn (res_main_v126 (F := Ideal) W) _ 4 (first4_eq W n hk hn) (piece4 _)
include hk hn in
theorem first6_eq : (res_main_v188 (F := Ideal) W) ix0 = BitVec.ofNat 32 (upTo n 6) := add_tiles W n hk hn (res_main_v157 (F := Ideal) W) _ 5 (first5_eq W n hk hn) (piece5 _)
include hk hn in
theorem first7_eq : (res_main_v219 (F := Ideal) W) ix0 = BitVec.ofNat 32 (upTo n 7) := add_tiles W n hk hn (res_main_v188 (F := Ideal) W) _ 6 (first6_eq W n hk hn) (piece6 _)

/-- The tile after the last expert's. -/
def lastEnd : IVec S_ 32 := addi (res_main_v219 (F := Ideal) W) (shapeCast S_ (extractStridedSlice S1 ![7] (res_main_v6 (F := Ideal) W) slices_S8_S1_7) shapeCasts_S1_S_)
include hk hn in
theorem lastEnd_eq : lastEnd W ix0 = BitVec.ofNat 32 (upTo n 8) := add_tiles W n hk hn (res_main_v219 (F := Ideal) W) _ 7 (first7_eq W n hk hn) (piece7 _)
end Tiles

section Layer
variable (t : Fin 136) (r : Fin 512) (d : Fin 1024)

/-- What the reference adds for one expert, whose tiles are from `a` to before `b`. -/
def pick (a b : BitVec 32) (e : Fin 8) : EReal :=
  Scalar.select (IntOp.andi (IntOp.cmpi CmpIPredicate.sge (BitVec.ofNat 32 t.val) a) (IntOp.cmpi CmpIPredicate.slt (BitVec.ofNat 32 t.val) b))
    (Cert.Experts.ffn (rX W) (rW1 W) (rW3 W) (rW2 W) e t r d) 0

theorem tile_id : (res_main_v7 (F := Ideal) W : IVec S136 32) (ix1 t) = BitVec.ofNat 32 t.val := rfl

theorem low_eq : res_main_v132 (F := Ideal) W (ix3 t r d) = (pick W t r d ((constantI S_ 32 0#32) ix0) ((res_main_v33 (F := Ideal) W) ix0) 0 + pick W t r d ((res_main_v33 (F := Ideal) W) ix0) ((res_main_v64 (F := Ideal) W) ix0) 1 + pick W t r d ((res_main_v64 (F := Ideal) W) ix0) ((res_main_v95 (F := Ideal) W) ix0) 2 + pick W t r d ((res_main_v95 (F := Ideal) W) ix0) ((res_main_v126 (F := Ideal) W) ix0) 3 : EReal) := by
  pointwise [res_main_v132]
  simp only [feat_eq, tile_id, dot0_eq, dot1_eq, dot2_eq, dot3_eq, dot4_eq, dot5_eq, dot6_eq, dot7_eq, zero_eq]
  rfl
theorem all_eq : res_main_v256 (F := Ideal) W (ix3 t r d) = (pick W t r d ((constantI S_ 32 0#32) ix0) ((res_main_v33 (F := Ideal) W) ix0) 0 + pick W t r d ((res_main_v33 (F := Ideal) W) ix0) ((res_main_v64 (F := Ideal) W) ix0) 1 + pick W t r d ((res_main_v64 (F := Ideal) W) ix0) ((res_main_v95 (F := Ideal) W) ix0) 2 + pick W t r d ((res_main_v95 (F := Ideal) W) ix0) ((res_main_v126 (F := Ideal) W) ix0) 3 + pick W t r d ((res_main_v126 (F := Ideal) W) ix0) ((res_main_v157 (F := Ideal) W) ix0) 4 + pick W t r d ((res_main_v157 (F := Ideal) W) ix0) ((res_main_v188 (F := Ideal) W) ix0) 5 + pick W t r d ((res_main_v188 (F := Ideal) W) ix0) ((res_main_v219 (F := Ideal) W) ix0) 6 + pick W t r d ((res_main_v219 (F := Ideal) W) ix0) ((lastEnd W) ix0) 7 : EReal) := by
  pointwise [res_main_v256]
  rw [low_eq]
  simp only [feat_eq, tile_id, dot0_eq, dot1_eq, dot2_eq, dot3_eq, dot4_eq, dot5_eq, dot6_eq, dot7_eq, zero_eq]
  rfl

variable (n : ℕ → ℕ) (hk : ∀ e : Fin 8, rK W (ix1 e) = BitVec.ofNat 32 (n e.val)) (hn : ∀ e, n e ≤ 65536)

/-- Is the tile expert `e`'s? -/
def Mine (t e : ℕ) : Prop := upTo n e ≤ t ∧ t < upTo n (e + 1)
instance (t e : ℕ) : Decidable (Mine n t e) := inferInstanceAs (Decidable (_ ∧ _))

include hn in
theorem pick_eq (a b : BitVec 32) (e : Fin 8) (ha : a = BitVec.ofNat 32 (upTo n e.val)) (hb : b = BitVec.ofNat 32 (upTo n (e.val + 1))) :
    pick W t r d a b e = if Mine n t.val e.val then Cert.Experts.ffn (rX W) (rW1 W) (rW3 W) (rW2 W) e t r d else 0 := by
  have h0 := upTo_le n hn e.val
  have h1 := upTo_le n hn (e.val + 1)
  have h2 := e.isLt
  have h3 := t.isLt
  unfold pick
  rw [ha, hb, cmpi_sge_ofNat (w := 32) (by omega) (by omega), cmpi_slt_ofNat (w := 32) (by omega) (by omega)]
  by_cases hm : Mine n t.val e.val
  · rw [if_pos hm, decide_eq_true hm.1, decide_eq_true hm.2]; rfl
  · rw [if_neg hm]
    by_cases c1 : upTo n e.val ≤ t.val
    · have c2 : ¬t.val < upTo n (e.val + 1) := fun c2 => hm ⟨c1, c2⟩
      rw [decide_eq_true c1, decide_eq_false c2]; rfl
    · rw [decide_eq_false c1]
      have e1 : ∀ x : BitVec 1, IntOp.andi (BitVec.ofBool false) x = 0#1 := fun x => BitVec.zero_and
      rw [e1]; rfl

include hk hn in
theorem sum_eq : res_main_v256 (F := Ideal) W (ix3 t r d) =
    ∑ e : Fin 8, if Mine n t.val e.val then Cert.Experts.ffn (rX W) (rW1 W) (rW3 W) (rW2 W) e t r d else 0 := by
  rw [all_eq, Fin.sum_univ_eight,
    pick_eq W t r d n hn (constantI S_ 32 0#32 ix0) _ 0 rfl (first1_eq W n hk hn), pick_eq W t r d n hn _ _ 1 (first1_eq W n hk hn) (first2_eq W n hk hn),
    pick_eq W t r d n hn _ _ 2 (first2_eq W n hk hn) (first3_eq W n hk hn), pick_eq W t r d n hn _ _ 3 (first3_eq W n hk hn) (first4_eq W n hk hn),
    pick_eq W t r d n hn _ _ 4 (first4_eq W n hk hn) (first5_eq W n hk hn), pick_eq W t r d n hn _ _ 5 (first5_eq W n hk hn) (first6_eq W n hk hn),
    pick_eq W t r d n hn _ _ 6 (first6_eq W n hk hn) (first7_eq W n hk hn), pick_eq W t r d n hn _ _ 7 (first7_eq W n hk hn) (lastEnd_eq W n hk hn)]

/-- A tile before the last expert's end is some expert's. -/
theorem some_mine (t : ℕ) : ∀ E, t < upTo n E → ∃ e, e < E ∧ Mine n t e
  | 0, h => absurd h (Nat.not_lt_zero t)
  | E + 1, h => by
    by_cases c : t < upTo n E
    · obtain ⟨e, he, hm⟩ := some_mine t E c
      exact ⟨e, by omega, hm⟩
    · exact ⟨E, by omega, Nat.le_of_not_lt c, h⟩
/-- A tile is one expert's at most. -/
theorem one_mine {t e e' : ℕ} (h : Mine n t e) (h' : Mine n t e') : e = e' := by
  by_contra hne
  rcases Nat.lt_or_gt_of_ne hne with c | c
  · have := upTo_mono n (show e + 1 ≤ e' by omega); have := h.2; have := h'.1; omega
  · have := upTo_mono n (show e' + 1 ≤ e by omega); have := h'.2; have := h.1; omega

include hk hn in
/-- The expert whose tile it is gives the tile's rows, as the tables name it; past the last expert's tiles there are zeros. -/
theorem layer_eq : res_main_v256 (F := Ideal) W (ix3 t r d) =
    Cert.Experts.out (rX W) (expertW (rK W)) (rW1 W) (rW3 W) (rW2 W) (usedW (rK W) (ix1 0)) t r d := by
  rw [sum_eq W t r d n hk hn]
  have hu : usedW (rK W) (ix1 0) = BitVec.ofNat 32 (upTo n 8) := used_apply (rK W) n hk hn
  have h8 := upTo_le n hn 8
  have ht := t.isLt
  have hin : Cert.Experts.inUse (usedW (rK W) (ix1 0)) t ↔ t.val < upTo n 8 := by
    rw [hu]
    unfold Cert.Experts.inUse
    rw [slt_ofNat32 (by omega) (by omega), decide_eq_true_iff]
  unfold Cert.Experts.out
  by_cases h : t.val < upTo n 8
  · rw [if_pos (hin.mpr h)]
    obtain ⟨e, he, hm⟩ := some_mine n t.val 8 h
    have hw : expertW (rK W) (ix1 t) = BitVec.ofNat 32 e := owner (rK W) n hk hn t ⟨e, he⟩ hm.1 hm.2
    have hx : Cert.Experts.expert (expertW (rK W)) t = ⟨e, he⟩ := by
      apply Fin.ext
      show (expertW (rK W) (ix1 t)).toNat % 8 = e
      rw [hw, BitVec.toNat_ofNat]; omega
    rw [hx, Finset.sum_eq_single (⟨e, he⟩ : Fin 8) (fun e' _ hne => if_neg fun c => hne (Fin.ext (one_mine n c hm))) (fun c => absurd (Finset.mem_univ _) c), if_pos hm]
  · rw [if_neg (fun c => h (hin.mp c))]
    have hz : (∑ e : Fin 8, (if Mine n t.val e.val then Cert.Experts.ffn (rX W) (rW1 W) (rW3 W) (rW2 W) e t r d else 0 : EReal)) = 0 :=
      Finset.sum_eq_zero fun e _ => if_neg fun c => h (lt_of_lt_of_le c.2 (upTo_mono n (show e.val + 1 ≤ 8 by have := e.isLt; omega)))
    exact hz
end Layer

theorem flat_eq (n : ℕ → ℕ) (hk : ∀ e : Fin 8, rK W (ix1 e) = BitVec.ofNat 32 (n e.val)) (hn : ∀ e, n e ≤ 65536) :
    (shapeCast S557056x128 (res_main_v256 (F := Ideal) W) shapeCasts_S136x512x1024_S557056x128 : FVec Ideal S557056x128 .f32) =
      Cert.Experts.flat (rX W) (expertW (rK W)) (rW1 W) (rW3 W) (rW2 W) (usedW (rK W) (ix1 0)) := by
  funext i
  obtain ⟨a, b, rfl⟩ : ∃ (a : Fin 557056) (b : Fin 128), i = ix2 a b := ⟨i 0, i 1, by funext k; match k with | ⟨0, _⟩ => rfl | ⟨1, _⟩ => rfl⟩
  pointwise []
  rw [layer_eq W _ _ _ n hk hn]
  unfold Cert.Experts.flat
  have g1 : (⟨a.val / 8 % 512, by omega⟩ : Fin 512) = ⟨a.val % 4096 / 8, by omega⟩ := Fin.ext (by show a.val / 8 % 512 = a.val % 4096 / 8; omega)
  have g2 : (⟨a.val % 8 * 128 + b.val, by omega⟩ : Fin 1024) = ⟨128 * (a.val % 8) + b.val, by omega⟩ := Fin.ext (by show a.val % 8 * 128 + b.val = 128 * (a.val % 8) + b.val; omega)
  exact congr (congrArg _ g1) g2
end Cert.Reference2Ideal.Experts

end
-- ==== Proof.XPre.lean ====
/- The precondition's reading: the eight counts are words of naturals in range. -/
module

public import proofs.«01_k».proof.Proof.Gen.Pre_rows_counted
public import proofs.«01_k».proof.Proof.XTab
public import Idealize.ShloMosaic.Lib.Pointwise

@[expose] public section

set_option maxRecDepth 65536

noncomputable section

namespace Cert.Kernel2Ideal.Ffn

open Idealize.ShloMosaic Idealize.ShloMosaic.TcCoe
open Cert.Kernel2Ideal Cert.Kernel2Ideal.Gen

/-- A number in range is cut to the word of a natural in range. -/
theorem word_of (y : EReal) (h0 : 0 ≤ y) (h1 : y ≤ ((65536 : ℝ) : EReal)) : ∃ n : ℕ, n ≤ 65536 ∧ Ideal.fptosi 32 y = BitVec.ofNat 32 n := by
  induction y using EReal.rec with
  | bot => exact absurd h0 (by simp)
  | top => exact absurd h1 (by simp)
  | coe r =>
    have r0 : (0 : ℝ) ≤ r := by exact_mod_cast h0
    have r1 : r ≤ 65536 := by exact_mod_cast h1
    have f0 : 0 ≤ ⌊r⌋ := Int.floor_nonneg.mpr r0
    have f1 : ⌊r⌋ ≤ 65536 := by
      have : ⌊r⌋ ≤ ⌊(65536 : ℝ)⌋ := Int.floor_le_floor r1
      simpa using this
    refine ⟨⌊r⌋.toNat, by omega, ?_⟩
    show BitVec.ofInt 32 (max (-(2 ^ (32 - 1) : Nat)) (min ((2 ^ (32 - 1) : Nat) - 1) (if 0 ≤ r then ⌊r⌋ else ⌈r⌉))) = _
    rw [if_pos r0]
    have e : max (-((2 ^ (32 - 1) : Nat) : ℤ)) (min (((2 ^ (32 - 1) : Nat) : ℤ) - 1) ⌊r⌋) = ((⌊r⌋.toNat : ℕ) : ℤ) := by
      norm_num
      omega
    rw [e, BitVec.ofInt_natCast]

theorem count_word (a : EReal) (h : (IntOp.andi (Ideal.cmp .oge a 0) (Ideal.cmp .ole a ((65536 : ℝ) : EReal))) = 1#1) :
    ∃ n : ℕ, n ≤ 65536 ∧ Ideal.fptosi 32 a = BitVec.ofNat 32 n := by
  have h' : BitVec.ofBool (decide ((0 : EReal) ≤ a)) &&& BitVec.ofBool (decide (a ≤ ((65536 : ℝ) : EReal))) = 1#1 := h
  by_cases c0 : (0 : EReal) ≤ a
  · by_cases c1 : a ≤ ((65536 : ℝ) : EReal)
    · exact word_of a c0 c1
    · rw [decide_eq_true c0, decide_eq_false c1] at h'; exact absurd h' (by decide)
  · by_cases c1 : a ≤ ((65536 : ℝ) : EReal)
    · rw [decide_eq_false c0, decide_eq_true c1] at h'; exact absurd h' (by decide)
    · rw [decide_eq_false c0, decide_eq_false c1] at h'; exact absurd h' (by decide)

/-- The precondition's upper bound as a number. -/
theorem top_count : Ideal.ofBits .f32 0x47800000#32 = ((65536 : ℝ) : EReal) := by
  simp [Ideal.ofBits, Ideal.ieee, -EReal.coe_mul]
  norm_num

/-- Of counts in range: their words are those of naturals in range. -/
theorem words_of_pre (x0 : FVec Ideal S557056x128 .f32) (x1 : FVec Ideal S1x128 .f32) (x2 x3 : FVec Ideal S8x1024x3584 .f32) (x4 : FVec Ideal S8x3584x1024 .f32)
    (h : Cert.Pre_rows_counted.fn (F := Ideal) x0 x1 x2 x3 x4 = fun _ => 1#1) :
    ∃ n : ℕ → ℕ, (∀ e : Fin 8, counted x1 (ix1 e) = BitVec.ofNat 32 (n e.val)) ∧ ∀ e, n e ≤ 65536 := by
  have hw : ∀ e : Fin 8, ∃ n : ℕ, n ≤ 65536 ∧ counted x1 (ix1 e) = BitVec.ofNat 32 n := fun e => by
    have g := congrFun h (ix1 e)
    have k0 : constant (F := Ideal) S_ FTy.f32 0x00000000#32 Idealize.ShloMosaic.ix0 = (0 : EReal) := by pointwise []
    have k1 : constant (F := Ideal) S_ FTy.f32 0x47800000#32 Idealize.ShloMosaic.ix0 = ((65536 : ℝ) : EReal) := by
      show Ideal.ofBits .f32 0x47800000#32 = _
      exact top_count
    have g' : IntOp.andi (Ideal.cmp .oge ((shapeCast S8 (extractStridedSlice S1x8 ![0, 0] x1 slices_S1x128_S1x8_0_0) shapeCasts_S1x8_S8 : FVec Ideal S8 .f32) (ix1 e)) (constant (F := Ideal) S_ FTy.f32 0x00000000#32 Idealize.ShloMosaic.ix0))
        (Ideal.cmp .ole ((shapeCast S8 (extractStridedSlice S1x8 ![0, 0] x1 slices_S1x128_S1x8_0_0) shapeCasts_S1x8_S8 : FVec Ideal S8 .f32) (ix1 e)) (constant (F := Ideal) S_ FTy.f32 0x47800000#32 Idealize.ShloMosaic.ix0)) = 1#1 := g
    rw [k0, k1] at g'
    exact count_word _ g'
  choose f hf using hw
  refine ⟨fun e => if he : e < 8 then f ⟨e, he⟩ else 0, fun e => ?_, fun e => ?_⟩
  · rw [(hf e).2]
    congr 1
    show _ = if he : e.val < 8 then f ⟨e.val, he⟩ else 0
    rw [dif_pos e.isLt]
  · by_cases he : e < 8
    · simp only [he, dif_pos]; exact (hf ⟨e, he⟩).1
    · simp only [he, dif_neg, not_false_eq_true]; omega

end Cert.Kernel2Ideal.Ffn

end
-- ==== Proof.XSame.lean ====
/- The experts' kernel as printed, and as idealized: the same program at bit patterns. -/
module

public import proofs.«01_k».proof.Defs
public import proofs.«01_k».proof.Proof.Gen.Kernel2
public import proofs.«01_k».proof.Proof.Gen.Kernel2Ideal

@[expose] public section
set_option maxRecDepth 65536
noncomputable section
namespace Cert.Proof
open Idealize.ShloMosaic Idealize.SL.Sem
/-- The call's pipeline is the same in the two printed modules. -/
theorem pcfgs2_same : Cert.Kernel2.pcfgs (F := Bits) = Cert.Kernel2Ideal.pcfgs (F := Bits) := rfl
set_option maxHeartbeats 4000000 in
/-- The host program is the same in the two printed modules. -/
theorem main2_same : HEq (Cert.Kernel2.main (F := Bits)) (Cert.Kernel2Ideal.main (F := Bits)) := by
  have h := pcfgs2_same
  unfold Cert.Kernel2.main Cert.Kernel2Ideal.main
  unfold Cert.Kernel2Ideal.fn_where_3.body
  unfold Cert.Kernel2.fn_where_3.body
  unfold Cert.Kernel2Ideal.fn_floor_divide_1.body
  unfold Cert.Kernel2.fn_floor_divide_1.body
  unfold Cert.Kernel2Ideal.fn_where_2.body
  unfold Cert.Kernel2.fn_where_2.body
  unfold Cert.Kernel2Ideal.fn_cumsum.body
  unfold Cert.Kernel2.fn_cumsum.body
  unfold Cert.Kernel2Ideal.fn_cumsum_0.body
  unfold Cert.Kernel2.fn_cumsum_0.body
  unfold Cert.Kernel2Ideal.fn_floor_divide.body
  unfold Cert.Kernel2.fn_floor_divide.body
  unfold Cert.Kernel2Ideal.fn_where.body
  unfold Cert.Kernel2.fn_where.body
  generalize Cert.Kernel2Ideal.pcfgs (F := Bits) = P at h ⊢
  subst h
  refine heq_of_eq ?_
  funext c
  rfl
open Cert.Kernel2 in
/-- What is shown of a program is shown of an equal one, its type included. -/
theorem transport {P Q : Fin 1 → Pipeline.PCfg sig Λ₀ (Elt Bits)} (h : P = Q) {d e : Defs nD τ sig (Elt Bits) Λ₀} (hde : d = e)
    {M : Dev nD → Prog (TpuEff nD τ sig (Elt Bits) (Pipeline.Sig Λ₀ (Fin 1) fun p => (P p).Adm) .tc) PUnit}
    {M' : Dev nD → Prog (TpuEff nD τ sig (Elt Bits) (Pipeline.Sig Λ₀ (Fin 1) fun p => (Q p).Adm) .tc) PUnit} (hM : HEq M M')
    (s : MemSt nD τ sig (Elt Bits)) (post : PUnit × MemSt nD τ sig (Elt Bits) → Prop)
    (H : θ_run (Pipeline.defs Q e) (onTc (τ := τ) M') s post) : θ_run (Pipeline.defs P d) (onTc (τ := τ) M) s post := by
  subst h
  subst hde
  obtain rfl := eq_of_heq hM
  exact H

theorem run2_same (m : (ℓ : Loc Cert.Kernel2.nD Cert.Kernel2.τ Cert.Kernel2.sig) → Buf (Elt Bits) ℓ) (ρ : Dev Cert.Kernel2.nD → PrngReg)
    (hd : Cert.Kernel2.defs₀ (F := Bits) = Cert.Kernel2Ideal.defs₀ (F := Bits)) (post)
    (H : θ_run (Cert.Kernel2Ideal.defs (F := Bits)) (onTc (τ := Cert.Kernel2Ideal.τ) (Cert.Kernel2Ideal.main (F := Bits))) ⟨m, fun _ => 0, ρ⟩ post) :
    θ_run (Cert.Kernel2.defs (F := Bits)) (onTc (τ := Cert.Kernel2.τ) (Cert.Kernel2.main (F := Bits))) ⟨m, fun _ => 0, ρ⟩ post :=
  transport pcfgs2_same hd main2_same _ _ H

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Body
public import proofs.«01_k».proof.Proof.RefRun
public import proofs.«01_k».proof.Proof.RefVal
public import proofs.«01_k».proof.Proof.KerRun
public import proofs.«01_k».proof.Proof.Gen.Pre_rows_counted
public import proofs.«01_k».proof.Proof.XKer
public import proofs.«01_k».proof.Proof.XRef
public import proofs.«01_k».proof.Proof.XPre
public import proofs.«01_k».proof.Proof.XSame
public import Idealize.ShloMosaic.Adequacy
public import Idealize.ShloMosaic.Init

@[expose] public section

noncomputable section

namespace Cert.Proof

open Idealize.ShloMosaic Idealize.SL.Sem Cert.Kernel

set_option maxRecDepth 65536

/-- The kernel's body is the same function in the two printed modules. -/
theorem body_same : @Cert.Kernel.cc0_proj_rglru Bits _ _ = @Cert.KernelIdeal.cc0_proj_rglru Bits _ _ := by rfl

set_option maxHeartbeats 1000000 in
theorem bodies_same : Cert.Kernel.defs₀ (F := Bits) = Cert.KernelIdeal.defs₀ (F := Bits) := by
  unfold Cert.Kernel.defs₀ Cert.KernelIdeal.defs₀
  congr 1
  funext l a
  match l, a with
  | 0, (t, s) =>
    dsimp only
    rw [body_same]
    with_reducible_and_instances congr 1

theorem defs_same : Cert.Kernel.defs (F := Bits) = Cert.KernelIdeal.defs (F := Bits) := by
  unfold Cert.Kernel.defs Cert.KernelIdeal.defs
  exact congrArg (Pipeline.defs _) bodies_same

theorem frame_kernel : Cert.quiescent_Kernel := by
  intro m ρ _
  rw [defs_same]
  exact Cert.KernelIdeal.Proj.framed (F := Bits) m ρ

theorem frame_ideal : Cert.quiescent_KernelIdeal := fun m ρ _ => Cert.KernelIdeal.Proj.framed (F := Ideal) m ρ

/-- The reference declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Scan.values (F := Ideal) m ρ)

open Cert.KernelIdeal.Proj (resQ resY) in
/-- Kernel and reference end at the same two arrays: the plain formulas of the arguments. -/
theorem values_agree : Cert.algebraic_KernelIdeal_ReferenceIdeal := by
  intro m ρ m' ρ' _ ha
  refine ⟨fun c => resQ m c, fun c => resY m c, ?_, ?_⟩
  · refine (θ_run Cert.KernelIdeal.defs _ _).mono (fun r h c => ⟨(h.1 c).1, (h.1 c).2, h.2.1 c⟩)
      (θ_run_and (Cert.KernelIdeal.Proj.run_values m ρ) (Cert.KernelIdeal.Proj.framed (F := Ideal) m ρ))
  · refine (θ_run Cert.ReferenceIdeal.defs _ _).mono (fun r h c => ?_) (Cert.ReferenceIdeal.Scan.values (F := Ideal) m' ρ')
    obtain ⟨hq, hy, h⟩ := h c
    obtain ⟨h0, h1, h2, h3, h4, h5, h6, h7, h8, h9⟩ := ha c
    refine ⟨?_, ?_, h⟩
    · rw [hq, h0, h1]
      funext i
      refine (congrArg _ (Cert.KernelIdeal.Proj.idx3_eq i)).trans ?_
      exact Cert.ReferenceIdeal.Scan.result_qkv_eq _ _ _ (i 0) (i 1) (i 2)
    · have hs := Cert.ReferenceIdeal.Scan.states_eq _ _ _ _ _ _ _ _ _ m' c 4096 le_rfl h0 h1 h2 h3 h4 h5 h6 h7 h8
      rw [hy, h0, h1, h9]
      funext i
      refine (congrArg _ (Cert.KernelIdeal.Proj.idx3_eq i)).trans ?_
      exact Cert.ReferenceIdeal.Scan.result_y_eq _ _ _ _ _ _ _ _ _ _ _ (fun t b e => hs.2.2.2 t b e t.isLt) (i 0) (i 1) (i 2)

/-! ## The experts' layer -/

theorem body2_same : @Cert.Kernel2.cc0_ffn_experts Bits _ _ = @Cert.Kernel2Ideal.cc0_ffn_experts Bits _ _ := by rfl

set_option maxHeartbeats 1000000 in
theorem bodies2_same : Cert.Kernel2.defs₀ (F := Bits) = Cert.Kernel2Ideal.defs₀ (F := Bits) := by
  unfold Cert.Kernel2.defs₀ Cert.Kernel2Ideal.defs₀
  congr 1
  funext l a
  match l, a with
  | 0, (t, s) =>
    dsimp only
    rw [body2_same]
    with_reducible_and_instances congr 1

theorem frame2_kernel : Cert.quiescent_Kernel2 := by
  intro m ρ _
  exact run2_same m ρ bodies2_same _ (Cert.Kernel2Ideal.Ffn.framed (F := Bits) m ρ)

theorem frame2_ideal : Cert.quiescent_Kernel2Ideal := fun m ρ _ =>
  Cert.Kernel2Ideal.Ffn.framed (F := Ideal) m ρ

theorem frame2_ideal_counted : Cert.quiescent_Kernel2Ideal_pre_rows_counted := fun m ρ _ =>
  Cert.Kernel2Ideal.Ffn.framed (F := Ideal) m ρ

/-- The reference declares no semaphore. -/
theorem frame2_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame2_reference_counted : Cert.quiescent_Reference2Ideal_pre_rows_counted := fun m ρ _ => frame2_reference m ρ trivial

/-- Kernel and reference end at the same array: every used tile's rows through the tile's expert, zeros elsewhere. -/
theorem values2_agree : Cert.algebraic_Kernel2Ideal_Reference2Ideal_pre_rows_counted := by
  intro m ρ m' ρ' hp ha
  refine ⟨fun c => Cert.Kernel2Ideal.Ffn.res m c, ?_, ?_⟩
  · exact (θ_run Cert.Kernel2Ideal.defs _ _).mono (fun r h c => ⟨h.1 c, h.2.1 c⟩)
      (θ_run_and (Cert.Kernel2Ideal.Ffn.run_values m ρ) (Cert.Kernel2Ideal.Ffn.framed (F := Ideal) m ρ))
  · refine (θ_run Cert.Reference2Ideal.defs _ _).mono (fun r h c => ?_) (Cert.Reference2Ideal.Value.run (F := Ideal) m' ρ')
    obtain ⟨hv, h⟩ := h c
    obtain ⟨h0, h1, h2, h3, h4⟩ := ha c
    obtain ⟨n, hk, hn⟩ := Cert.Kernel2Ideal.Ffn.words_of_pre _ _ _ _ _ (hp c)
    refine ⟨hv.trans ?_, h⟩
    refine (Cert.Reference2Ideal.Experts.flat_eq (StableHlo.launchContents m' c) n (fun e => ?_) hn).trans ?_
    · show Cert.Kernel2Ideal.Ffn.counted (F := Ideal) (m' ((c.tc : Thread Cert.Reference2Ideal.nD Cert.Reference2Ideal.τ).loc Cert.Reference2Ideal.main_arg1)) (ix1 e) = _
      rw [h1]
      exact hk e
    · show Cert.Experts.flat (m' ((c.tc : Thread Cert.Reference2Ideal.nD Cert.Reference2Ideal.τ).loc Cert.Reference2Ideal.main_arg0))
        (Cert.Kernel2Ideal.Ffn.expertW (Cert.Kernel2Ideal.Ffn.counted (F := Ideal) (m' ((c.tc : Thread Cert.Reference2Ideal.nD Cert.Reference2Ideal.τ).loc Cert.Reference2Ideal.main_arg1))))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (Cert.Kernel2Ideal.Ffn.usedW (Cert.Kernel2Ideal.Ffn.counted (F := Ideal) (m' ((c.tc : Thread Cert.Reference2Ideal.nD Cert.Reference2Ideal.τ).loc Cert.Reference2Ideal.main_arg1))) (ix1 0)) = _
      rw [h0, h1, h2, h3, h4]
      unfold Cert.Kernel2Ideal.Ffn.res
      dsimp only
      rw [Cert.Kernel2Ideal.Ffn.aT_eq, Cert.Kernel2Ideal.Ffn.aN_eq]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_rows_counted.Gen.facts,
  frame_kernel, frame_ideal, frame_reference, frame2_kernel, frame2_ideal, frame2_ideal_counted, frame2_reference, frame2_reference_counted,
  trivial, values_agree, trivial, values2_agree⟩

end Cert.Proof

end
